-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v37)) (v2 : (c : Dev Cert.KernelIdeal.nD) → Buf (Elt Ideal) ((c.tc : Thread Cert.KernelIdeal.nD Cert.KernelIdeal.τ).loc Cert.KernelIdeal.main_v38)) (v3 : (c : Dev Cert.KernelIdeal.nD) → Buf (Elt Ideal) ((c.tc : Thread Cert.KernelIdeal.nD Cert.KernelIdeal.τ).loc Cert.KernelIdeal.main_v39)) (v4 : (c : Dev Cert.KernelIdeal.nD) → Buf (Elt Ideal) ((c.tc : Thread Cert.KernelIdeal.nD Cert.KernelIdeal.τ).loc Cert.KernelIdeal.main_v40)) (v5 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_v39) = v3 c
          ∧ r.2.mem ((c.tc : Thread Cert.KernelIdeal.nD Cert.KernelIdeal.τ).loc Cert.KernelIdeal.main_v40) = v4 c
          ∧ r.2.mem ((c.tc : Thread Cert.KernelIdeal.nD Cert.KernelIdeal.τ).loc Cert.KernelIdeal.main_v41) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_v44) = v4 c
          ∧ r.2.mem ((c.tc : Thread Cert.ReferenceIdeal.nD Cert.ReferenceIdeal.τ).loc Cert.ReferenceIdeal.main_v46) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v14)) (v1 : (c : Dev Cert.Kernel2Ideal.nD) → Buf (Elt Ideal) ((c.tc : Thread Cert.Kernel2Ideal.nD Cert.Kernel2Ideal.τ).loc Cert.Kernel2Ideal.main_v16)) (v2 : (c : Dev Cert.Kernel2Ideal.nD) → Buf (Elt Ideal) ((c.tc : Thread Cert.Kernel2Ideal.nD Cert.Kernel2Ideal.τ).loc Cert.Kernel2Ideal.main_v18)) (v3 : (c : Dev Cert.Kernel2Ideal.nD) → Buf (Elt Ideal) ((c.tc : Thread Cert.Kernel2Ideal.nD Cert.Kernel2Ideal.τ).loc Cert.Kernel2Ideal.main_v19)) (v4 : (c : Dev Cert.Kernel2Ideal.nD) → Buf (Elt Ideal) ((c.tc : Thread Cert.Kernel2Ideal.nD Cert.Kernel2Ideal.τ).loc Cert.Kernel2Ideal.main_v10_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_v16) = v1 c
          ∧ r.2.mem ((c.tc : Thread Cert.Kernel2Ideal.nD Cert.Kernel2Ideal.τ).loc Cert.Kernel2Ideal.main_v18) = v2 c
          ∧ r.2.mem ((c.tc : Thread Cert.Kernel2Ideal.nD Cert.Kernel2Ideal.τ).loc Cert.Kernel2Ideal.main_v19) = v3 c
          ∧ r.2.mem ((c.tc : Thread Cert.Kernel2Ideal.nD Cert.Kernel2Ideal.τ).loc Cert.Kernel2Ideal.main_v10_1) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_v9) = v1 c
          ∧ r.2.mem ((c.tc : Thread Cert.Reference2Ideal.nD Cert.Reference2Ideal.τ).loc Cert.Reference2Ideal.main_v10) = v2 c
          ∧ r.2.mem ((c.tc : Thread Cert.Reference2Ideal.nD Cert.Reference2Ideal.τ).loc Cert.Reference2Ideal.main_v11) = v3 c
          ∧ r.2.mem ((c.tc : Thread Cert.Reference2Ideal.nD Cert.Reference2Ideal.τ).loc Cert.Reference2Ideal.main_v12) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.bf16_pair.BufferStatement Cert.Kernel4Ideal.S2x8192x2x2048 Cert.Kernel4Ideal.S2x8192x1x2048
  ∧ IdealRules.bf16_pair.BufferStatement Cert.Kernel4Ideal.S1x512x2x2048 Cert.Kernel4Ideal.S1x512x1x2048
  ∧ IdealRules.bf16_pair.PackStatement Cert.Kernel4Ideal.S128x2048
  ∧ IdealRules.bf16_pair.Statement Cert.Kernel4Ideal.S1x128x2x2048 Cert.Kernel4Ideal.S1x128x1x2048

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v20_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v49) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S2x8192x2048 : Shape := ⟨3, ![2, 8192, 2048]⟩
abbrev S2x16x8192 : Shape := ⟨3, ![2, 16, 8192]⟩
abbrev S1x2048x2048 : Shape := ⟨3, ![1, 2048, 2048]⟩
abbrev S1x4096x4096 : Shape := ⟨3, ![1, 4096, 4096]⟩
abbrev S1x64x4096x512 : Shape := ⟨4, ![1, 64, 4096, 512]⟩
abbrev S1x64x512x4096 : Shape := ⟨4, ![1, 64, 512, 4096]⟩
abbrev S_ : Shape := ⟨0, ![]⟩

class Facts : Prop where
  bcast_S_S2x8192x2048 : S_.BroadcastsInDim S2x8192x2048 (![] : Fin 0 → Fin S2x8192x2048.rank)
  reducesTo_S2x8192x2048_S_d0_1_2 : S2x8192x2048.ReducesTo [0, 1, 2] S_
  h_S_ : 0 < S_.numel
  bcast_S_S2x16x8192 : S_.BroadcastsInDim S2x16x8192 (![] : Fin 0 → Fin S2x16x8192.rank)
  reducesTo_S2x16x8192_S_d0_1_2 : S2x16x8192.ReducesTo [0, 1, 2] S_

variable [Facts]

def fn {F : FTy → Type} [FloatOps F] (main_arg0 : FVec F S2x8192x2048 .f32) (main_arg1 : FVec F S2x8192x2048 .f32) (main_arg2 : FVec F S2x8192x2048 .f32) (main_arg3 : FVec F S2x16x8192 .f32) (main_arg4 : FVec F S1x2048x2048 .f32) (main_arg5 : FVec F S1x4096x4096 .f32) (main_arg6 : FVec F S1x64x4096x512 .f32) (main_arg7 : FVec F S1x64x4096x512 .f32) (main_arg8 : FVec F S1x64x512x4096 .f32) : IVec S_ 1 :=
  let main_v0 : FVec F S2x8192x2048 .f32 := Host.absf main_arg0
  let main_cst : FVec F S_ .f32 := constant S_ .f32 0x7F800000#32
  let main_v1 : FVec F S2x8192x2048 .f32 := broadcastInDim S2x8192x2048 ![] bcast_S_S2x8192x2048 main_cst
  let main_v2 : IVec S2x8192x2048 1 := cmpf .olt main_v0 main_v1
  let main_c : IVec S_ 1 := constantI S_ 1 1#1
  let main_v3 : IVec S_ 1 := (fun x v => Host.reduce IntOp.andi x v reducesTo_S2x8192x2048_S_d0_1_2 h_S_) main_v2 main_c
  let main_v4 : FVec F S2x8192x2048 .f32 := Host.absf main_arg1
  let main_cst_0 : FVec F S_ .f32 := constant S_ .f32 0x7F800000#32
  let main_v5 : FVec F S2x8192x2048 .f32 := broadcastInDim S2x8192x2048 ![] bcast_S_S2x8192x2048 main_cst_0
  let main_v6 : IVec S2x8192x2048 1 := cmpf .olt main_v4 main_v5
  let main_c_1 : IVec S_ 1 := constantI S_ 1 1#1
  let main_v7 : IVec S_ 1 := (fun x v => Host.reduce IntOp.andi x v reducesTo_S2x8192x2048_S_d0_1_2 h_S_) main_v6 main_c_1
  let main_v8 : IVec S_ 1 := andi main_v3 main_v7
  let main_v9 : FVec F S2x16x8192 .f32 := Host.absf main_arg3
  let main_cst_2 : FVec F S_ .f32 := constant S_ .f32 0x7F800000#32
  let main_v10 : FVec F S2x16x8192 .f32 := broadcastInDim S2x16x8192 ![] bcast_S_S2x16x8192 main_cst_2
  let main_v11 : IVec S2x16x8192 1 := cmpf .olt main_v9 main_v10
  let main_c_3 : IVec S_ 1 := constantI S_ 1 1#1
  let main_v12 : IVec S_ 1 := (fun x v => Host.reduce IntOp.andi x v reducesTo_S2x16x8192_S_d0_1_2 h_S_) main_v11 main_c_3
  let main_v13 : IVec S_ 1 := andi main_v8 main_v12
  main_v13
-- ==== Kernel.lean ====
abbrev S2x8192x2048 : Shape := ⟨3, ![2, 8192, 2048]⟩
abbrev S2x16x8192 : Shape := ⟨3, ![2, 16, 8192]⟩
abbrev S1x2048x2048 : Shape := ⟨3, ![1, 2048, 2048]⟩
abbrev S1x4096x4096 : Shape := ⟨3, ![1, 4096, 4096]⟩
abbrev S1x64x4096x512 : Shape := ⟨4, ![1, 64, 4096, 512]⟩
abbrev S1x64x512x4096 : Shape := ⟨4, ![1, 64, 512, 4096]⟩
abbrev S_ : Shape := ⟨0, ![]⟩
abbrev S2x8192x6144 : Shape := ⟨3, ![2, 8192, 6144]⟩
abbrev S2x16x8192x1 : Shape := ⟨4, ![2, 16, 8192, 1]⟩
abbrev S2x16x8192x3 : Shape := ⟨4, ![2, 16, 8192, 3]⟩
abbrev S2x16x8192x122 : Shape := ⟨4, ![2, 16, 8192, 122]⟩
abbrev S2x16x8192x128 : Shape := ⟨4, ![2, 16, 8192, 128]⟩
abbrev S2048x2048 : Shape := ⟨2, ![2048, 2048]⟩
abbrev S4096x4096 : Shape := ⟨2, ![4096, 4096]⟩
abbrev S64x4096x512 : Shape := ⟨3, ![64, 4096, 512]⟩
abbrev S64x512x4096 : Shape := ⟨3, ![64, 512, 4096]⟩
abbrev S128x16x2048 : Shape := ⟨3, ![128, 16, 2048]⟩
abbrev S256x16x4096 : Shape := ⟨3, ![256, 16, 4096]⟩
abbrev S256x1024x512 : Shape := ⟨3, ![256, 1024, 512]⟩
abbrev S256x128x4096 : Shape := ⟨3, ![256, 128, 4096]⟩
abbrev S1x1024x128 : Shape := ⟨3, ![1, 1024, 128]⟩
abbrev S1x1x1024x128 : Shape := ⟨4, ![1, 1, 1024, 128]⟩
abbrev S1x8192x128 : Shape := ⟨3, ![1, 8192, 128]⟩
abbrev S1x1x8192x128 : Shape := ⟨4, ![1, 1, 8192, 128]⟩
abbrev S1x16x2048 : Shape := ⟨3, ![1, 16, 2048]⟩
abbrev S1x16x4096 : Shape := ⟨3, ![1, 16, 4096]⟩
abbrev S1x1024x512 : Shape := ⟨3, ![1, 1024, 512]⟩
abbrev S1x128x4096 : Shape := ⟨3, ![1, 128, 4096]⟩
abbrev S1024x1 : Shape := ⟨2, ![1024, 1]⟩
abbrev S1024x256 : Shape := ⟨2, ![1024, 256]⟩
abbrev S2x1024x512 : Shape := ⟨3, ![2, 1024, 512]⟩
abbrev S1024x128 : Shape := ⟨2, ![1024, 128]⟩
abbrev S512x128 : Shape := ⟨2, ![512, 128]⟩
abbrev S1x512x128 : Shape := ⟨3, ![1, 512, 128]⟩
abbrev S1x1x512x128 : Shape := ⟨4, ![1, 1, 512, 128]⟩
abbrev S512x256 : Shape := ⟨2, ![512, 256]⟩
abbrev S1024x512 : Shape := ⟨2, ![1024, 512]⟩
abbrev S1x512x512 : Shape := ⟨3, ![1, 512, 512]⟩
abbrev S512x512 : Shape := ⟨2, ![512, 512]⟩
abbrev S512x1 : Shape := ⟨2, ![512, 1]⟩
abbrev S512 : Shape := ⟨1, ![512]⟩

abbrev nBuf : Space → Nat
  | .hbm => 61
  | .vmem => 35
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S2x8192x2048, .f32⟩
  | .hbm, ⟨3, _⟩ => ⟨S2x16x8192, .f32⟩
  | .hbm, ⟨4, _⟩ => ⟨S1x2048x2048, .f32⟩
  | .hbm, ⟨5, _⟩ => ⟨S1x4096x4096, .f32⟩
  | .hbm, ⟨6, _⟩ => ⟨S1x64x4096x512, .f32⟩
  | .hbm, ⟨7, _⟩ => ⟨S1x64x4096x512, .f32⟩
  | .hbm, ⟨8, _⟩ => ⟨S1x64x512x4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2x8192x2048, .f32⟩
  | .hbm, ⟨17, _⟩ => ⟨S2x8192x2048, .f32⟩
  | .hbm, ⟨18, _⟩ => ⟨S2x8192x6144, .f32⟩
  | .hbm, ⟨19, _⟩ => ⟨S2x8192x6144, .bf16⟩
  | .hbm, ⟨20, _⟩ => ⟨S2x16x8192, .f32⟩
  | .hbm, ⟨21, _⟩ => ⟨S2x16x8192, .f32⟩
  | .hbm, ⟨22, _⟩ => ⟨S2x16x8192, .bf16⟩
  | .hbm, ⟨23, _⟩ => ⟨S2x16x8192, .f32⟩
  | .hbm, ⟨24, _⟩ => ⟨S2x16x8192, .f32⟩
  | .hbm, ⟨25, _⟩ => ⟨S2x16x8192, .bf16⟩
  | .hbm, ⟨26, _⟩ => ⟨S2x16x8192, .f32⟩
  | .hbm, ⟨27, _⟩ => ⟨S2x16x8192, .f32⟩
  | .hbm, ⟨28, _⟩ => ⟨S2x16x8192, .bf16⟩
  | .hbm, ⟨29, _⟩ => ⟨S2x16x8192x1, .bf16⟩
  | .hbm, ⟨30, _⟩ => ⟨S2x16x8192x1, .bf16⟩
  | .hbm, ⟨31, _⟩ => ⟨S2x16x8192x1, .bf16⟩
  | .hbm, ⟨32, _⟩ => ⟨S2x16x8192x3, .bf16⟩
  | .hbm, ⟨33, _⟩ => ⟨S_, .bf16⟩
  | .hbm, ⟨34, _⟩ => ⟨S2x16x8192x3, .bf16⟩
  | .hbm, ⟨35, _⟩ => ⟨S_, .bf16⟩
  | .hbm, ⟨36, _⟩ => ⟨S2x16x8192x122, .bf16⟩
  | .hbm, ⟨37, _⟩ => ⟨S2x16x8192x128, .bf16⟩
  | .hbm, ⟨38, _⟩ => ⟨S2x16x8192x3, .bf16⟩
  | .hbm, ⟨39, _⟩ => ⟨S2x16x8192x128, .bf16⟩
  | .hbm, ⟨40, _⟩ => ⟨S2048x2048, .f32⟩
  | .hbm, ⟨41, _⟩ => ⟨S4096x4096, .f32⟩
  | .hbm, ⟨42, _⟩ => ⟨S64x4096x512, .f32⟩
  | .hbm, ⟨43, _⟩ => ⟨S64x4096x512, .f32⟩
  | .hbm, ⟨44, _⟩ => ⟨S64x512x4096, .f32⟩
  | .hbm, ⟨45, _⟩ => ⟨S128x16x2048, .f32⟩
  | .hbm, ⟨46, _⟩ => ⟨S256x16x4096, .f32⟩
  | .hbm, ⟨47, _⟩ => ⟨S256x1024x512, .f32⟩
  | .hbm, ⟨48, _⟩ => ⟨S256x1024x512, .f32⟩
  | .hbm, ⟨49, _⟩ => ⟨S256x128x4096, .f32⟩
  | .hbm, ⟨50, _⟩ => ⟨S2x8192x2048, .f32⟩
  | .hbm, ⟨51, _⟩ => ⟨S128x16x2048, .bf16⟩
  | .hbm, ⟨52, _⟩ => ⟨S256x16x4096, .bf16⟩
  | .hbm, ⟨53, _⟩ => ⟨S256x1024x512, .bf16⟩
  | .hbm, ⟨54, _⟩ => ⟨S256x1024x512, .bf16⟩
  | .hbm, ⟨55, _⟩ => ⟨S256x128x4096, .bf16⟩
  | .hbm, ⟨56, _⟩ => ⟨S2048x2048, .bf16⟩
  | .hbm, ⟨57, _⟩ => ⟨S4096x4096, .bf16⟩
  | .hbm, ⟨58, _⟩ => ⟨S64x4096x512, .bf16⟩
  | .hbm, ⟨59, _⟩ => ⟨S64x4096x512, .bf16⟩
  | .hbm, ⟨60, _⟩ => ⟨S64x512x4096, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x1x1024x128, .bf16⟩
  | .local _ .vmem, ⟨3, _⟩ => ⟨S1x1x1024x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1x8192x128, .bf16⟩
  | .local _ .vmem, ⟨7, _⟩ => ⟨S1x1x8192x128, .bf16⟩
  | .local _ .vmem, ⟨8, _⟩ => ⟨S1x8192x128, .bf16⟩
  | .local _ .vmem, ⟨9, _⟩ => ⟨S1x8192x128, .bf16⟩
  | .local _ .vmem, ⟨10, _⟩ => ⟨S1x16x2048, .f32⟩
  | .local _ .vmem, ⟨11, _⟩ => ⟨S1x16x2048, .f32⟩
  | .local _ .vmem, ⟨12, _⟩ => ⟨S1x16x4096, .f32⟩
  | .local _ .vmem, ⟨13, _⟩ => ⟨S1x16x4096, .f32⟩
  | .local _ .vmem, ⟨14, _⟩ => ⟨S1x1024x512, .f32⟩
  | .local _ .vmem, ⟨15, _⟩ => ⟨S1x1024x512, .f32⟩
  | .local _ .vmem, ⟨16, _⟩ => ⟨S1x1024x512, .f32⟩
  | .local _ .vmem, ⟨17, _⟩ => ⟨S1x1024x512, .f32⟩
  | .local _ .vmem, ⟨18, _⟩ => ⟨S1x128x4096, .f32⟩
  | .local _ .vmem, ⟨19, _⟩ => ⟨S1x128x4096, .f32⟩
  | .local _ .vmem, ⟨20, _⟩ => ⟨S1x1024x128, .f32⟩
  | .local _ .vmem, ⟨21, _⟩ => ⟨S1x1024x128, .f32⟩
  | .local _ .vmem, ⟨22, _⟩ => ⟨S1x16x2048, .bf16⟩
  | .local _ .vmem, ⟨23, _⟩ => ⟨S1x16x2048, .bf16⟩
  | .local _ .vmem, ⟨24, _⟩ => ⟨S1x16x4096, .bf16⟩
  | .local _ .vmem, ⟨25, _⟩ => ⟨S1x16x4096, .bf16⟩
  | .local _ .vmem, ⟨26, _⟩ => ⟨S1x1024x512, .bf16⟩
  | .local _ .vmem, ⟨27, _⟩ => ⟨S1x1024x512, .bf16⟩
  | .local _ .vmem, ⟨28, _⟩ => ⟨S1x1024x512, .bf16⟩
  | .local _ .vmem, ⟨29, _⟩ => ⟨S1x1024x512, .bf16⟩
  | .local _ .vmem, ⟨30, _⟩ => ⟨S1x128x4096, .bf16⟩
  | .local _ .vmem, ⟨31, _⟩ => ⟨S1x128x4096, .bf16⟩
  | .local _ .vmem, ⟨32, _⟩ => ⟨S1024x1, .f32⟩
  | .local _ .vmem, ⟨33, _⟩ => ⟨S1024x256, .f32⟩
  | .local _ .vmem, ⟨34, _⟩ => ⟨S2x1024x512, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36_0 : Ref sig .tc := ⟨.hbm, 50, rfl⟩
abbrev main_v36_1 : Ref sig .tc := ⟨.hbm, 51, rfl⟩
abbrev main_v36_2 : Ref sig .tc := ⟨.hbm, 52, rfl⟩
abbrev main_v36_3 : Ref sig .tc := ⟨.hbm, 53, rfl⟩
abbrev main_v36_4 : Ref sig .tc := ⟨.hbm, 54, rfl⟩
abbrev main_v36_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨3, ![2, 16, 8], ![false, false, false]⟩

def k0_mult1 : BitVec 32 :=
  let c0_i32 : BitVec 32 := 0#32
  c0_i32
@[reducible] def k0_t1_loop (i : grid0.Coords) : Scf.Loop 32 :=
  let c0_i32_52 : BitVec 32 := 0#32
  let arg2 : BitVec 32 := BitVec.ofNat 32 (i 2).val
  let v46 : BitVec 32 := Scalar.subi arg2 c0_i32_52
  let c1_i32 : BitVec 32 := 1#32
  let v48 : BitVec 32 := Scalar.divsi v46 c1_i32
  let v49 : BitVec 32 := Scalar.muli v48 c1_i32
  let v50 : BitVec 32 := Scalar.addi c0_i32_52 v49
  let c1_i32_53 : BitVec 32 := 1#32
  ⟨c0_i32_52, v50, c1_i32_53⟩
def k0_mult2 (i : grid0.Coords) (k0_t1 : Fin (k0_t1_loop i).trips) : BitVec 32 :=
  let c2_i32_119 : BitVec 32 := 2#32
  let c0_i32_52 : BitVec 32 := 0#32
  let c1_i32_53 : BitVec 32 := 1#32
  let arg22 : BitVec 32 := Scf.iv c0_i32_52 c1_i32_53 k0_t1
  let v167 : BitVec 32 := Scalar.muli c2_i32_119 arg22
  let c0_i32_120 : BitVec 32 := 0#32
  let v168 : BitVec 32 := Scalar.addi v167 c0_i32_120
  let c1_i32_121 : BitVec 32 := 1#32
  let v169 : BitVec 32 := Scalar.addi v168 c1_i32_121
  let c512_i32_122 : BitVec 32 := 512#32
  let v170 : BitVec 32 := Scalar.muli v169 c512_i32_122
  v170
def k0_off1 (i : grid0.Coords) (k0_t1 : Fin (k0_t1_loop i).trips) (c0_i32_120 : BitVec 32) : Fin 3 → Nat :=
  let c0_123 : Index := 0#32
  let c2_i32_119 : BitVec 32 := 2#32
  let c0_i32_52 : BitVec 32 := 0#32
  let c1_i32_53 : BitVec 32 := 1#32
  let arg22 : BitVec 32 := Scf.iv c0_i32_52 c1_i32_53 k0_t1
  let v167 : BitVec 32 := Scalar.muli c2_i32_119 arg22
  let v168 : BitVec 32 := Scalar.addi v167 c0_i32_120
  let c1_i32_121 : BitVec 32 := 1#32
  let v169 : BitVec 32 := Scalar.addi v168 c1_i32_121
  let c512_i32_122 : BitVec 32 := 512#32
  let v170 : BitVec 32 := Scalar.muli v169 c512_i32_122
  let v171 : BitVec 32 := v170
  let v172 : Index := Scalar.indexCast v171
  let c0_124 : Index := 0#32
  ![0, v172.toNat, 0]
def k0_off2 (i : grid0.Coords) (k0_t1 : Fin (k0_t1_loop i).trips) (c0_i32_120 : BitVec 32) : Fin 4 → Nat :=
  let c0_125 : Index := 0#32
  let c0_126 : Index := 0#32
  let c2_i32_119 : BitVec 32 := 2#32
  let c0_i32_52 : BitVec 32 := 0#32
  let c1_i32_53 : BitVec 32 := 1#32
  let arg22 : BitVec 32 := Scf.iv c0_i32_52 c1_i32_53 k0_t1
  let v167 : BitVec 32 := Scalar.muli c2_i32_119 arg22
  let v168 : BitVec 32 := Scalar.addi v167 c0_i32_120
  let c1_i32_121 : BitVec 32 := 1#32
  let v169 : BitVec 32 := Scalar.addi v168 c1_i32_121
  let c512_i32_122 : BitVec 32 := 512#32
  let v170 : BitVec 32 := Scalar.muli v169 c512_i32_122
  let v171 : BitVec 32 := v170
  let v175 : Index := Scalar.indexCast v171
  let c0_127 : Index := 0#32
  ![0, 0, v175.toNat, 0]
def k0_mult3 (i : grid0.Coords) (k0_t1 : Fin (k0_t1_loop i).trips) : BitVec 32 :=
  let c2_i32_119 : BitVec 32 := 2#32
  let c0_i32_52 : BitVec 32 := 0#32
  let c1_i32_53 : BitVec 32 := 1#32
  let arg22 : BitVec 32 := Scf.iv c0_i32_52 c1_i32_53 k0_t1
  let v167 : BitVec 32 := Scalar.muli c2_i32_119 arg22
  let c0_i32_132 : BitVec 32 := 0#32
  let v183 : BitVec 32 := Scalar.addi v167 c0_i32_132
  let c512_i32_133 : BitVec 32 := 512#32
  let v184 : BitVec 32 := Scalar.muli v183 c512_i32_133
  v184
def k0_off3 (i : grid0.Coords) (k0_t1 : Fin (k0_t1_loop i).trips) (c0_i32_132 : BitVec 32) : Fin 3 → Nat :=
  let c0_134 : Index := 0#32
  let c2_i32_119 : BitVec 32 := 2#32
  let c0_i32_52 : BitVec 32 := 0#32
  let c1_i32_53 : BitVec 32 := 1#32
  let arg22 : BitVec 32 := Scf.iv c0_i32_52 c1_i32_53 k0_t1
  let v167 : BitVec 32 := Scalar.muli c2_i32_119 arg22
  let v183 : BitVec 32 := Scalar.addi v167 c0_i32_132
  let c512_i32_133 : BitVec 32 := 512#32
  let v184 : BitVec 32 := Scalar.muli v183 c512_i32_133
  let v185 : BitVec 32 := v184
  let v186 : Index := Scalar.indexCast v185
  let c0_135 : Index := 0#32
  ![0, v186.toNat, 0]
def k0_mult4 (i : grid0.Coords) (k0_t1 : Fin (k0_t1_loop i).trips) : BitVec 32 :=
  let c2_i32_119 : BitVec 32 := 2#32
  let c0_i32_52 : BitVec 32 := 0#32
  let c1_i32_53 : BitVec 32 := 1#32
  let arg22 : BitVec 32 := Scf.iv c0_i32_52 c1_i32_53 k0_t1
  let v167 : BitVec 32 := Scalar.muli c2_i32_119 arg22
  let c1_i32_162 : BitVec 32 := 1#32
  let v236 : BitVec 32 := Scalar.addi v167 c1_i32_162
  let c1_i32_163 : BitVec 32 := 1#32
  let v237 : BitVec 32 := Scalar.addi v236 c1_i32_163
  let c512_i32_164 : BitVec 32 := 512#32
  let v238 : BitVec 32 := Scalar.muli v237 c512_i32_164
  v238
def k0_mult5 (i : grid0.Coords) (k0_t1 : Fin (k0_t1_loop i).trips) : BitVec 32 :=
  let c2_i32_119 : BitVec 32 := 2#32
  let c0_i32_52 : BitVec 32 := 0#32
  let c1_i32_53 : BitVec 32 := 1#32
  let arg22 : BitVec 32 := Scf.iv c0_i32_52 c1_i32_53 k0_t1
  let v167 : BitVec 32 := Scalar.muli c2_i32_119 arg22
  let c1_i32_174 : BitVec 32 := 1#32
  let v251 : BitVec 32 := Scalar.addi v167 c1_i32_174
  let c512_i32_175 : BitVec 32 := 512#32
  let v252 : BitVec 32 := Scalar.muli v251 c512_i32_175
  v252
@[reducible] def k0_t2_loop (i : grid0.Coords) : Scf.Loop 32 :=
  let c0_i32_52 : BitVec 32 := 0#32
  let arg2 : BitVec 32 := BitVec.ofNat 32 (i 2).val
  let v46 : BitVec 32 := Scalar.subi arg2 c0_i32_52
  let c1_i32 : BitVec 32 := 1#32
  let v48 : BitVec 32 := Scalar.divsi v46 c1_i32
  let v49 : BitVec 32 := Scalar.muli v48 c1_i32
  let v50 : BitVec 32 := Scalar.addi c0_i32_52 v49
  let v47 : BitVec 32 := Scalar.addi c0_i32_52 v46
  let c1_i32_54 : BitVec 32 := 1#32
  ⟨v50, v47, c1_i32_54⟩
def k0_mult6 (i : grid0.Coords) (k0_t2 : Fin (k0_t2_loop i).trips) : BitVec 32 :=
  let c2_i32_119 : BitVec 32 := 2#32
  let c0_i32_52 : BitVec 32 := 0#32
  let arg2 : BitVec 32 := BitVec.ofNat 32 (i 2).val
  let v46 : BitVec 32 := Scalar.subi arg2 c0_i32_52
  let c1_i32 : BitVec 32 := 1#32
  let v48 : BitVec 32 := Scalar.divsi v46 c1_i32
  let v49 : BitVec 32 := Scalar.muli v48 c1_i32
  let v50 : BitVec 32 := Scalar.addi c0_i32_52 v49
  let c1_i32_54 : BitVec 32 := 1#32
  let arg22 : BitVec 32 := Scf.iv v50 c1_i32_54 k0_t2
  let v167 : BitVec 32 := Scalar.muli c2_i32_119 arg22
  let c0_i32_120 : BitVec 32 := 0#32
  let v168 : BitVec 32 := Scalar.addi v167 c0_i32_120
  let c1_i32_121 : BitVec 32 := 1#32
  let v169 : BitVec 32 := Scalar.addi v168 c1_i32_121
  let c512_i32_122 : BitVec 32 := 512#32
  let v170 : BitVec 32 := Scalar.muli v169 c512_i32_122
  v170
def k0_off4 (i : grid0.Coords) (k0_t2 : Fin (k0_t2_loop i).trips) (c0_i32_120 : BitVec 32) : Fin 3 → Nat :=
  let c0_123 : Index := 0#32
  let c2_i32_119 : BitVec 32 := 2#32
  let c0_i32_52 : BitVec 32 := 0#32
  let arg2 : BitVec 32 := BitVec.ofNat 32 (i 2).val
  let v46 : BitVec 32 := Scalar.subi arg2 c0_i32_52
  let c1_i32 : BitVec 32 := 1#32
  let v48 : BitVec 32 := Scalar.divsi v46 c1_i32
  let v49 : BitVec 32 := Scalar.muli v48 c1_i32
  let v50 : BitVec 32 := Scalar.addi c0_i32_52 v49
  let c1_i32_54 : BitVec 32 := 1#32
  let arg22 : BitVec 32 := Scf.iv v50 c1_i32_54 k0_t2
  let v167 : BitVec 32 := Scalar.muli c2_i32_119 arg22
  let v168 : BitVec 32 := Scalar.addi v167 c0_i32_120
  let c1_i32_121 : BitVec 32 := 1#32
  let v169 : BitVec 32 := Scalar.addi v168 c1_i32_121
  let c512_i32_122 : BitVec 32 := 512#32
  let v170 : BitVec 32 := Scalar.muli v169 c512_i32_122
  let v171 : BitVec 32 := v170
  let v172 : Index := Scalar.indexCast v171
  let c0_124 : Index := 0#32
  ![0, v172.toNat, 0]
def k0_off5 (i : grid0.Coords) (k0_t2 : Fin (k0_t2_loop i).trips) (c0_i32_120 : BitVec 32) : Fin 4 → Nat :=
  let c0_125 : Index := 0#32
  let c0_126 : Index := 0#32
  let c2_i32_119 : BitVec 32 := 2#32
  let c0_i32_52 : BitVec 32 := 0#32
  let arg2 : BitVec 32 := BitVec.ofNat 32 (i 2).val
  let v46 : BitVec 32 := Scalar.subi arg2 c0_i32_52
  let c1_i32 : BitVec 32 := 1#32
  let v48 : BitVec 32 := Scalar.divsi v46 c1_i32
  let v49 : BitVec 32 := Scalar.muli v48 c1_i32
  let v50 : BitVec 32 := Scalar.addi c0_i32_52 v49
  let c1_i32_54 : BitVec 32 := 1#32
  let arg22 : BitVec 32 := Scf.iv v50 c1_i32_54 k0_t2
  let v167 : BitVec 32 := Scalar.muli c2_i32_119 arg22
  let v168 : BitVec 32 := Scalar.addi v167 c0_i32_120
  let c1_i32_121 : BitVec 32 := 1#32
  let v169 : BitVec 32 := Scalar.addi v168 c1_i32_121
  let c512_i32_122 : BitVec 32 := 512#32
  let v170 : BitVec 32 := Scalar.muli v169 c512_i32_122
  let v171 : BitVec 32 := v170
  let v175 : Index := Scalar.indexCast v171
  let c0_127 : Index := 0#32
  ![0, 0, v175.toNat, 0]
def k0_mult7 (i : grid0.Coords) (k0_t2 : Fin (k0_t2_loop i).trips) : BitVec 32 :=
  let c2_i32_119 : BitVec 32 := 2#32
  let c0_i32_52 : BitVec 32 := 0#32
  let arg2 : BitVec 32 := BitVec.ofNat 32 (i 2).val
  let v46 : BitVec 32 := Scalar.subi arg2 c0_i32_52
  let c1_i32 : BitVec 32 := 1#32
  let v48 : BitVec 32 := Scalar.divsi v46 c1_i32
  let v49 : BitVec 32 := Scalar.muli v48 c1_i32
  let v50 : BitVec 32 := Scalar.addi c0_i32_52 v49
  let c1_i32_54 : BitVec 32 := 1#32
  let arg22 : BitVec 32 := Scf.iv v50 c1_i32_54 k0_t2
  let v167 : BitVec 32 := Scalar.muli c2_i32_119 arg22
  let c0_i32_132 : BitVec 32 := 0#32
  let v183 : BitVec 32 := Scalar.addi v167 c0_i32_132
  let c512_i32_133 : BitVec 32 := 512#32
  let v184 : BitVec 32 := Scalar.muli v183 c512_i32_133
  v184
def k0_off6 (i : grid0.Coords) (k0_t2 : Fin (k0_t2_loop i).trips) (c0_i32_132 : BitVec 32) : Fin 3 → Nat :=
  let c0_134 : Index := 0#32
  let c2_i32_119 : BitVec 32 := 2#32
  let c0_i32_52 : BitVec 32 := 0#32
  let arg2 : BitVec 32 := BitVec.ofNat 32 (i 2).val
  let v46 : BitVec 32 := Scalar.subi arg2 c0_i32_52
  let c1_i32 : BitVec 32 := 1#32
  let v48 : BitVec 32 := Scalar.divsi v46 c1_i32
  let v49 : BitVec 32 := Scalar.muli v48 c1_i32
  let v50 : BitVec 32 := Scalar.addi c0_i32_52 v49
  let c1_i32_54 : BitVec 32 := 1#32
  let arg22 : BitVec 32 := Scf.iv v50 c1_i32_54 k0_t2
  let v167 : BitVec 32 := Scalar.muli c2_i32_119 arg22
  let v183 : BitVec 32 := Scalar.addi v167 c0_i32_132
  let c512_i32_133 : BitVec 32 := 512#32
  let v184 : BitVec 32 := Scalar.muli v183 c512_i32_133
  let v185 : BitVec 32 := v184
  let v186 : Index := Scalar.indexCast v185
  let c0_135 : Index := 0#32
  ![0, v186.toNat, 0]
def k0_mult8 (i : grid0.Coords) (k0_t2 : Fin (k0_t2_loop i).trips) : BitVec 32 :=
  let c2_i32_119 : BitVec 32 := 2#32
  let c0_i32_52 : BitVec 32 := 0#32
  let arg2 : BitVec 32 := BitVec.ofNat 32 (i 2).val
  let v46 : BitVec 32 := Scalar.subi arg2 c0_i32_52
  let c1_i32 : BitVec 32 := 1#32
  let v48 : BitVec 32 := Scalar.divsi v46 c1_i32
  let v49 : BitVec 32 := Scalar.muli v48 c1_i32
  let v50 : BitVec 32 := Scalar.addi c0_i32_52 v49
  let c1_i32_54 : BitVec 32 := 1#32
  let arg22 : BitVec 32 := Scf.iv v50 c1_i32_54 k0_t2
  let v167 : BitVec 32 := Scalar.muli c2_i32_119 arg22
  let c1_i32_162 : BitVec 32 := 1#32
  let v236 : BitVec 32 := Scalar.addi v167 c1_i32_162
  let c1_i32_163 : BitVec 32 := 1#32
  let v237 : BitVec 32 := Scalar.addi v236 c1_i32_163
  let c512_i32_164 : BitVec 32 := 512#32
  let v238 : BitVec 32 := Scalar.muli v237 c512_i32_164
  v238
def k0_mult9 (i : grid0.Coords) (k0_t2 : Fin (k0_t2_loop i).trips) : BitVec 32 :=
  let c2_i32_119 : BitVec 32 := 2#32
  let c0_i32_52 : BitVec 32 := 0#32
  let arg2 : BitVec 32 := BitVec.ofNat 32 (i 2).val
  let v46 : BitVec 32 := Scalar.subi arg2 c0_i32_52
  let c1_i32 : BitVec 32 := 1#32
  let v48 : BitVec 32 := Scalar.divsi v46 c1_i32
  let v49 : BitVec 32 := Scalar.muli v48 c1_i32
  let v50 : BitVec 32 := Scalar.addi c0_i32_52 v49
  let c1_i32_54 : BitVec 32 := 1#32
  let arg22 : BitVec 32 := Scf.iv v50 c1_i32_54 k0_t2
  let v167 : BitVec 32 := Scalar.muli c2_i32_119 arg22
  let c1_i32_174 : BitVec 32 := 1#32
  let v251 : BitVec 32 := Scalar.addi v167 c1_i32_174
  let c512_i32_175 : BitVec 32 := 512#32
  let v252 : BitVec 32 := Scalar.muli v251 c512_i32_175
  v252
def k0_mult10 (i : grid0.Coords) : BitVec 32 :=
  let c2_i32 : BitVec 32 := 2#32
  let arg2 : BitVec 32 := BitVec.ofNat 32 (i 2).val
  let v51 : BitVec 32 := Scalar.muli c2_i32 arg2
  let c0_i32_55 : BitVec 32 := 0#32
  let v52 : BitVec 32 := Scalar.addi v51 c0_i32_55
  let c1_i32_56 : BitVec 32 := 1#32
  let v53 : BitVec 32 := Scalar.addi v52 c1_i32_56
  let c512_i32 : BitVec 32 := 512#32
  let v54 : BitVec 32 := Scalar.muli v53 c512_i32
  v54
def k0_off7 (i : grid0.Coords) : Fin 3 → Nat :=
  let c0_57 : Index := 0#32
  let c2_i32 : BitVec 32 := 2#32
  let arg2 : BitVec 32 := BitVec.ofNat 32 (i 2).val
  let v51 : BitVec 32 := Scalar.muli c2_i32 arg2
  let c0_i32_55 : BitVec 32 := 0#32
  let v52 : BitVec 32 := Scalar.addi v51 c0_i32_55
  let c1_i32_56 : BitVec 32 := 1#32
  let v53 : BitVec 32 := Scalar.addi v52 c1_i32_56
  let c512_i32 : BitVec 32 := 512#32
  let v54 : BitVec 32 := Scalar.muli v53 c512_i32
  let v55 : BitVec 32 := v54
  let v56 : Index := Scalar.indexCast v55
  let c0_58 : Index := 0#32
  ![0, v56.toNat, 0]
def k0_off8 (i : grid0.Coords) : Fin 4 → Nat :=
  let c0_59 : Index := 0#32
  let c0_60 : Index := 0#32
  let c2_i32 : BitVec 32 := 2#32
  let arg2 : BitVec 32 := BitVec.ofNat 32 (i 2).val
  let v51 : BitVec 32 := Scalar.muli c2_i32 arg2
  let c0_i32_55 : BitVec 32 := 0#32
  let v52 : BitVec 32 := Scalar.addi v51 c0_i32_55
  let c1_i32_56 : BitVec 32 := 1#32
  let v53 : BitVec 32 := Scalar.addi v52 c1_i32_56
  let c512_i32 : BitVec 32 := 512#32
  let v54 : BitVec 32 := Scalar.muli v53 c512_i32
  let v55 : BitVec 32 := v54
  let v59 : Index := Scalar.indexCast v55
  let c0_61 : Index := 0#32
  ![0, 0, v59.toNat, 0]
def k0_mult11 (i : grid0.Coords) : BitVec 32 :=
  let c2_i32 : BitVec 32 := 2#32
  let arg2 : BitVec 32 := BitVec.ofNat 32 (i 2).val
  let v51 : BitVec 32 := Scalar.muli c2_i32 arg2
  let c0_i32_64 : BitVec 32 := 0#32
  let v68 : BitVec 32 := Scalar.addi v51 c0_i32_64
  let c512_i32_65 : BitVec 32 := 512#32
  let v69 : BitVec 32 := Scalar.muli v68 c512_i32_65
  v69
def k0_off9 (i : grid0.Coords) (c0_i32_64 : BitVec 32) : Fin 3 → Nat :=
  let c0_66 : Index := 0#32
  let c2_i32 : BitVec 32 := 2#32
  let arg2 : BitVec 32 := BitVec.ofNat 32 (i 2).val
  let v51 : BitVec 32 := Scalar.muli c2_i32 arg2
  let v68 : BitVec 32 := Scalar.addi v51 c0_i32_64
  let c512_i32_65 : BitVec 32 := 512#32
  let v69 : BitVec 32 := Scalar.muli v68 c512_i32_65
  let v70 : BitVec 32 := v69
  let v71 : Index := Scalar.indexCast v70
  let c0_67 : Index := 0#32
  ![0, v71.toNat, 0]
def k0_mult12 (i : grid0.Coords) : BitVec 32 :=
  let c2_i32 : BitVec 32 := 2#32
  let arg2 : BitVec 32 := BitVec.ofNat 32 (i 2).val
  let v51 : BitVec 32 := Scalar.muli c2_i32 arg2
  let c1_i32_95 : BitVec 32 := 1#32
  let v126 : BitVec 32 := Scalar.addi v51 c1_i32_95
  let c512_i32_96 : BitVec 32 := 512#32
  let v127 : BitVec 32 := Scalar.muli v126 c512_i32_96
  v127
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.muli v1 c8_i32
  let v3 : BitVec 32 := Scalar.addi v2 arg2
  let c2_i32 : BitVec 32 := 2#32
  let v4 : BitVec 32 := Scalar.divsi v3 c2_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c2_i32 c0_i32_1
  let v11 : BitVec 32 := Scalar.extui v10
  let c0_i32_2 : BitVec 32 := 0#32
  let v12 : BitVec 1 := Scalar.cmpi .slt c2_i32 c0_i32_2
  let v13 : BitVec 32 := Scalar.extui v12
  let v14 : BitVec 32 := Scalar.subi v11 v13
  let v15 : BitVec 1 := Scalar.cmpi .ne v9 v14
  let v16 : BitVec 32 := Scalar.remsi v3 c2_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  let c0_i32_6 : BitVec 32 := 0#32
  ![v20.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.muli v1 c8_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  let c0_i32_7 : BitVec 32 := 0#32
  ![v20.toNat, c0_i32_5.toNat, c0_i32_6.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.muli v1 c8_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  let c0_i32_7 : BitVec 32 := 0#32
  ![v20.toNat, c0_i32_5.toNat, c0_i32_6.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.muli v1 c8_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  let c0_i32_7 : BitVec 32 := 0#32
  ![v20.toNat, c0_i32_5.toNat, c0_i32_6.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.muli v1 c8_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  let c0_i32_7 : BitVec 32 := 0#32
  ![v20.toNat, c0_i32_5.toNat, c0_i32_6.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.muli v1 c8_i32
  let v3 : BitVec 32 := Scalar.addi v2 arg2
  let c2_i32 : BitVec 32 := 2#32
  let v4 : BitVec 32 := Scalar.divsi v3 c2_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c2_i32 c0_i32_1
  let v11 : BitVec 32 := Scalar.extui v10
  let c0_i32_2 : BitVec 32 := 0#32
  let v12 : BitVec 1 := Scalar.cmpi .slt c2_i32 c0_i32_2
  let v13 : BitVec 32 := Scalar.extui v12
  let v14 : BitVec 32 := Scalar.subi v11 v13
  let v15 : BitVec 1 := Scalar.cmpi .ne v9 v14
  let v16 : BitVec 32 := Scalar.remsi v3 c2_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c0_i32_4 : BitVec 32 := 0#32
  let c0_i32_5 : BitVec 32 := 0#32
  let c0_i32_6 : BitVec 32 := 0#32
  ![v20.toNat, c0_i32_4.toNat, c0_i32_5.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.muli v1 c8_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  let c0_i32_7 : BitVec 32 := 0#32
  ![v20.toNat, c0_i32_5.toNat, c0_i32_6.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.muli v1 c8_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  let c0_i32_7 : BitVec 32 := 0#32
  ![v20.toNat, c0_i32_5.toNat, c0_i32_6.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.muli v1 c8_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  let c0_i32_7 : BitVec 32 := 0#32
  ![v20.toNat, c0_i32_5.toNat, c0_i32_6.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.muli v1 c8_i32
  let v3 : BitVec 32 := Scalar.addi v2 arg2
  let c1_i32 : BitVec 32 := 1#32
  let v4 : BitVec 32 := Scalar.divsi v3 c1_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c1_i32 c0_i32_1
  let v11 : BitVec 32 := Scalar.extui v10
  let c0_i32_2 : BitVec 32 := 0#32
  let v12 : BitVec 1 := Scalar.cmpi .slt c1_i32 c0_i32_2
  let v13 : BitVec 32 := Scalar.extui v12
  let v14 : BitVec 32 := Scalar.subi v11 v13
  let v15 : BitVec 1 := Scalar.cmpi .ne v9 v14
  let v16 : BitVec 32 := Scalar.remsi v3 c1_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c0_i32_5 : BitVec 32 := 0#32
  let c0_i32_6 : BitVec 32 := 0#32
  let c0_i32_7 : BitVec 32 := 0#32
  ![v20.toNat, c0_i32_5.toNat, c0_i32_6.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x16x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x128x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x16x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x16x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x128x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x2048 : Shape := ⟨3, ![2, 8192, 2048]⟩
abbrev S2x16x8192 : Shape := ⟨3, ![2, 16, 8192]⟩
abbrev S1x2048x2048 : Shape := ⟨3, ![1, 2048, 2048]⟩
abbrev S1x4096x4096 : Shape := ⟨3, ![1, 4096, 4096]⟩
abbrev S1x64x4096x512 : Shape := ⟨4, ![1, 64, 4096, 512]⟩
abbrev S1x64x512x4096 : Shape := ⟨4, ![1, 64, 512, 4096]⟩
abbrev S2x8192x16x128 : Shape := ⟨4, ![2, 8192, 16, 128]⟩
abbrev S2x16x8192x128 : Shape := ⟨4, ![2, 16, 8192, 128]⟩
abbrev S2x16x8192x8192 : Shape := ⟨4, ![2, 16, 8192, 8192]⟩
abbrev S_ : Shape := ⟨0, ![]⟩
abbrev S2x16x8192x1 : Shape := ⟨4, ![2, 16, 8192, 1]⟩
abbrev S2x16x1x8192 : Shape := ⟨4, ![2, 16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x16x128x8192 : Shape := ⟨4, ![2, 16, 128, 8192]⟩
abbrev S2048x2048 : Shape := ⟨2, ![2048, 2048]⟩
abbrev S4096x4096 : Shape := ⟨2, ![4096, 4096]⟩
abbrev S64x4096x512 : Shape := ⟨3, ![64, 4096, 512]⟩
abbrev S64x512x4096 : Shape := ⟨3, ![64, 512, 4096]⟩

abbrev nBuf : Space → Nat
  | .hbm => 64
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S2x8192x2048, .f32⟩
  | .hbm, ⟨3, _⟩ => ⟨S2x16x8192, .f32⟩
  | .hbm, ⟨4, _⟩ => ⟨S1x2048x2048, .f32⟩
  | .hbm, ⟨5, _⟩ => ⟨S1x4096x4096, .f32⟩
  | .hbm, ⟨6, _⟩ => ⟨S1x64x4096x512, .f32⟩
  | .hbm, ⟨7, _⟩ => ⟨S1x64x4096x512, .f32⟩
  | .hbm, ⟨8, _⟩ => ⟨S1x64x512x4096, .f32⟩
  | .hbm, ⟨9, _⟩ => ⟨S2x8192x16x128, .f32⟩
  | .hbm, ⟨10, _⟩ => ⟨S2x16x8192x128, .f32⟩
  | .hbm, ⟨11, _⟩ => ⟨S2x8192x16x128, .f32⟩
  | .hbm, ⟨12, _⟩ => ⟨S2x16x8192x128, .f32⟩
  | .hbm, ⟨13, _⟩ => ⟨S2x8192x16x128, .f32⟩
  | .hbm, ⟨14, _⟩ => ⟨S2x16x8192x128, .f32⟩
  | .hbm, ⟨15, _⟩ => ⟨S2x16x8192x8192, .f32⟩
  | .hbm, ⟨16, _⟩ => ⟨S_, .f32⟩
  | .hbm, ⟨17, _⟩ => ⟨S_, .f32⟩
  | .hbm, ⟨18, _⟩ => ⟨S2x16x8192x8192, .f32⟩
  | .hbm, ⟨19, _⟩ => ⟨S2x16x8192x8192, .f32⟩
  | .hbm, ⟨20, _⟩ => ⟨S2x16x8192x1, .f32⟩
  | .hbm, ⟨21, _⟩ => ⟨S2x16x8192x8192, .f32⟩
  | .hbm, ⟨22, _⟩ => ⟨S2x16x8192x8192, .f32⟩
  | .hbm, ⟨23, _⟩ => ⟨S2x16x1x8192, .f32⟩
  | .hbm, ⟨24, _⟩ => ⟨S2x16x8192x8192, .f32⟩
  | .hbm, ⟨25, _⟩ => ⟨S2x16x8192x8192, .f32⟩
  | .hbm, ⟨26, _⟩ => ⟨S8192, .i32⟩
  | .hbm, ⟨27, _⟩ => ⟨S1x8192, .i32⟩
  | .hbm, ⟨28, _⟩ => ⟨S8192x1, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S_, .f32⟩
  | .hbm, ⟨33, _⟩ => ⟨S_, .f32⟩
  | .hbm, ⟨34, _⟩ => ⟨S2x16x8192x8192, .i1⟩
  | .hbm, ⟨35, _⟩ => ⟨S2x16x8192x8192, .f32⟩
  | .hbm, ⟨36, _⟩ => ⟨S2x16x8192x8192, .f32⟩
  | .hbm, ⟨37, _⟩ => ⟨S_, .f32⟩
  | .hbm, ⟨38, _⟩ => ⟨S2x16x8192, .f32⟩
  | .hbm, ⟨39, _⟩ => ⟨S_, .f32⟩
  | .hbm, ⟨40, _⟩ => ⟨S2x16x8192, .f32⟩
  | .hbm, ⟨41, _⟩ => ⟨S2x16x8192, .f32⟩
  | .hbm, ⟨42, _⟩ => ⟨S2x16x8192x1, .f32⟩
  | .hbm, ⟨43, _⟩ => ⟨S2x16x8192x8192, .f32⟩
  | .hbm, ⟨44, _⟩ => ⟨S2x16x8192x8192, .f32⟩
  | .hbm, ⟨45, _⟩ => ⟨S2x16x8192x8192, .f32⟩
  | .hbm, ⟨46, _⟩ => ⟨S_, .f32⟩
  | .hbm, ⟨47, _⟩ => ⟨S2x16x8192, .f32⟩
  | .hbm, ⟨48, _⟩ => ⟨S2x16x8192x1, .f32⟩
  | .hbm, ⟨49, _⟩ => ⟨S2x16x8192x8192, .f32⟩
  | .hbm, ⟨50, _⟩ => ⟨S2x16x8192x8192, .f32⟩
  | .hbm, ⟨51, _⟩ => ⟨S2x16x128x8192, .f32⟩
  | .hbm, ⟨52, _⟩ => ⟨S2x8192x16x128, .f32⟩
  | .hbm, ⟨53, _⟩ => ⟨S2x8192x2048, .f32⟩
  | .hbm, ⟨54, _⟩ => ⟨S2048x2048, .f32⟩
  | .hbm, ⟨55, _⟩ => ⟨S2048x2048, .bf16⟩
  | .hbm, ⟨56, _⟩ => ⟨S4096x4096, .f32⟩
  | .hbm, ⟨57, _⟩ => ⟨S4096x4096, .bf16⟩
  | .hbm, ⟨58, _⟩ => ⟨S64x4096x512, .f32⟩
  | .hbm, ⟨59, _⟩ => ⟨S64x4096x512, .bf16⟩
  | .hbm, ⟨60, _⟩ => ⟨S64x4096x512, .f32⟩
  | .hbm, ⟨61, _⟩ => ⟨S64x4096x512, .bf16⟩
  | .hbm, ⟨62, _⟩ => ⟨S64x512x4096, .f32⟩
  | .hbm, ⟨63, _⟩ => ⟨S64x512x4096, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Kernel2.lean ====
abbrev S2x8192x4096 : Shape := ⟨3, ![2, 8192, 4096]⟩
abbrev S2x1x4096 : Shape := ⟨3, ![2, 1, 4096]⟩
abbrev S1x4096x8208 : Shape := ⟨3, ![1, 4096, 8208]⟩
abbrev S4096x8208 : Shape := ⟨2, ![4096, 8208]⟩
abbrev S4096x6144 : Shape := ⟨2, ![4096, 6144]⟩
abbrev S4096x2048 : Shape := ⟨2, ![4096, 2048]⟩
abbrev S4096x8192 : Shape := ⟨2, ![4096, 8192]⟩
abbrev S_ : Shape := ⟨0, ![]⟩
abbrev S4096x128 : Shape := ⟨2, ![4096, 128]⟩
abbrev S4096x16 : Shape := ⟨2, ![4096, 16]⟩
abbrev S1 : Shape := ⟨1, ![1]⟩
abbrev S2x8192x6144 : Shape := ⟨3, ![2, 8192, 6144]⟩
abbrev S2x8192x2048 : Shape := ⟨3, ![2, 8192, 2048]⟩
abbrev S2x8192x128 : Shape := ⟨3, ![2, 8192, 128]⟩
abbrev S1x512x4096 : Shape := ⟨3, ![1, 512, 4096]⟩
abbrev S1x1x4096 : Shape := ⟨3, ![1, 1, 4096]⟩
abbrev S4096x1024 : Shape := ⟨2, ![4096, 1024]⟩
abbrev S1x512x1024 : Shape := ⟨3, ![1, 512, 1024]⟩
abbrev S1x512x128 : Shape := ⟨3, ![1, 512, 128]⟩
abbrev S512x4096 : Shape := ⟨2, ![512, 4096]⟩
abbrev S1x4096 : Shape := ⟨2, ![1, 4096]⟩
abbrev S512x128 : Shape := ⟨2, ![512, 128]⟩
abbrev S512x1024 : Shape := ⟨2, ![512, 1024]⟩
abbrev S2x8192x16 : Shape := ⟨3, ![2, 8192, 16]⟩

abbrev nBuf : Space → Nat
  | .hbm => 29
  | .vmem => 16
  | .smem => 0
  | _ => 0

abbrev bufTy : (tb : Table) → Fin (tcTables nBuf tb) → BufTy
  | .hbm, ⟨0, _⟩ => ⟨S2x8192x4096, .f32⟩
  | .hbm, ⟨1, _⟩ => ⟨S2x1x4096, .f32⟩
  | .hbm, ⟨2, _⟩ => ⟨S2x1x4096, .f32⟩
  | .hbm, ⟨3, _⟩ => ⟨S1x4096x8208, .f32⟩
  | .hbm, ⟨4, _⟩ => ⟨S4096x8208, .f32⟩
  | .hbm, ⟨5, _⟩ => ⟨S4096x6144, .f32⟩
  | .hbm, ⟨6, _⟩ => ⟨S4096x2048, .f32⟩
  | .hbm, ⟨7, _⟩ => ⟨S4096x8192, .f32⟩
  | .hbm, ⟨8, _⟩ => ⟨S4096x8192, .bf16⟩
  | .hbm, ⟨9, _⟩ => ⟨S_, .bf16⟩
  | .hbm, ⟨10, _⟩ => ⟨S4096x128, .bf16⟩
  | .hbm, ⟨11, _⟩ => ⟨S4096x16, .f32⟩
  | .hbm, ⟨12, _⟩ => ⟨S4096x16, .bf16⟩
  | .hbm, ⟨13, _⟩ => ⟨S_, .i32⟩
  | .hbm, ⟨14, _⟩ => ⟨S1, .i32⟩
  | .hbm, ⟨15, _⟩ => ⟨S4096x128, .bf16⟩
  | .hbm, ⟨16, _⟩ => ⟨S2x8192x6144, .bf16⟩
  | .hbm, ⟨17, _⟩ => ⟨S2x8192x2048, .f32⟩
  | .hbm, ⟨18, _⟩ => ⟨S2x8192x128, .f32⟩
  | .hbm, ⟨19, _⟩ => ⟨S2x8192x2048, .bf16⟩
  | .hbm, ⟨20, _⟩ => ⟨S2x8192x2048, .f32⟩
  | .hbm, ⟨21, _⟩ => ⟨S_, .f32⟩
  | .hbm, ⟨22, _⟩ => ⟨S2x8192x2048, .f32⟩
  | .hbm, ⟨23, _⟩ => ⟨S2x8192x2048, .f32⟩
  | .hbm, ⟨24, _⟩ => ⟨S2x8192x2048, .bf16⟩
  | .hbm, ⟨25, _⟩ => ⟨S2x8192x2048, .f32⟩
  | .hbm, ⟨26, _⟩ => ⟨S2x8192x2048, .bf16⟩
  | .hbm, ⟨27, _⟩ => ⟨S2x8192x2048, .f32⟩
  | .hbm, ⟨28, _⟩ => ⟨S2x8192x16, .f32⟩
  | .local _ .vmem, ⟨0, _⟩ => ⟨S1x512x4096, .f32⟩
  | .local _ .vmem, ⟨1, _⟩ => ⟨S1x512x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S4096x1024, .bf16⟩
  | .local _ .vmem, ⟨7, _⟩ => ⟨S4096x1024, .bf16⟩
  | .local _ .vmem, ⟨8, _⟩ => ⟨S4096x128, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .f32⟩
  | .local _ .vmem, ⟨12, _⟩ => ⟨S1x512x1024, .f32⟩
  | .local _ .vmem, ⟨13, _⟩ => ⟨S1x512x128, .f32⟩
  | .local _ .vmem, ⟨14, _⟩ => ⟨S1x512x128, .f32⟩
  | .local _ .vmem, ⟨15, _⟩ => ⟨S512x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![2, 16, 8], ![false, false, false]⟩

def k0_cond2 (i : grid0.Coords) : BitVec 1 :=
  let arg2 : BitVec 32 := BitVec.ofNat 32 (i 2).val
  let c2_i32 : BitVec 32 := 2#32
  let v7 : BitVec 1 := Scalar.cmpi .slt arg2 c2_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg2 : BitVec 32 := BitVec.ofNat 32 (i 2).val
  let c2_i32_5 : BitVec 32 := 2#32
  let v10 : BitVec 1 := Scalar.cmpi .sge arg2 c2_i32_5
  let c6_i32 : BitVec 32 := 6#32
  let v11 : BitVec 1 := Scalar.cmpi .slt arg2 c6_i32
  let v12 : BitVec 1 := Scalar.andi v10 v11
  let v13 : BitVec 32 := Scalar.extui v12
  let c0_i32_6 : BitVec 32 := 0#32
  let v14 : BitVec 1 := Scalar.cmpi .ne v13 c0_i32_6
  v14

def k0_cond4 (i : grid0.Coords) : BitVec 1 :=
  let arg2 : BitVec 32 := BitVec.ofNat 32 (i 2).val
  let c6_i32_7 : BitVec 32 := 6#32
  let v15 : BitVec 1 := Scalar.cmpi .sge arg2 c6_i32_7
  let v16 : BitVec 32 := Scalar.extui v15
  let c0_i32_8 : BitVec 32 := 0#32
  let v17 : BitVec 1 := Scalar.cmpi .ne v16 c0_i32_8
  v17

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.minsi arg2 c5_i32
  let c0_i32 : BitVec 32 := 0#32
  ![arg0.toNat, arg1.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let v1 : BitVec 32 := Scalar.maxsi v0 c0_i32
  let c0_i32_0 : BitVec 32 := 0#32
  ![arg0.toNat, arg1.toNat, v1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S4096x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference2Ideal.lean ====
abbrev S2x8192x4096 : Shape := ⟨3, ![2, 8192, 4096]⟩
abbrev S2x1x4096 : Shape := ⟨3, ![2, 1, 4096]⟩
abbrev S1x4096x8208 : Shape := ⟨3, ![1, 4096, 8208]⟩
abbrev S_ : Shape := ⟨0, ![]⟩
abbrev S4096x8208 : Shape := ⟨2, ![4096, 8208]⟩
abbrev S2x8192x8208 : Shape := ⟨3, ![2, 8192, 8208]⟩
abbrev S2x8192x2048 : Shape := ⟨3, ![2, 8192, 2048]⟩
abbrev S2x8192x16 : Shape := ⟨3, ![2, 8192, 16]⟩

abbrev nBuf : Space → Nat
  | .hbm => 18
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x1x4096, .f32⟩
  | .hbm, ⟨2, _⟩ => ⟨S2x1x4096, .f32⟩
  | .hbm, ⟨3, _⟩ => ⟨S1x4096x8208, .f32⟩
  | .hbm, ⟨4, _⟩ => ⟨S_, .f32⟩
  | .hbm, ⟨5, _⟩ => ⟨S2x1x4096, .f32⟩
  | .hbm, ⟨6, _⟩ => ⟨S2x1x4096, .f32⟩
  | .hbm, ⟨7, _⟩ => ⟨S2x8192x4096, .f32⟩
  | .hbm, ⟨8, _⟩ => ⟨S2x8192x4096, .f32⟩
  | .hbm, ⟨9, _⟩ => ⟨S2x8192x4096, .f32⟩
  | .hbm, ⟨10, _⟩ => ⟨S2x8192x4096, .f32⟩
  | .hbm, ⟨11, _⟩ => ⟨S4096x8208, .f32⟩
  | .hbm, ⟨12, _⟩ => ⟨S2x8192x8208, .f32⟩
  | .hbm, ⟨13, _⟩ => ⟨S2x8192x2048, .f32⟩
  | .hbm, ⟨14, _⟩ => ⟨S2x8192x2048, .f32⟩
  | .hbm, ⟨15, _⟩ => ⟨S2x8192x2048, .f32⟩
  | .hbm, ⟨16, _⟩ => ⟨S2x8192x16, .f32⟩
  | .hbm, ⟨17, _⟩ => ⟨S2x8192x2048, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel3.lean ====
abbrev S2x8192x2048 : Shape := ⟨3, ![2, 8192, 2048]⟩
abbrev S1x2048x2048 : Shape := ⟨3, ![1, 2048, 2048]⟩
abbrev S1x2048 : Shape := ⟨2, ![1, 2048]⟩
abbrev S16384x2048 : Shape := ⟨2, ![16384, 2048]⟩
abbrev S2048x2048 : Shape := ⟨2, ![2048, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 7
  | .smem => 0
  | _ => 0

abbrev bufTy : (tb : Table) → Fin (tcTables nBuf tb) → BufTy
  | .hbm, ⟨0, _⟩ => ⟨S2x8192x2048, .f32⟩
  | .hbm, ⟨1, _⟩ => ⟨S1x2048x2048, .f32⟩
  | .hbm, ⟨2, _⟩ => ⟨S1x2048, .f32⟩
  | .hbm, ⟨3, _⟩ => ⟨S1x2048, .f32⟩
  | .hbm, ⟨4, _⟩ => ⟨S16384x2048, .f32⟩
  | .hbm, ⟨5, _⟩ => ⟨S2048x2048, .f32⟩
  | .hbm, ⟨6, _⟩ => ⟨S2048x2048, .bf16⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S16384x2048, .bf16⟩
  | .hbm, ⟨12, _⟩ => ⟨S2x8192x2048, .bf16⟩
  | .hbm, ⟨13, _⟩ => ⟨S2x8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S2x8192x2048 : Shape := ⟨3, ![2, 8192, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S1x1x2048 : Shape := ⟨3, ![1, 1, 2048]⟩
abbrev S_ : Shape := ⟨0, ![]⟩
abbrev S2x8192 : Shape := ⟨2, ![2, 8192]⟩
abbrev S2x8192x1 : Shape := ⟨3, ![2, 8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2x8192x2048, .f32⟩
  | .hbm, ⟨6, _⟩ => ⟨S2048, .f32⟩
  | .hbm, ⟨7, _⟩ => ⟨S1x1x2048, .f32⟩
  | .hbm, ⟨8, _⟩ => ⟨S2x8192x2048, .f32⟩
  | .hbm, ⟨9, _⟩ => ⟨S2x8192x2048, .f32⟩
  | .hbm, ⟨10, _⟩ => ⟨S2x8192x2048, .f32⟩
  | .hbm, ⟨11, _⟩ => ⟨S2x8192x2048, .f32⟩
  | .hbm, ⟨12, _⟩ => ⟨S_, .f32⟩
  | .hbm, ⟨13, _⟩ => ⟨S2x8192x2048, .f32⟩
  | .hbm, ⟨14, _⟩ => ⟨S2x8192x2048, .f32⟩
  | .hbm, ⟨15, _⟩ => ⟨S_, .f32⟩
  | .hbm, ⟨16, _⟩ => ⟨S2x8192x2048, .f32⟩
  | .hbm, ⟨17, _⟩ => ⟨S2x8192x2048, .f32⟩
  | .hbm, ⟨18, _⟩ => ⟨S2x8192x2048, .f32⟩
  | .hbm, ⟨19, _⟩ => ⟨S2x8192x2048, .f32⟩
  | .hbm, ⟨20, _⟩ => ⟨S_, .f32⟩
  | .hbm, ⟨21, _⟩ => ⟨S2x8192, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S2x8192x1, .f32⟩
  | .hbm, ⟨30, _⟩ => ⟨S2x8192x2048, .f32⟩
  | .hbm, ⟨31, _⟩ => ⟨S2x8192x2048, .f32⟩
  | .hbm, ⟨32, _⟩ => ⟨S2048, .f32⟩
  | .hbm, ⟨33, _⟩ => ⟨S1x1x2048, .f32⟩
  | .hbm, ⟨34, _⟩ => ⟨S2x8192x2048, .f32⟩
  | .hbm, ⟨35, _⟩ => ⟨S2x8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel4.lean ====
abbrev S2x8192x2048 : Shape := ⟨3, ![2, 8192, 2048]⟩
abbrev S1x2048 : Shape := ⟨2, ![1, 2048]⟩
abbrev S1x4096x4096 : Shape := ⟨3, ![1, 4096, 4096]⟩
abbrev S2x8192x4096 : Shape := ⟨3, ![2, 8192, 4096]⟩
abbrev S2x1x4096 : Shape := ⟨3, ![2, 1, 4096]⟩
abbrev S1x4096 : Shape := ⟨2, ![1, 4096]⟩
abbrev S1x4096x8 : Shape := ⟨3, ![1, 4096, 8]⟩
abbrev S1x4096x64 : Shape := ⟨3, ![1, 4096, 64]⟩
abbrev S_ : Shape := ⟨0, ![]⟩
abbrev S4096x128 : Shape := ⟨2, ![4096, 128]⟩
abbrev S4096x8 : Shape := ⟨2, ![4096, 8]⟩
abbrev S1 : Shape := ⟨1, ![1]⟩
abbrev S4096x64 : Shape := ⟨2, ![4096, 64]⟩
abbrev S2048 : Shape := ⟨1, ![2048]⟩
abbrev S4096x4096 : Shape := ⟨2, ![4096, 4096]⟩
abbrev S4096 : Shape := ⟨1, ![4096]⟩
abbrev S2x8192x128 : Shape := ⟨3, ![2, 8192, 128]⟩
abbrev S1x512x2048 : Shape := ⟨3, ![1, 512, 2048]⟩
abbrev S4096x256 : Shape := ⟨2, ![4096, 256]⟩
abbrev S1x512x256 : Shape := ⟨3, ![1, 512, 256]⟩
abbrev S1x1x256 : Shape := ⟨3, ![1, 1, 256]⟩
abbrev S1x1x4096 : Shape := ⟨3, ![1, 1, 4096]⟩
abbrev S1x512x4096 : Shape := ⟨3, ![1, 512, 4096]⟩
abbrev S1x512x128 : Shape := ⟨3, ![1, 512, 128]⟩
abbrev S512x4096 : Shape := ⟨2, ![512, 4096]⟩
abbrev S1x128x2048 : Shape := ⟨3, ![1, 128, 2048]⟩
abbrev S128x2048 : Shape := ⟨2, ![128, 2048]⟩
abbrev S128 : Shape := ⟨1, ![128]⟩
abbrev S128x1 : Shape := ⟨2, ![128, 1]⟩
abbrev S512x2048 : Shape := ⟨2, ![512, 2048]⟩
abbrev S512x256 : Shape := ⟨2, ![512, 256]⟩
abbrev S1x256 : Shape := ⟨2, ![1, 256]⟩
abbrev S1x128x4096 : Shape := ⟨3, ![1, 128, 4096]⟩
abbrev S128x4096 : Shape := ⟨2, ![128, 4096]⟩
abbrev S128x128 : Shape := ⟨2, ![128, 128]⟩
abbrev S1x128x128 : Shape := ⟨3, ![1, 128, 128]⟩

abbrev nBuf : Space → Nat
  | .hbm => 38
  | .vmem => 26
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S2x8192x2048, .f32⟩
  | .hbm, ⟨3, _⟩ => ⟨S1x4096x4096, .f32⟩
  | .hbm, ⟨4, _⟩ => ⟨S2x8192x4096, .f32⟩
  | .hbm, ⟨5, _⟩ => ⟨S2x1x4096, .f32⟩
  | .hbm, ⟨6, _⟩ => ⟨S1x4096, .f32⟩
  | .hbm, ⟨7, _⟩ => ⟨S1x4096, .f32⟩
  | .hbm, ⟨8, _⟩ => ⟨S2x1x4096, .f32⟩
  | .hbm, ⟨9, _⟩ => ⟨S2x1x4096, .f32⟩
  | .hbm, ⟨10, _⟩ => ⟨S1x4096x8, .f32⟩
  | .hbm, ⟨11, _⟩ => ⟨S1x4096x64, .f32⟩
  | .hbm, ⟨12, _⟩ => ⟨S_, .f32⟩
  | .hbm, ⟨13, _⟩ => ⟨S4096x128, .f32⟩
  | .hbm, ⟨14, _⟩ => ⟨S4096x8, .f32⟩
  | .hbm, ⟨15, _⟩ => ⟨S_, .i32⟩
  | .hbm, ⟨16, _⟩ => ⟨S1, .i32⟩
  | .hbm, ⟨17, _⟩ => ⟨S4096x128, .f32⟩
  | .hbm, ⟨18, _⟩ => ⟨S4096x64, .f32⟩
  | .hbm, ⟨19, _⟩ => ⟨S_, .i32⟩
  | .hbm, ⟨20, _⟩ => ⟨S1, .i32⟩
  | .hbm, ⟨21, _⟩ => ⟨S4096x128, .f32⟩
  | .hbm, ⟨22, _⟩ => ⟨S4096x128, .bf16⟩
  | .hbm, ⟨23, _⟩ => ⟨S4096x128, .f32⟩
  | .hbm, ⟨24, _⟩ => ⟨S4096x128, .f32⟩
  | .hbm, ⟨25, _⟩ => ⟨S4096x128, .bf16⟩
  | .hbm, ⟨26, _⟩ => ⟨S2048, .f32⟩
  | .hbm, ⟨27, _⟩ => ⟨S2x8192x2048, .bf16⟩
  | .hbm, ⟨28, _⟩ => ⟨S4096x4096, .f32⟩
  | .hbm, ⟨29, _⟩ => ⟨S4096x4096, .bf16⟩
  | .hbm, ⟨30, _⟩ => ⟨S4096, .f32⟩
  | .hbm, ⟨31, _⟩ => ⟨S4096, .f32⟩
  | .hbm, ⟨32, _⟩ => ⟨S1x2048, .f32⟩
  | .hbm, ⟨33, _⟩ => ⟨S1x4096, .f32⟩
  | .hbm, ⟨34, _⟩ => ⟨S1x4096, .f32⟩
  | .hbm, ⟨35, _⟩ => ⟨S2x8192x4096, .f32⟩
  | .hbm, ⟨36, _⟩ => ⟨S2x8192x2048, .i32⟩
  | .hbm, ⟨37, _⟩ => ⟨S2x8192x128, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x512x2048, .bf16⟩
  | .local _ .vmem, ⟨4, _⟩ => ⟨S1x512x2048, .bf16⟩
  | .local _ .vmem, ⟨5, _⟩ => ⟨S4096x256, .bf16⟩
  | .local _ .vmem, ⟨6, _⟩ => ⟨S4096x256, .bf16⟩
  | .local _ .vmem, ⟨7, _⟩ => ⟨S1x512x256, .f32⟩
  | .local _ .vmem, ⟨8, _⟩ => ⟨S1x512x256, .f32⟩
  | .local _ .vmem, ⟨9, _⟩ => ⟨S1x1x256, .f32⟩
  | .local _ .vmem, ⟨10, _⟩ => ⟨S1x1x256, .f32⟩
  | .local _ .vmem, ⟨11, _⟩ => ⟨S1x4096, .f32⟩
  | .local _ .vmem, ⟨12, _⟩ => ⟨S1x4096, .f32⟩
  | .local _ .vmem, ⟨13, _⟩ => ⟨S1x1x4096, .f32⟩
  | .local _ .vmem, ⟨14, _⟩ => ⟨S1x1x4096, .f32⟩
  | .local _ .vmem, ⟨15, _⟩ => ⟨S1x1x4096, .f32⟩
  | .local _ .vmem, ⟨16, _⟩ => ⟨S1x1x4096, .f32⟩
  | .local _ .vmem, ⟨17, _⟩ => ⟨S4096x128, .bf16⟩
  | .local _ .vmem, ⟨18, _⟩ => ⟨S4096x128, .bf16⟩
  | .local _ .vmem, ⟨19, _⟩ => ⟨S1x512x4096, .f32⟩
  | .local _ .vmem, ⟨20, _⟩ => ⟨S1x512x4096, .f32⟩
  | .local _ .vmem, ⟨21, _⟩ => ⟨S1x512x2048, .i32⟩
  | .local _ .vmem, ⟨22, _⟩ => ⟨S1x512x2048, .i32⟩
  | .local _ .vmem, ⟨23, _⟩ => ⟨S1x512x128, .f32⟩
  | .local _ .vmem, ⟨24, _⟩ => ⟨S1x512x128, .f32⟩
  | .local _ .vmem, ⟨25, _⟩ => ⟨S512x4096, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev main_v20_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [BitOps F]

abbrev grid0 : Pipeline.Grid := ⟨3, ![2, 16, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c4_i32 : BitVec 32 := 4#32
  let v27 : BitVec 32 := Scalar.addi c0_i32_15 c4_i32
  let c1_i32 : BitVec 32 := 1#32
  ⟨c0_i32_15, v27, c1_i32⟩
def k0_mult1 (k0_t1 : Fin k0_t1_loop.trips) : BitVec 32 :=
  let c0_i32_15 : BitVec 32 := 0#32
  let c1_i32 : BitVec 32 := 1#32
  let arg19 : BitVec 32 := Scf.iv c0_i32_15 c1_i32 k0_t1
  let c128_i32 : BitVec 32 := 128#32
  let v33 : BitVec 32 := Scalar.muli arg19 c128_i32
  v33
def k0_off1 (k0_t1 : Fin k0_t1_loop.trips) : Fin 3 → Nat :=
  let c0_21 : Index := 0#32
  let c0_i32_15 : BitVec 32 := 0#32
  let c1_i32 : BitVec 32 := 1#32
  let arg19 : BitVec 32 := Scf.iv c0_i32_15 c1_i32 k0_t1
  let c128_i32 : BitVec 32 := 128#32
  let v33 : BitVec 32 := Scalar.muli arg19 c128_i32
  let v34 : BitVec 32 := v33
  let v35 : Index := Scalar.indexCast v34
  let c0_22 : Index := 0#32
  ![0, v35.toNat, 0]
def k0_off2 (k0_t1 : Fin k0_t1_loop.trips) : Fin 2 → Nat :=
  let c0_i32_15 : BitVec 32 := 0#32
  let c1_i32 : BitVec 32 := 1#32
  let arg19 : BitVec 32 := Scf.iv c0_i32_15 c1_i32 k0_t1
  let c128_i32 : BitVec 32 := 128#32
  let v33 : BitVec 32 := Scalar.muli arg19 c128_i32
  let v34 : BitVec 32 := v33
  let v53 : Index := Scalar.indexCast v34
  let c0_28 : Index := 0#32
  ![v53.toNat, 0]
def k0_mult2 (i : grid0.Coords) : BitVec 32 :=
  let arg2 : BitVec 32 := BitVec.ofNat 32 (i 2).val
  let c256_i32 : BitVec 32 := 256#32
  let v7 : BitVec 32 := Scalar.muli arg2 c256_i32
  v7
def k0_off3 (i : grid0.Coords) : Fin 3 → Nat :=
  let c0_12 : Index := 0#32
  let c0_13 : Index := 0#32
  let arg2 : BitVec 32 := BitVec.ofNat 32 (i 2).val
  let c256_i32 : BitVec 32 := 256#32
  let v7 : BitVec 32 := Scalar.muli arg2 c256_i32
  let v8 : BitVec 32 := v7
  let v20 : Index := Scalar.indexCast v8
  ![0, 0, v20.toNat]
def k0_cond2 (i : grid0.Coords) : BitVec 1 :=
  let arg2 : BitVec 32 := BitVec.ofNat 32 (i 2).val
  let c15_i32 : BitVec 32 := 15#32
  let v24 : BitVec 1 := Scalar.cmpi .eq arg2 c15_i32
  let v25 : BitVec 32 := Scalar.extui v24
  let c0_i32_14 : BitVec 32 := 0#32
  let v26 : BitVec 1 := Scalar.cmpi .ne v25 c0_i32_14
  v26

@[reducible] def k0_t2_loop : Scf.Loop 32 :=
  let c0_i32_15 : BitVec 32 := 0#32
  let c4_i32 : BitVec 32 := 4#32
  let v27 : BitVec 32 := Scalar.addi c0_i32_15 c4_i32
  let c1_i32 : BitVec 32 := 1#32
  ⟨c0_i32_15, v27, c1_i32⟩
def k0_mult3 (k0_t2 : Fin k0_t2_loop.trips) : BitVec 32 :=
  let c0_i32_15 : BitVec 32 := 0#32
  let c1_i32 : BitVec 32 := 1#32
  let arg19 : BitVec 32 := Scf.iv c0_i32_15 c1_i32 k0_t2
  let c128_i32 : BitVec 32 := 128#32
  let v28 : BitVec 32 := Scalar.muli arg19 c128_i32
  v28
def k0_off4 (k0_t2 : Fin k0_t2_loop.trips) : Fin 3 → Nat :=
  let c0_17 : Index := 0#32
  let c0_i32_15 : BitVec 32 := 0#32
  let c1_i32 : BitVec 32 := 1#32
  let arg19 : BitVec 32 := Scf.iv c0_i32_15 c1_i32 k0_t2
  let c128_i32 : BitVec 32 := 128#32
  let v28 : BitVec 32 := Scalar.muli arg19 c128_i32
  let v29 : BitVec 32 := v28
  let v30 : Index := Scalar.indexCast v29
  let c0_18 : Index := 0#32
  ![0, v30.toNat, 0]
def k0_off5 (k0_t2 : Fin k0_t2_loop.trips) : Fin 3 → Nat :=
  let c0_46 : Index := 0#32
  let c0_i32_15 : BitVec 32 := 0#32
  let c1_i32 : BitVec 32 := 1#32
  let arg19 : BitVec 32 := Scf.iv c0_i32_15 c1_i32 k0_t2
  let c128_i32 : BitVec 32 := 128#32
  let v28 : BitVec 32 := Scalar.muli arg19 c128_i32
  let v29 : BitVec 32 := v28
  let v88 : Index := Scalar.indexCast v29
  let c0_47 : Index := 0#32
  ![0, v88.toNat, 0]
def k0_off6 (k0_t2 : Fin k0_t2_loop.trips) : Fin 3 → Nat :=
  let c0_48 : Index := 0#32
  let c0_i32_15 : BitVec 32 := 0#32
  let c1_i32 : BitVec 32 := 1#32
  let arg19 : BitVec 32 := Scf.iv c0_i32_15 c1_i32 k0_t2
  let c128_i32 : BitVec 32 := 128#32
  let v28 : BitVec 32 := Scalar.muli arg19 c128_i32
  let v29 : BitVec 32 := v28
  let v95 : Index := Scalar.indexCast v29
  let c0_49 : Index := 0#32
  ![0, v95.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x1x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 1 → Memref sig .tc .vmem S4096x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S4096x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1x512x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x512x2048 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]
-- ==== Kernel4Ideal.lean ====
abbrev S2x8192x2048 : Shape := ⟨3, ![2, 8192, 2048]⟩
abbrev S1x2048 : Shape := ⟨2, ![1, 2048]⟩
abbrev S1x4096x4096 : Shape := ⟨3, ![1, 4096, 4096]⟩
abbrev S2x8192x4096 : Shape := ⟨3, ![2, 8192, 4096]⟩
abbrev S2x1x4096 : Shape := ⟨3, ![2, 1, 4096]⟩
abbrev S1x4096 : Shape := ⟨2, ![1, 4096]⟩
abbrev S1x4096x8 : Shape := ⟨3, ![1, 4096, 8]⟩
abbrev S1x4096x64 : Shape := ⟨3, ![1, 4096, 64]⟩
abbrev S_ : Shape := ⟨0, ![]⟩
abbrev S4096x128 : Shape := ⟨2, ![4096, 128]⟩
abbrev S4096x8 : Shape := ⟨2, ![4096, 8]⟩
abbrev S1 : Shape := ⟨1, ![1]⟩
abbrev S4096x64 : Shape := ⟨2, ![4096, 64]⟩
abbrev S2048 : Shape := ⟨1, ![2048]⟩
abbrev S4096x4096 : Shape := ⟨2, ![4096, 4096]⟩
abbrev S4096 : Shape := ⟨1, ![4096]⟩
abbrev S2x8192x2x2048 : Shape := ⟨4, ![2, 8192, 2, 2048]⟩
abbrev S2x8192x128 : Shape := ⟨3, ![2, 8192, 128]⟩
abbrev S2x8192x1x2048 : Shape := ⟨4, ![2, 8192, 1, 2048]⟩
abbrev S1x512x2048 : Shape := ⟨3, ![1, 512, 2048]⟩
abbrev S4096x256 : Shape := ⟨2, ![4096, 256]⟩
abbrev S1x512x256 : Shape := ⟨3, ![1, 512, 256]⟩
abbrev S1x1x256 : Shape := ⟨3, ![1, 1, 256]⟩
abbrev S1x1x4096 : Shape := ⟨3, ![1, 1, 4096]⟩
abbrev S1x512x4096 : Shape := ⟨3, ![1, 512, 4096]⟩
abbrev S1x512x2x2048 : Shape := ⟨4, ![1, 512, 2, 2048]⟩
abbrev S1x512x1x2048 : Shape := ⟨4, ![1, 512, 1, 2048]⟩
abbrev S1x512x128 : Shape := ⟨3, ![1, 512, 128]⟩
abbrev S512x4096 : Shape := ⟨2, ![512, 4096]⟩
abbrev S1x128x2048 : Shape := ⟨3, ![1, 128, 2048]⟩
abbrev S128x2048 : Shape := ⟨2, ![128, 2048]⟩
abbrev S128 : Shape := ⟨1, ![128]⟩
abbrev S128x1 : Shape := ⟨2, ![128, 1]⟩
abbrev S512x2048 : Shape := ⟨2, ![512, 2048]⟩
abbrev S512x256 : Shape := ⟨2, ![512, 256]⟩
abbrev S1x256 : Shape := ⟨2, ![1, 256]⟩
abbrev S1x128x4096 : Shape := ⟨3, ![1, 128, 4096]⟩
abbrev S128x4096 : Shape := ⟨2, ![128, 4096]⟩
abbrev S128x128 : Shape := ⟨2, ![128, 128]⟩
abbrev S1x128x128 : Shape := ⟨3, ![1, 128, 128]⟩
abbrev S1x128x2x2048 : Shape := ⟨4, ![1, 128, 2, 2048]⟩
abbrev S1x128x1x2048 : Shape := ⟨4, ![1, 128, 1, 2048]⟩

abbrev nBuf : Space → Nat
  | .hbm => 38
  | .vmem => 26
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S2x8192x2048, .f32⟩
  | .hbm, ⟨3, _⟩ => ⟨S1x4096x4096, .f32⟩
  | .hbm, ⟨4, _⟩ => ⟨S2x8192x4096, .f32⟩
  | .hbm, ⟨5, _⟩ => ⟨S2x1x4096, .f32⟩
  | .hbm, ⟨6, _⟩ => ⟨S1x4096, .f32⟩
  | .hbm, ⟨7, _⟩ => ⟨S1x4096, .f32⟩
  | .hbm, ⟨8, _⟩ => ⟨S2x1x4096, .f32⟩
  | .hbm, ⟨9, _⟩ => ⟨S2x1x4096, .f32⟩
  | .hbm, ⟨10, _⟩ => ⟨S1x4096x8, .f32⟩
  | .hbm, ⟨11, _⟩ => ⟨S1x4096x64, .f32⟩
  | .hbm, ⟨12, _⟩ => ⟨S_, .f32⟩
  | .hbm, ⟨13, _⟩ => ⟨S4096x128, .f32⟩
  | .hbm, ⟨14, _⟩ => ⟨S4096x8, .f32⟩
  | .hbm, ⟨15, _⟩ => ⟨S_, .i32⟩
  | .hbm, ⟨16, _⟩ => ⟨S1, .i32⟩
  | .hbm, ⟨17, _⟩ => ⟨S4096x128, .f32⟩
  | .hbm, ⟨18, _⟩ => ⟨S4096x64, .f32⟩
  | .hbm, ⟨19, _⟩ => ⟨S_, .i32⟩
  | .hbm, ⟨20, _⟩ => ⟨S1, .i32⟩
  | .hbm, ⟨21, _⟩ => ⟨S4096x128, .f32⟩
  | .hbm, ⟨22, _⟩ => ⟨S4096x128, .bf16⟩
  | .hbm, ⟨23, _⟩ => ⟨S4096x128, .f32⟩
  | .hbm, ⟨24, _⟩ => ⟨S4096x128, .f32⟩
  | .hbm, ⟨25, _⟩ => ⟨S4096x128, .bf16⟩
  | .hbm, ⟨26, _⟩ => ⟨S2048, .f32⟩
  | .hbm, ⟨27, _⟩ => ⟨S2x8192x2048, .bf16⟩
  | .hbm, ⟨28, _⟩ => ⟨S4096x4096, .f32⟩
  | .hbm, ⟨29, _⟩ => ⟨S4096x4096, .bf16⟩
  | .hbm, ⟨30, _⟩ => ⟨S4096, .f32⟩
  | .hbm, ⟨31, _⟩ => ⟨S4096, .f32⟩
  | .hbm, ⟨32, _⟩ => ⟨S1x2048, .f32⟩
  | .hbm, ⟨33, _⟩ => ⟨S1x4096, .f32⟩
  | .hbm, ⟨34, _⟩ => ⟨S1x4096, .f32⟩
  | .hbm, ⟨35, _⟩ => ⟨S2x8192x4096, .f32⟩
  | .hbm, ⟨36, _⟩ => ⟨S2x8192x2x2048, .bf16⟩
  | .hbm, ⟨37, _⟩ => ⟨S2x8192x128, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x512x2048, .bf16⟩
  | .local _ .vmem, ⟨4, _⟩ => ⟨S1x512x2048, .bf16⟩
  | .local _ .vmem, ⟨5, _⟩ => ⟨S4096x256, .bf16⟩
  | .local _ .vmem, ⟨6, _⟩ => ⟨S4096x256, .bf16⟩
  | .local _ .vmem, ⟨7, _⟩ => ⟨S1x512x256, .f32⟩
  | .local _ .vmem, ⟨8, _⟩ => ⟨S1x512x256, .f32⟩
  | .local _ .vmem, ⟨9, _⟩ => ⟨S1x1x256, .f32⟩
  | .local _ .vmem, ⟨10, _⟩ => ⟨S1x1x256, .f32⟩
  | .local _ .vmem, ⟨11, _⟩ => ⟨S1x4096, .f32⟩
  | .local _ .vmem, ⟨12, _⟩ => ⟨S1x4096, .f32⟩
  | .local _ .vmem, ⟨13, _⟩ => ⟨S1x1x4096, .f32⟩
  | .local _ .vmem, ⟨14, _⟩ => ⟨S1x1x4096, .f32⟩
  | .local _ .vmem, ⟨15, _⟩ => ⟨S1x1x4096, .f32⟩
  | .local _ .vmem, ⟨16, _⟩ => ⟨S1x1x4096, .f32⟩
  | .local _ .vmem, ⟨17, _⟩ => ⟨S4096x128, .bf16⟩
  | .local _ .vmem, ⟨18, _⟩ => ⟨S4096x128, .bf16⟩
  | .local _ .vmem, ⟨19, _⟩ => ⟨S1x512x4096, .f32⟩
  | .local _ .vmem, ⟨20, _⟩ => ⟨S1x512x4096, .f32⟩
  | .local _ .vmem, ⟨21, _⟩ => ⟨S1x512x2x2048, .bf16⟩
  | .local _ .vmem, ⟨22, _⟩ => ⟨S1x512x2x2048, .bf16⟩
  | .local _ .vmem, ⟨23, _⟩ => ⟨S1x512x128, .f32⟩
  | .local _ .vmem, ⟨24, _⟩ => ⟨S1x512x128, .f32⟩
  | .local _ .vmem, ⟨25, _⟩ => ⟨S512x4096, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev main_v20_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨3, ![2, 16, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c4_i32 : BitVec 32 := 4#32
  let v27 : BitVec 32 := Scalar.addi c0_i32_15 c4_i32
  let c1_i32 : BitVec 32 := 1#32
  ⟨c0_i32_15, v27, c1_i32⟩
def k0_mult1 (k0_t1 : Fin k0_t1_loop.trips) : BitVec 32 :=
  let c0_i32_15 : BitVec 32 := 0#32
  let c1_i32 : BitVec 32 := 1#32
  let arg19 : BitVec 32 := Scf.iv c0_i32_15 c1_i32 k0_t1
  let c128_i32 : BitVec 32 := 128#32
  let v33 : BitVec 32 := Scalar.muli arg19 c128_i32
  v33
def k0_off1 (k0_t1 : Fin k0_t1_loop.trips) : Fin 3 → Nat :=
  let c0_21 : Index := 0#32
  let c0_i32_15 : BitVec 32 := 0#32
  let c1_i32 : BitVec 32 := 1#32
  let arg19 : BitVec 32 := Scf.iv c0_i32_15 c1_i32 k0_t1
  let c128_i32 : BitVec 32 := 128#32
  let v33 : BitVec 32 := Scalar.muli arg19 c128_i32
  let v34 : BitVec 32 := v33
  let v35 : Index := Scalar.indexCast v34
  let c0_22 : Index := 0#32
  ![0, v35.toNat, 0]
def k0_off2 (k0_t1 : Fin k0_t1_loop.trips) : Fin 2 → Nat :=
  let c0_i32_15 : BitVec 32 := 0#32
  let c1_i32 : BitVec 32 := 1#32
  let arg19 : BitVec 32 := Scf.iv c0_i32_15 c1_i32 k0_t1
  let c128_i32 : BitVec 32 := 128#32
  let v33 : BitVec 32 := Scalar.muli arg19 c128_i32
  let v34 : BitVec 32 := v33
  let v53 : Index := Scalar.indexCast v34
  let c0_28 : Index := 0#32
  ![v53.toNat, 0]
def k0_mult2 (i : grid0.Coords) : BitVec 32 :=
  let arg2 : BitVec 32 := BitVec.ofNat 32 (i 2).val
  let c256_i32 : BitVec 32 := 256#32
  let v7 : BitVec 32 := Scalar.muli arg2 c256_i32
  v7
def k0_off3 (i : grid0.Coords) : Fin 3 → Nat :=
  let c0_12 : Index := 0#32
  let c0_13 : Index := 0#32
  let arg2 : BitVec 32 := BitVec.ofNat 32 (i 2).val
  let c256_i32 : BitVec 32 := 256#32
  let v7 : BitVec 32 := Scalar.muli arg2 c256_i32
  let v8 : BitVec 32 := v7
  let v20 : Index := Scalar.indexCast v8
  ![0, 0, v20.toNat]
def k0_cond2 (i : grid0.Coords) : BitVec 1 :=
  let arg2 : BitVec 32 := BitVec.ofNat 32 (i 2).val
  let c15_i32 : BitVec 32 := 15#32
  let v24 : BitVec 1 := Scalar.cmpi .eq arg2 c15_i32
  let v25 : BitVec 32 := Scalar.extui v24
  let c0_i32_14 : BitVec 32 := 0#32
  let v26 : BitVec 1 := Scalar.cmpi .ne v25 c0_i32_14
  v26

@[reducible] def k0_t2_loop : Scf.Loop 32 :=
  let c0_i32_15 : BitVec 32 := 0#32
  let c4_i32 : BitVec 32 := 4#32
  let v27 : BitVec 32 := Scalar.addi c0_i32_15 c4_i32
  let c1_i32 : BitVec 32 := 1#32
  ⟨c0_i32_15, v27, c1_i32⟩
def k0_mult3 (k0_t2 : Fin k0_t2_loop.trips) : BitVec 32 :=
  let c0_i32_15 : BitVec 32 := 0#32
  let c1_i32 : BitVec 32 := 1#32
  let arg19 : BitVec 32 := Scf.iv c0_i32_15 c1_i32 k0_t2
  let c128_i32 : BitVec 32 := 128#32
  let v28 : BitVec 32 := Scalar.muli arg19 c128_i32
  v28
def k0_off4 (k0_t2 : Fin k0_t2_loop.trips) : Fin 3 → Nat :=
  let c0_17 : Index := 0#32
  let c0_i32_15 : BitVec 32 := 0#32
  let c1_i32 : BitVec 32 := 1#32
  let arg19 : BitVec 32 := Scf.iv c0_i32_15 c1_i32 k0_t2
  let c128_i32 : BitVec 32 := 128#32
  let v28 : BitVec 32 := Scalar.muli arg19 c128_i32
  let v29 : BitVec 32 := v28
  let v30 : Index := Scalar.indexCast v29
  let c0_18 : Index := 0#32
  ![0, v30.toNat, 0]
def k0_off5 (k0_t2 : Fin k0_t2_loop.trips) : Fin 3 → Nat :=
  let c0_46 : Index := 0#32
  let c0_i32_15 : BitVec 32 := 0#32
  let c1_i32 : BitVec 32 := 1#32
  let arg19 : BitVec 32 := Scf.iv c0_i32_15 c1_i32 k0_t2
  let c128_i32 : BitVec 32 := 128#32
  let v28 : BitVec 32 := Scalar.muli arg19 c128_i32
  let v29 : BitVec 32 := v28
  let v88 : Index := Scalar.indexCast v29
  let c0_47 : Index := 0#32
  ![0, v88.toNat, 0]
def k0_off6 (k0_t2 : Fin k0_t2_loop.trips) : Fin 4 → Nat :=
  let c0_48 : Index := 0#32
  let c0_i32_15 : BitVec 32 := 0#32
  let c1_i32 : BitVec 32 := 1#32
  let arg19 : BitVec 32 := Scf.iv c0_i32_15 c1_i32 k0_t2
  let c128_i32 : BitVec 32 := 128#32
  let v28 : BitVec 32 := Scalar.muli arg19 c128_i32
  let v29 : BitVec 32 := v28
  let v95 : Index := Scalar.indexCast v29
  let c0_49 : Index := 0#32
  ![0, v95.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, 0, c0_i32.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x1x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 1 → Memref sig .tc .vmem S4096x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S4096x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1x512x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x512x2x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]
-- ==== Reference4Ideal.lean ====
abbrev S2x8192x2048 : Shape := ⟨3, ![2, 8192, 2048]⟩
abbrev S1x2048 : Shape := ⟨2, ![1, 2048]⟩
abbrev S1x4096x4096 : Shape := ⟨3, ![1, 4096, 4096]⟩
abbrev S2x8192x4096 : Shape := ⟨3, ![2, 8192, 4096]⟩
abbrev S2x1x4096 : Shape := ⟨3, ![2, 1, 4096]⟩
abbrev S1x4096 : Shape := ⟨2, ![1, 4096]⟩
abbrev S1x4096x8 : Shape := ⟨3, ![1, 4096, 8]⟩
abbrev S1x4096x64 : Shape := ⟨3, ![1, 4096, 64]⟩
abbrev S_ : Shape := ⟨0, ![]⟩
abbrev S2x8192 : Shape := ⟨2, ![2, 8192]⟩
abbrev S2x8192x1 : Shape := ⟨3, ![2, 8192, 1]⟩
abbrev S2048 : Shape := ⟨1, ![2048]⟩
abbrev S1x1x2048 : Shape := ⟨3, ![1, 1, 2048]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 72
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S2x8192x2048, .f32⟩
  | .hbm, ⟨3, _⟩ => ⟨S1x4096x4096, .f32⟩
  | .hbm, ⟨4, _⟩ => ⟨S2x8192x4096, .f32⟩
  | .hbm, ⟨5, _⟩ => ⟨S2x1x4096, .f32⟩
  | .hbm, ⟨6, _⟩ => ⟨S1x4096, .f32⟩
  | .hbm, ⟨7, _⟩ => ⟨S1x4096, .f32⟩
  | .hbm, ⟨8, _⟩ => ⟨S2x1x4096, .f32⟩
  | .hbm, ⟨9, _⟩ => ⟨S2x1x4096, .f32⟩
  | .hbm, ⟨10, _⟩ => ⟨S1x4096x8, .f32⟩
  | .hbm, ⟨11, _⟩ => ⟨S1x4096x64, .f32⟩
  | .hbm, ⟨12, _⟩ => ⟨S2x8192x2048, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x2048, .f32⟩
  | .hbm, ⟨24, _⟩ => ⟨S2x8192x2048, .f32⟩
  | .hbm, ⟨25, _⟩ => ⟨S2048, .f32⟩
  | .hbm, ⟨26, _⟩ => ⟨S1x1x2048, .f32⟩
  | .hbm, ⟨27, _⟩ => ⟨S2x8192x2048, .f32⟩
  | .hbm, ⟨28, _⟩ => ⟨S2x8192x2048, .f32⟩
  | .hbm, ⟨29, _⟩ => ⟨S2x8192x4096, .f32⟩
  | .hbm, ⟨30, _⟩ => ⟨S4096x4096, .f32⟩
  | .hbm, ⟨31, _⟩ => ⟨S2x8192x4096, .f32⟩
  | .hbm, ⟨32, _⟩ => ⟨S_, .f32⟩
  | .hbm, ⟨33, _⟩ => ⟨S2x8192x4096, .f32⟩
  | .hbm, ⟨34, _⟩ => ⟨S2x8192x4096, .f32⟩
  | .hbm, ⟨35, _⟩ => ⟨S_, .f32⟩
  | .hbm, ⟨36, _⟩ => ⟨S2x1x4096, .f32⟩
  | .hbm, ⟨37, _⟩ => ⟨S2x1x4096, .f32⟩
  | .hbm, ⟨38, _⟩ => ⟨S2x8192x4096, .f32⟩
  | .hbm, ⟨39, _⟩ => ⟨S2x8192x4096, .f32⟩
  | .hbm, ⟨40, _⟩ => ⟨S2x8192x4096, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S2x8192, .f32⟩
  | .hbm, ⟨45, _⟩ => ⟨S2x8192x1, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S2x8192x4096, .f32⟩
  | .hbm, ⟨50, _⟩ => ⟨S2x8192x4096, .f32⟩
  | .hbm, ⟨51, _⟩ => ⟨S2x8192x4096, .f32⟩
  | .hbm, ⟨52, _⟩ => ⟨S_, .f32⟩
  | .hbm, ⟨53, _⟩ => ⟨S2x8192, .f32⟩
  | .hbm, ⟨54, _⟩ => ⟨S2x8192x1, .f32⟩
  | .hbm, ⟨55, _⟩ => ⟨S_, .f32⟩
  | .hbm, ⟨56, _⟩ => ⟨S2x8192x1, .f32⟩
  | .hbm, ⟨57, _⟩ => ⟨S2x8192x1, .f32⟩
  | .hbm, ⟨58, _⟩ => ⟨S2x8192x4096, .f32⟩
  | .hbm, ⟨59, _⟩ => ⟨S2x8192x4096, .f32⟩
  | .hbm, ⟨60, _⟩ => ⟨S_, .f32⟩
  | .hbm, ⟨61, _⟩ => ⟨S2x8192x1, .f32⟩
  | .hbm, ⟨62, _⟩ => ⟨S2x8192x1, .f32⟩
  | .hbm, ⟨63, _⟩ => ⟨S2x8192x1, .f32⟩
  | .hbm, ⟨64, _⟩ => ⟨S2x8192x4096, .f32⟩
  | .hbm, ⟨65, _⟩ => ⟨S2x8192x4096, .f32⟩
  | .hbm, ⟨66, _⟩ => ⟨S1x1x4096, .f32⟩
  | .hbm, ⟨67, _⟩ => ⟨S2x8192x4096, .f32⟩
  | .hbm, ⟨68, _⟩ => ⟨S2x8192x4096, .f32⟩
  | .hbm, ⟨69, _⟩ => ⟨S1x1x4096, .f32⟩
  | .hbm, ⟨70, _⟩ => ⟨S2x8192x4096, .f32⟩
  | .hbm, ⟨71, _⟩ => ⟨S2x8192x4096, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Proof.KI.Spec.lean ====
module

public import proofs.«01_k».proof.Proof.Gen.KernelIdeal.Skeleton
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.VecWindow

variable {F : FTy → Type} [FloatOps F] [Named F]

/-! ## The parts of the scratch buffers that one point of the grid uses

The running maximum, the accumulator and the scores are used by halves of 512 query rows; the score buffer has two
slots besides. -/

/-- Query rows 0 to 511 of the running maximum. -/
abbrev mLo (x : Vec F S1024x1 .f32) : Vec F S512x1 .f32 := window x ![0, 0] S512x1.size inb_S1024x1_S512x1_0_0
/-- Query rows 512 to 1023 of the running maximum. -/
abbrev mHi (x : Vec F S1024x1 .f32) : Vec F S512x1 .f32 := window x ![512, 0] S512x1.size inb_S1024x1_S512x1_512_0
/-- Query rows 0 to 511 of the accumulator. -/
abbrev aLo (x : Vec F S1024x256 .f32) : Vec F S512x256 .f32 := window x ![0, 0] S512x256.size inb_S1024x256_S512x256_0_0
/-- Query rows 512 to 1023 of the accumulator. -/
abbrev aHi (x : Vec F S1024x256 .f32) : Vec F S512x256 .f32 := window x ![512, 0] S512x256.size inb_S1024x256_S512x256_512_0
/-- Slot 0 of the scores, query rows 0 to 511. -/
abbrev sLo (x : Vec F S2x1024x512 .f32) : Vec F S1x512x512 .f32 := window x ![0, 0, 0] S1x512x512.size inb_S2x1024x512_S1x512x512_0_0_0
/-- Slot 0 of the scores, query rows 512 to 1023. -/
abbrev sHi (x : Vec F S2x1024x512 .f32) : Vec F S1x512x512 .f32 := window x ![0, 512, 0] S1x512x512.size inb_S2x1024x512_S1x512x512_0_512_0

theorem inbLo : ∀ a, (![0, 0, 0] : Fin 3 → ℕ) a + S1x512x512.size a ≤ S1x1024x512.size a := by decide
theorem inbHi : ∀ a, (![0, 512, 0] : Fin 3 → ℕ) a + S1x512x512.size a ≤ S1x1024x512.size a := by decide
/-- Query rows 0 to 511 of one slot's scores. -/
abbrev bLo (x : Vec F S1x1024x512 .f32) : Vec F S1x512x512 .f32 := window x ![0, 0, 0] S1x512x512.size inbLo
/-- Query rows 512 to 1023 of one slot's scores. -/
abbrev bHi (x : Vec F S1x1024x512 .f32) : Vec F S1x512x512 .f32 := window x ![0, 512, 0] S1x512x512.size inbHi

/-! ## Reading a half after a store -/

theorem window_off {α : Type} {s : Shape} (x : s.Idx → α) {off off' size : Fin s.rank → ℕ} (h : off = off') (inb : ∀ a, off a + size a ≤ s.size a)
    (inb' : ∀ a, off' a + size a ≤ s.size a) : window x off size inb = window x off' size inb' := by subst h; rfl

section Reads
variable {sg : RefSig} {κ : Kind} {sp : Space} {s : Shape} {e : EltTy} {Val : EltTy → Type}

/-- A load reads a window of what the buffer holds. -/
theorem readAt_win (v : View sg κ sp s e) (f : v.ty.Contents Val) (off size : Fin s.rank → ℕ) (inb : ∀ a, off a + size a ≤ s.size a) :
    v.readAt Val (Rect.unit off size inb).toLoadRect f = window (v.read Val f) off size inb := View.readAt_unit v f inb rfl inb
/-- A store puts its payload over its window. -/
theorem read_put (v : View sg κ sp s e) (f : v.ty.Contents Val) (off size : Fin s.rank → ℕ) (inb : ∀ a, off a + size a ≤ s.size a)
    (w : (Rect.unit off size inb).shape.Idx → Val e) (L : List (View.Piece Val s e)) :
    v.read Val (v.writes Val f (⟨Rect.unit off size inb, w⟩ :: L)) = put (v.read Val (v.writes Val f L)) off size w :=
  View.read_writes_cons_put v f inb w L rfl
end Reads

theorem m_lo_hi (x : Vec F S1024x1 .f32) (w) (inb) : window (put x ![512, 0] S512x1.size w) ![0, 0] S512x1.size inb = window x ![0, 0] S512x1.size inb :=
  window_put_of_disjoint x _ _ _ _ inb w 0 (by decide)
theorem m_hi_lo (x : Vec F S1024x1 .f32) (w) (inb) : window (put x ![0, 0] S512x1.size w) ![512, 0] S512x1.size inb = window x ![512, 0] S512x1.size inb :=
  window_put_of_disjoint x _ _ _ _ inb w 0 (by decide)
theorem a_lo_hi (x : Vec F S1024x256 .f32) (w) (inb) : window (put x ![512, 0] S512x256.size w) ![0, 0] S512x256.size inb = window x ![0, 0] S512x256.size inb :=
  window_put_of_disjoint x _ _ _ _ inb w 0 (by decide)
theorem a_hi_lo (x : Vec F S1024x256 .f32) (w) (inb) : window (put x ![0, 0] S512x256.size w) ![512, 0] S512x256.size inb = window x ![512, 0] S512x256.size inb :=
  window_put_of_disjoint x _ _ _ _ inb w 0 (by decide)
theorem s_00_1 (x : Vec F S2x1024x512 .f32) (w) (inb) : window (put x ![1, 0, 0] S1x1024x512.size w) ![0, 0, 0] S1x512x512.size inb = window x ![0, 0, 0] S1x512x512.size inb :=
  window_put_of_disjoint x _ _ _ _ inb w 0 (by decide)
theorem s_05_1 (x : Vec F S2x1024x512 .f32) (w) (inb) : window (put x ![1, 0, 0] S1x1024x512.size w) ![0, 512, 0] S1x512x512.size inb = window x ![0, 512, 0] S1x512x512.size inb :=
  window_put_of_disjoint x _ _ _ _ inb w 0 (by decide)
theorem s_10_0 (x : Vec F S2x1024x512 .f32) (w) (inb) : window (put x ![0, 0, 0] S1x1024x512.size w) ![1, 0, 0] S1x512x512.size inb = window x ![1, 0, 0] S1x512x512.size inb :=
  window_put_of_disjoint x _ _ _ _ inb w 0 (by decide)
theorem s_15_0 (x : Vec F S2x1024x512 .f32) (w) (inb) : window (put x ![0, 0, 0] S1x1024x512.size w) ![1, 512, 0] S1x512x512.size inb = window x ![1, 512, 0] S1x512x512.size inb :=
  window_put_of_disjoint x _ _ _ _ inb w 0 (by decide)
theorem s_00_15 (x : Vec F S2x1024x512 .f32) (w) (inb) : window (put x ![1, 512, 0] S1x512x512.size w) ![0, 0, 0] S1x512x512.size inb = window x ![0, 0, 0] S1x512x512.size inb :=
  window_put_of_disjoint x _ _ _ _ inb w 0 (by decide)
theorem s_05_15 (x : Vec F S2x1024x512 .f32) (w) (inb) : window (put x ![1, 512, 0] S1x512x512.size w) ![0, 512, 0] S1x512x512.size inb = window x ![0, 512, 0] S1x512x512.size inb :=
  window_put_of_disjoint x _ _ _ _ inb w 0 (by decide)
theorem s_00_0 (x : Vec F S2x1024x512 .f32) (w : Vec F S1x1024x512 .f32) (inb) : window (put x ![0, 0, 0] S1x1024x512.size w) ![0, 0, 0] S1x512x512.size inb = bLo w := by
  refine (window_put_of_inside x _ _ _ _ inb w (by decide)).trans ?_
  exact window_off _ (by funext a; fin_cases a <;> rfl) _ _
theorem s_05_0 (x : Vec F S2x1024x512 .f32) (w : Vec F S1x1024x512 .f32) (inb) : window (put x ![0, 0, 0] S1x1024x512.size w) ![0, 512, 0] S1x512x512.size inb = bHi w := by
  refine (window_put_of_inside x _ _ _ _ inb w (by decide)).trans ?_
  exact window_off _ (by funext a; fin_cases a <;> rfl) _ _
theorem s_10_1 (x : Vec F S2x1024x512 .f32) (w : Vec F S1x1024x512 .f32) (inb) : window (put x ![1, 0, 0] S1x1024x512.size w) ![1, 0, 0] S1x512x512.size inb = bLo w := by
  refine (window_put_of_inside x _ _ _ _ inb w (by decide)).trans ?_
  exact window_off _ (by funext a; fin_cases a <;> rfl) _ _
theorem s_15_1 (x : Vec F S2x1024x512 .f32) (w : Vec F S1x1024x512 .f32) (inb) : window (put x ![1, 0, 0] S1x1024x512.size w) ![1, 512, 0] S1x512x512.size inb = bHi w := by
  refine (window_put_of_inside x _ _ _ _ inb w (by decide)).trans ?_
  exact window_off _ (by funext a; fin_cases a <;> rfl) _ _

/-! ## One trip as a function -/

/-- What the scratch buffers hold between two trips, by halves: the running maxima, the accumulators, and the scores of
    the key block to be added next. -/
structure St (F : FTy → Type) [FloatOps F] where
  m0 : Vec F S512x1 .f32
  m1 : Vec F S512x1 .f32
  a0 : Vec F S512x256 .f32
  a1 : Vec F S512x256 .f32
  s0 : Vec F S1x512x512 .f32
  s1 : Vec F S1x512x512 .f32

/-- One trip: the block whose scores are at hand is added with its values `w0`; then the block of keys `k1`, `l1` with its
    values `w1`; the scores of the keys `k2`, `l2` are left for the next trip. -/
def tripF (v24 : FVec F S1024x256 .bf16) (v25 : FVec F S512x128 .bf16) (k1 : Vec F S1x512x128 .bf16) (l1 : Vec F S1x1x512x128 .bf16) (w0 : Vec F S1x512x128 .bf16)
    (k2 : Vec F S1x512x128 .bf16) (l2 : Vec F S1x1x512x128 .bf16) (w1 : Vec F S1x512x128 .bf16) (S : St F) : St F where
  m0 := k0_pay50 (k0_pay18 (bLo (k0_pay3 v24 k1 l1)) (k0_pay10 (k0_pay6 S.s0 S.m0)))
  m1 := k0_pay54 (bHi (k0_pay3 v24 k1 l1)) (k0_pay14 S.s1 S.m1)
  a0 := k0_pay49 (k0_pay16 v25 w1) (k0_pay19 (bLo (k0_pay3 v24 k1 l1)) (k0_pay10 (k0_pay6 S.s0 S.m0)) (k0_pay9 (k0_pay4 v25 w0) (k0_pay7 S.s0 S.m0) (k0_pay8 S.s0 S.m0) S.a0))
    (k0_pay20 (bLo (k0_pay3 v24 k1 l1)) (k0_pay10 (k0_pay6 S.s0 S.m0)))
  a1 := k0_pay53 (k0_pay16 v25 w1) (bHi (k0_pay3 v24 k1 l1)) (k0_pay14 S.s1 S.m1) (k0_pay13 (k0_pay4 v25 w0) S.s1 S.m1 S.a1)
  s0 := bLo (k0_pay15 v24 k2 l2)
  s1 := bHi (k0_pay15 v24 k2 l2)

end Cert.KernelIdeal.Hand
end
-- ==== Proof.KI.Trip.lean ====
module

public import proofs.«01_k».proof.Proof.KI.Spec
public import Idealize.ShloMosaic.Lib.Exec
public import Idealize.ShloMosaic.Lib.Tactic
public import Idealize.ShloMosaic.Lib.Pipeline.Kit

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.VecWindow

variable {F : FTy → Type} [FloatOps F] [Named F]

set_option maxRecDepth 8192

/-- Trip `k` at the point's key, key-bias and value blocks. -/
def tripAt (i : grid0.Coords) (v24 : FVec F S1024x256 .bf16) (v25 : FVec F S512x128 .bf16) (K : Vec F S1x8192x128 .bf16) (KA : Vec F S1x1x8192x128 .bf16) (W : Vec F S1x8192x128 .bf16)
    (k : Fin (k0_t1_loop i).trips) (S : St F) : St F :=
  tripF v24 v25 (window K (k0_off1 i k 0#32) S1x512x128.size (k0_off1_inb i k 0)) (window KA (k0_off2 i k 0#32) S1x1x512x128.size (k0_off2_inb i k 0))
    (window W (k0_off3 i k 0#32) S1x512x128.size (k0_off3_inb i k 0))
    (window K (k0_off1 i k 1#32) S1x512x128.size (k0_off1_inb i k 1)) (window KA (k0_off2 i k 1#32) S1x1x512x128.size (k0_off2_inb i k 1))
    (window W (k0_off3 i k 1#32) S1x512x128.size (k0_off3_inb i k 1)) S

set_option maxHeartbeats 4000000 in
/-- One trip of the loop over key blocks takes the scratch buffers, held by halves, from `S` to `tripAt … S`. -/
theorem trip_run (𝒱 : Variants) (c : Dev nD) (bd : Option 𝒱.V) (i : grid0.Coords) (arg3 : Memref sig .tc .vmem S1x1024x128 .bf16) (harg3 : arg3.IsWhole) (arg4 : Memref sig .tc .vmem S1x1x1024x128 .bf16) (harg4 : arg4.IsWhole) (arg5 : Memref sig .tc .vmem S1x8192x128 .bf16) (harg5 : arg5.IsWhole) (arg6 : Memref sig .tc .vmem S1x1x8192x128 .bf16) (harg6 : arg6.IsWhole) (arg7 : Memref sig .tc .vmem S1x8192x128 .bf16) (harg7 : arg7.IsWhole) (arg8 : Memref sig .tc .vmem S1x16x2048 .f32) (harg8 : arg8.IsWhole) (arg9 : Memref sig .tc .vmem S1x16x4096 .f32) (harg9 : arg9.IsWhole) (arg10 : Memref sig .tc .vmem S1x1024x512 .f32) (harg10 : arg10.IsWhole) (arg11 : Memref sig .tc .vmem S1x1024x512 .f32) (harg11 : arg11.IsWhole) (arg12 : Memref sig .tc .vmem S1x128x4096 .f32) (harg12 : arg12.IsWhole) (arg13 : Memref sig .tc .vmem S1x1024x128 .f32) (harg13 : arg13.IsWhole) (arg14 : Memref sig .tc .vmem S1x16x2048 .bf16) (harg14 : arg14.IsWhole) (arg15 : Memref sig .tc .vmem S1x16x4096 .bf16) (harg15 : arg15.IsWhole) (arg16 : Memref sig .tc .vmem S1x1024x512 .bf16) (harg16 : arg16.IsWhole) (arg17 : Memref sig .tc .vmem S1x1024x512 .bf16) (harg17 : arg17.IsWhole) (arg18 : Memref sig .tc .vmem S1x128x4096 .bf16) (harg18 : arg18.IsWhole) (arg19 : Memref sig .tc .vmem S1024x1 .f32) (harg19 : arg19.IsWhole) (arg20 : Memref sig .tc .vmem S1024x256 .f32) (harg20 : arg20.IsWhole) (arg21 : Memref sig .tc .vmem S2x1024x512 .f32) (harg21 : arg21.IsWhole) (arg2 : BitVec 32) (v24 : FVec F S1024x256 .bf16) (v25 : FVec F S512x128 .bf16) (c0_i32_52 : BitVec 32) (v50 : BitVec 32) (c1_i32_53 : BitVec 32)
   (X5 : BufTy.Contents (Elt F) arg5.view.ty) (X6 : BufTy.Contents (Elt F) arg6.view.ty) (X7 : BufTy.Contents (Elt F) arg7.view.ty)
   (k : Fin (k0_t1_loop i).trips) (E : Set ℕ) (S : St F) :
   (iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
     ∗ (∃ f, (arg19.view.loc (c : Thread nD τ) ↦[arg19.view.set]{fullShare} f) ∗ ⌜mLo (arg19.view.read (Elt F) f) = (S).m0 ∧ mHi (arg19.view.read (Elt F) f) = (S).m1⌝)
       ∗ (∃ f, (arg20.view.loc (c : Thread nD τ) ↦[arg20.view.set]{fullShare} f) ∗ ⌜aLo (arg20.view.read (Elt F) f) = (S).a0 ∧ aHi (arg20.view.read (Elt F) f) = (S).a1⌝)
       ∗ (∃ f, (arg21.view.loc (c : Thread nD τ) ↦[arg21.view.set]{fullShare} f) ∗ ⌜sLo (arg21.view.read (Elt F) f) = (S).s0 ∧ sHi (arg21.view.read (Elt F) f) = (S).s1⌝)) : sProp (MT nD τ sig Unit (Elt F) ℕ (UR sig nD τ) ℕ))
   ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg2 v24 v25 c0_i32_52 v50 c1_i32_53 k ())
      (fun _ => iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
       ∗ (∃ f, (arg19.view.loc (c : Thread nD τ) ↦[arg19.view.set]{fullShare} f) ∗ ⌜mLo (arg19.view.read (Elt F) f) = ((tripAt i v24 v25 (arg5.view.read (Elt F) X5) (arg6.view.read (Elt F) X6) (arg7.view.read (Elt F) X7) k S)).m0 ∧ mHi (arg19.view.read (Elt F) f) = ((tripAt i v24 v25 (arg5.view.read (Elt F) X5) (arg6.view.read (Elt F) X6) (arg7.view.read (Elt F) X7) k S)).m1⌝)
       ∗ (∃ f, (arg20.view.loc (c : Thread nD τ) ↦[arg20.view.set]{fullShare} f) ∗ ⌜aLo (arg20.view.read (Elt F) f) = ((tripAt i v24 v25 (arg5.view.read (Elt F) X5) (arg6.view.read (Elt F) X6) (arg7.view.read (Elt F) X7) k S)).a0 ∧ aHi (arg20.view.read (Elt F) f) = ((tripAt i v24 v25 (arg5.view.read (Elt F) X5) (arg6.view.read (Elt F) X6) (arg7.view.read (Elt F) X7) k S)).a1⌝)
       ∗ (∃ f, (arg21.view.loc (c : Thread nD τ) ↦[arg21.view.set]{fullShare} f) ∗ ⌜sLo (arg21.view.read (Elt F) f) = ((tripAt i v24 v25 (arg5.view.read (Elt F) X5) (arg6.view.read (Elt F) X6) (arg7.view.read (Elt F) X7) k S)).s0 ∧ sHi (arg21.view.read (Elt F) f) = ((tripAt i v24 v25 (arg5.view.read (Elt F) X5) (arg6.view.read (Elt F) X6) (arg7.view.read (Elt F) X7) k S)).s1⌝))) := by
  unfold k0_t1_body
  simp only [k0_part1_eq_skeleton, k0_part2_eq_skeleton, k0_part3_eq_skeleton]
  unfold k0_part1_skel k0_part2_skel k0_part3_skel
  iintro ⟨HR_arg5, HR_arg6, HR_arg7, ⟨%f19, HW_arg19, %h19⟩, ⟨%f20, HW_arg20, %h20⟩, ⟨%f21, HW_arg21, %h21⟩⟩
  obtain ⟨h19a, h19b⟩ := h19
  obtain ⟨h20a, h20b⟩ := h20
  obtain ⟨h21a, h21b⟩ := h21
  unfold mLo at h19a
  unfold mHi at h19b
  unfold aLo at h20a
  unfold aHi at h20b
  unfold sLo at h21a
  unfold sHi at h21b
  sl_exec
  sl_step
  isplitl [HR_arg5]; · iexact HR_arg5
  isplitl [HR_arg6]; · iexact HR_arg6
  isplitl [HR_arg7]; · iexact HR_arg7
  isplitl [HW_arg19]
  · iexists _; isplitl [HW_arg19]; · iexact HW_arg19
    ipureintro
    sl_unfold_run_names
    unfold tripAt tripF mLo mHi
    simp only [View.readCov, readAt_win, read_put, View.writes_nil]
    repeat first | rw [window_put_same] | rw [m_lo_hi] | rw [m_hi_lo] | rw [a_lo_hi] | rw [a_hi_lo] | rw [s_00_1] | rw [s_05_1] | rw [s_10_0] | rw [s_15_0] | rw [s_00_0] | rw [s_05_0] | rw [s_10_1] | rw [s_15_1]
    try rw [h19a]
    try rw [h19b]
    try rw [h20a]
    try rw [h20b]
    try rw [h21a]
    try rw [h21b]
    exact ⟨rfl, rfl⟩
  isplitl [HW_arg20]
  · iexists _; isplitl [HW_arg20]; · iexact HW_arg20
    ipureintro
    sl_unfold_run_names
    unfold tripAt tripF aLo aHi
    simp only [View.readCov, readAt_win, read_put, View.writes_nil]
    repeat first | rw [window_put_same] | rw [m_lo_hi] | rw [m_hi_lo] | rw [a_lo_hi] | rw [a_hi_lo] | rw [s_00_1] | rw [s_05_1] | rw [s_10_0] | rw [s_15_0] | rw [s_00_0] | rw [s_05_0] | rw [s_10_1] | rw [s_15_1]
    try rw [h19a]
    try rw [h19b]
    try rw [h20a]
    try rw [h20b]
    try rw [h21a]
    try rw [h21b]
    exact ⟨rfl, rfl⟩
  iexists _; isplitl [HW_arg21]; · iexact HW_arg21
  ipureintro
  sl_unfold_run_names
  unfold tripAt tripF sLo sHi
  simp only [View.readCov, readAt_win, read_put, View.writes_nil]
  repeat first | rw [window_put_same] | rw [m_lo_hi] | rw [m_hi_lo] | rw [a_lo_hi] | rw [a_hi_lo] | rw [s_00_1] | rw [s_05_1] | rw [s_10_0] | rw [s_15_0] | rw [s_00_0] | rw [s_05_0] | rw [s_10_1] | rw [s_15_1]
  try rw [h19a]
  try rw [h19b]
  try rw [h20a]
  try rw [h20b]
  try rw [h21a]
  try rw [h21b]
  exact ⟨rfl, rfl⟩

end Cert.KernelIdeal.Hand
end
-- ==== Proof.KI.Body.lean ====
module

public import proofs.«01_k».proof.Proof.KI.Trip
public import Idealize.ShloMosaic.Lib.LoopRemainder

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.VecWindow

variable {F : FTy → Type} [FloatOps F] [Named F]

set_option maxRecDepth 8192

/-! ## What one point computes -/

/-- The scratch buffers before the first trip: the running maxima at the mask's value, the accumulators at zero, the scores of the
    first key block. -/
def st0 (Q : Vec F S1x1024x128 .bf16) (QA : Vec F S1x1x1024x128 .bf16) (K : Vec F S1x8192x128 .bf16) (KA : Vec F S1x1x8192x128 .bf16) : St F where
  m0 := mLo (k0_pay46 (F := F))
  m1 := mHi (k0_pay46 (F := F))
  a0 := aLo (k0_pay47 (F := F))
  a1 := aHi (k0_pay47 (F := F))
  s0 := bLo (k0_pay48 Q QA (window K ![0, 0, 0] S1x512x128.size inb_S1x8192x128_S1x512x128_0_0_0) (window KA ![0, 0, 0, 0] S1x1x512x128.size inb_S1x1x8192x128_S1x1x512x128_0_0_0_0))
  s1 := bHi (k0_pay48 Q QA (window K ![0, 0, 0] S1x512x128.size inb_S1x8192x128_S1x512x128_0_0_0) (window KA ![0, 0, 0, 0] S1x1x512x128.size inb_S1x1x8192x128_S1x1x512x128_0_0_0_0))

/-- The scratch buffers after `k` trips. -/
def stAt (i : grid0.Coords) (Q : Vec F S1x1024x128 .bf16) (QA : Vec F S1x1x1024x128 .bf16) (K : Vec F S1x8192x128 .bf16) (KA : Vec F S1x1x8192x128 .bf16)
    (W : Vec F S1x8192x128 .bf16) : ℕ → St F
  | 0 => st0 Q QA K KA
  | k + 1 => if h : k < (k0_t1_loop i).trips then tripAt i (k0_pay44 Q QA) (k0_pay45 (F := F)) K KA W ⟨k, h⟩ (stAt i Q QA K KA W k) else stAt i Q QA K KA W k

theorem stAt_succ (i : grid0.Coords) (Q : Vec F S1x1024x128 .bf16) (QA : Vec F S1x1x1024x128 .bf16) (K : Vec F S1x8192x128 .bf16) (KA : Vec F S1x1x8192x128 .bf16)
    (W : Vec F S1x8192x128 .bf16) (k : Fin (k0_t1_loop i).trips) :
    stAt i Q QA K KA W (k.val + 1) = tripAt i (k0_pay44 Q QA) (k0_pay45 (F := F)) K KA W k (stAt i Q QA K KA W k.val) := by
  rw [stAt.eq_2]; exact dif_pos k.isLt

/-- The accumulator from its two halves. -/
def joinA (a0 a1 : Vec F S512x256 .f32) : Vec F S1024x256 .f32 :=
  put (put (k0_pay47 (F := F)) ![0, 0] S512x256.size a0) ![512, 0] S512x256.size a1

/-- The last two key blocks, which the diagonal crosses: the lower query rows see the first of them up to the diagonal,
    the upper query rows the whole of it and the second up to the diagonal. -/
def lastF (i : grid0.Coords) (Q : Vec F S1x1024x128 .bf16) (QA : Vec F S1x1x1024x128 .bf16) (K : Vec F S1x8192x128 .bf16) (KA : Vec F S1x1x8192x128 .bf16)
    (W : Vec F S1x8192x128 .bf16) (S : St F) : Vec F S1024x256 .f32 :=
  joinA (k0_pay65 (k0_pay62 (k0_pay45 (F := F)) (window W (k0_off9 i 0#32) S1x512x128.size (k0_off9_inb i 0))) (k0_pay63 S.s0) S.m0 S.a0)
    (k0_pay73 (k0_pay45 (F := F)) (window W (k0_off9 i 1#32) S1x512x128.size (k0_off9_inb i 1))
      (k0_pay61 (k0_pay44 Q QA) (window K (k0_off7 i) S1x512x128.size (k0_off7_inb i)) (window KA (k0_off8 i) S1x1x512x128.size (k0_off8_inb i)))
      (k0_pay70 (k0_pay68 S.s1 S.m1)) (k0_pay69 (k0_pay62 (k0_pay45 (F := F)) (window W (k0_off9 i 0#32) S1x512x128.size (k0_off9_inb i 0))) S.s1 S.m1 S.a1))

/-- What one point leaves in its block of the attention's result. -/
def outO (i : grid0.Coords) (Q : Vec F S1x1024x128 .bf16) (QA : Vec F S1x1x1024x128 .bf16) (K : Vec F S1x8192x128 .bf16) (KA : Vec F S1x1x8192x128 .bf16)
    (W : Vec F S1x8192x128 .bf16) : Vec F S1x1024x128 .f32 :=
  k0_pay2 (window (lastF i Q QA K KA W (stAt i Q QA K KA W (k0_t1_loop i).trips)) ![0, 0] S1024x128.size inb_S1024x256_S1024x128_0_0)
    (window (lastF i Q QA K KA W (stAt i Q QA K KA W (k0_t1_loop i).trips)) ![0, 128] S1024x128.size inb_S1024x256_S1024x128_0_128)

/-- Two arrays with the same halves put over them are the same. -/
theorem put_cover (x x' : Vec F S1024x256 .f32) (a b : Vec F S512x256 .f32) :
    put (put x ![0, 0] S512x256.size a) ![512, 0] S512x256.size b = put (put x' ![0, 0] S512x256.size a) ![512, 0] S512x256.size b := by
  funext y
  unfold put
  by_cases h1 : ∀ q : Fin S1024x256.rank, (![512, 0] : Fin 2 → ℕ) q ≤ (y q).val ∧ (y q).val < (![512, 0] : Fin 2 → ℕ) q + S512x256.size q
  · rw [dif_pos h1, dif_pos h1]
  · rw [dif_neg h1, dif_neg h1]
    have h2 : ∀ q : Fin S1024x256.rank, (![0, 0] : Fin 2 → ℕ) q ≤ (y q).val ∧ (y q).val < (![0, 0] : Fin 2 → ℕ) q + S512x256.size q := by
      have e0 : (y 0).val < 1024 := (y 0).isLt
      have e1 : (y 1).val < 256 := (y 1).isLt
      intro q
      fin_cases q
      · refine ⟨Nat.zero_le _, ?_⟩
        by_contra h3
        refine h1 fun q => ?_
        fin_cases q
        · exact ⟨by simpa using h3, by simpa using e0⟩
        · exact ⟨Nat.zero_le _, by simpa using e1⟩
      · exact ⟨Nat.zero_le _, by simpa using e1⟩
    rw [dif_pos h2, dif_pos h2]

/-- The invariant of the loop over key blocks. -/
def loopI (c : Dev nD) (i : grid0.Coords) (arg3 : Memref sig .tc .vmem S1x1024x128 .bf16) (harg3 : arg3.IsWhole) (arg4 : Memref sig .tc .vmem S1x1x1024x128 .bf16) (harg4 : arg4.IsWhole) (arg5 : Memref sig .tc .vmem S1x8192x128 .bf16) (harg5 : arg5.IsWhole) (arg6 : Memref sig .tc .vmem S1x1x8192x128 .bf16) (harg6 : arg6.IsWhole) (arg7 : Memref sig .tc .vmem S1x8192x128 .bf16) (harg7 : arg7.IsWhole) (arg8 : Memref sig .tc .vmem S1x16x2048 .f32) (harg8 : arg8.IsWhole) (arg9 : Memref sig .tc .vmem S1x16x4096 .f32) (harg9 : arg9.IsWhole) (arg10 : Memref sig .tc .vmem S1x1024x512 .f32) (harg10 : arg10.IsWhole) (arg11 : Memref sig .tc .vmem S1x1024x512 .f32) (harg11 : arg11.IsWhole) (arg12 : Memref sig .tc .vmem S1x128x4096 .f32) (harg12 : arg12.IsWhole) (arg13 : Memref sig .tc .vmem S1x1024x128 .f32) (harg13 : arg13.IsWhole) (arg14 : Memref sig .tc .vmem S1x16x2048 .bf16) (harg14 : arg14.IsWhole) (arg15 : Memref sig .tc .vmem S1x16x4096 .bf16) (harg15 : arg15.IsWhole) (arg16 : Memref sig .tc .vmem S1x1024x512 .bf16) (harg16 : arg16.IsWhole) (arg17 : Memref sig .tc .vmem S1x1024x512 .bf16) (harg17 : arg17.IsWhole) (arg18 : Memref sig .tc .vmem S1x128x4096 .bf16) (harg18 : arg18.IsWhole) (arg19 : Memref sig .tc .vmem S1024x1 .f32) (harg19 : arg19.IsWhole) (arg20 : Memref sig .tc .vmem S1024x256 .f32) (harg20 : arg20.IsWhole) (arg21 : Memref sig .tc .vmem S2x1024x512 .f32) (harg21 : arg21.IsWhole)
   (X3 : Vec F S1x1024x128 .bf16) (X4 : Vec F S1x1x1024x128 .bf16) (X5 : BufTy.Contents (Elt F) arg5.view.ty) (X6 : BufTy.Contents (Elt F) arg6.view.ty) (X7 : BufTy.Contents (Elt F) arg7.view.ty) (k : ℕ) (_ : Unit) :
   sProp (MT nD τ sig Unit (Elt F) ℕ (UR sig nD τ) ℕ) :=
  iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg19.view.loc (c : Thread nD τ) ↦[arg19.view.set]{fullShare} f) ∗ ⌜mLo (arg19.view.read (Elt F) f) = (stAt i X3 X4 (arg5.view.read (Elt F) X5) (arg6.view.read (Elt F) X6) (arg7.view.read (Elt F) X7) k).m0 ∧ mHi (arg19.view.read (Elt F) f) = (stAt i X3 X4 (arg5.view.read (Elt F) X5) (arg6.view.read (Elt F) X6) (arg7.view.read (Elt F) X7) k).m1⌝)
       ∗ (∃ f, (arg20.view.loc (c : Thread nD τ) ↦[arg20.view.set]{fullShare} f) ∗ ⌜aLo (arg20.view.read (Elt F) f) = (stAt i X3 X4 (arg5.view.read (Elt F) X5) (arg6.view.read (Elt F) X6) (arg7.view.read (Elt F) X7) k).a0 ∧ aHi (arg20.view.read (Elt F) f) = (stAt i X3 X4 (arg5.view.read (Elt F) X5) (arg6.view.read (Elt F) X6) (arg7.view.read (Elt F) X7) k).a1⌝)
       ∗ (∃ f, (arg21.view.loc (c : Thread nD τ) ↦[arg21.view.set]{fullShare} f) ∗ ⌜sLo (arg21.view.read (Elt F) f) = (stAt i X3 X4 (arg5.view.read (Elt F) X5) (arg6.view.read (Elt F) X6) (arg7.view.read (Elt F) X7) k).s0 ∧ sHi (arg21.view.read (Elt F) f) = (stAt i X3 X4 (arg5.view.read (Elt F) X5) (arg6.view.read (Elt F) X6) (arg7.view.read (Elt F) X7) k).s1⌝))

set_option maxHeartbeats 8000000 in
/-- The body on whole staging and scratch buffers: the inputs are left as they were, the results hold what `outO` and the
    casts say, whatever the results and the scratch held before. -/
theorem sound_kernel (c : Dev nD) (i : grid0.Coords) (E : Set ℕ) (arg3 : Memref sig .tc .vmem S1x1024x128 .bf16) (harg3 : arg3.IsWhole) (arg4 : Memref sig .tc .vmem S1x1x1024x128 .bf16) (harg4 : arg4.IsWhole) (arg5 : Memref sig .tc .vmem S1x8192x128 .bf16) (harg5 : arg5.IsWhole) (arg6 : Memref sig .tc .vmem S1x1x8192x128 .bf16) (harg6 : arg6.IsWhole) (arg7 : Memref sig .tc .vmem S1x8192x128 .bf16) (harg7 : arg7.IsWhole) (arg8 : Memref sig .tc .vmem S1x16x2048 .f32) (harg8 : arg8.IsWhole) (arg9 : Memref sig .tc .vmem S1x16x4096 .f32) (harg9 : arg9.IsWhole) (arg10 : Memref sig .tc .vmem S1x1024x512 .f32) (harg10 : arg10.IsWhole) (arg11 : Memref sig .tc .vmem S1x1024x512 .f32) (harg11 : arg11.IsWhole) (arg12 : Memref sig .tc .vmem S1x128x4096 .f32) (harg12 : arg12.IsWhole) (arg13 : Memref sig .tc .vmem S1x1024x128 .f32) (harg13 : arg13.IsWhole) (arg14 : Memref sig .tc .vmem S1x16x2048 .bf16) (harg14 : arg14.IsWhole) (arg15 : Memref sig .tc .vmem S1x16x4096 .bf16) (harg15 : arg15.IsWhole) (arg16 : Memref sig .tc .vmem S1x1024x512 .bf16) (harg16 : arg16.IsWhole) (arg17 : Memref sig .tc .vmem S1x1024x512 .bf16) (harg17 : arg17.IsWhole) (arg18 : Memref sig .tc .vmem S1x128x4096 .bf16) (harg18 : arg18.IsWhole) (arg19 : Memref sig .tc .vmem S1024x1 .f32) (harg19 : arg19.IsWhole) (arg20 : Memref sig .tc .vmem S1024x256 .f32) (harg20 : arg20.IsWhole) (arg21 : Memref sig .tc .vmem S2x1024x512 .f32) (harg21 : arg21.IsWhole)
   (x3 : Vec F S1x1024x128 .bf16) (x4 : Vec F S1x1x1024x128 .bf16) (x5 : Vec F S1x8192x128 .bf16) (x6 : Vec F S1x1x8192x128 .bf16) (x7 : Vec F S1x8192x128 .bf16)
   (x8 : Vec F S1x16x2048 .f32) (x9 : Vec F S1x16x4096 .f32) (x10 x11 : Vec F S1x1024x512 .f32) (x12 : Vec F S1x128x4096 .f32)
   (K : PUnit → sProp (MT nD τ sig Unit (Elt F) ℕ (UR sig nD τ) ℕ)) :
   iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
     ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (outO i x3 x4 x5 x6 x7) ∗ owns (c : Thread nD τ) arg14 fullShare (k0_pay39 x8) ∗ owns (c : Thread nD τ) arg15 fullShare (k0_pay40 x9) ∗ owns (c : Thread nD τ) arg16 fullShare (k0_pay41 x10) ∗ owns (c : Thread nD τ) arg17 fullShare (k0_pay42 x11) ∗ owns (c : Thread nD τ) arg18 fullShare (k0_pay43 x12) ∗ (∃ d, owns (c : Thread nD τ) arg19 fullShare d) ∗ (∃ d, owns (c : Thread nD τ) arg20 fullShare d) ∗ (∃ d, owns (c : Thread nD τ) arg21 fullShare d)) -∗ K ⟨⟩))
   ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  rw [cc0_attention_eq_skeleton]
  unfold cc0_attention_skel
  simp only [k0_part7_eq_skeleton, k0_part8_eq_skeleton, k0_part9_eq_skeleton, k0_part10_eq_skeleton, k0_part11_eq_skeleton]
  unfold k0_part7_skel k0_part8_skel k0_part9_skel k0_part10_skel k0_part11_skel
  simp only [bind_assoc, pure_bind]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst hf3 hf4 hf5 hf6 hf7 hf8 hf9 hf10 hf11 hf12
  sl_exec
  sl_for (loopI c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (arg3.view.readAt (Elt F) (Rect.unit (s := S1x1024x128) ![0, 0, 0] S1x1024x128.size inb_S1x1024x128_S1x1024x128_0_0_0).toLoadRect f3) (arg4.view.readAt (Elt F) (Rect.unit (s := S1x1x1024x128) ![0, 0, 0, 0] S1x1x1024x128.size inb_S1x1x1024x128_S1x1x1024x128_0_0_0_0).toLoadRect f4) f5 f6 f7) $$ [H5 H6 H7 H19 H20 H21]
  case region =>
    intro k _
    unfold loopI
    rw [stAt_succ]
    exact trip_run Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ f5 f6 f7 k E _
  · unfold loopI
    isplitl [H5]; · iexact H5
    isplitl [H6]; · iexact H6
    isplitl [H7]; · iexact H7
    isplitl [H19]
    · iexists _; isplitl [H19]; · iexact H19
      ipureintro
      sl_unfold_run_names
      rw [View.read_writes_full]
      exact ⟨rfl, rfl⟩
    isplitl [H20]
    · iexists _; isplitl [H20]; · iexact H20
      ipureintro
      sl_unfold_run_names
      rw [View.read_writes_full]
      exact ⟨rfl, rfl⟩
    iexists _; isplitl [H21]; · iexact H21
    ipureintro
    sl_unfold_run_names
    unfold stAt st0 sLo sHi
    rw [read_put, s_00_0, s_05_0, readAt_win arg5.view, readAt_win arg6.view]
    exact ⟨rfl, rfl⟩
  iintro %acc HI
  unfold loopI
  icases HI with ⟨H5, H6, H7, ⟨%g19, H19, %h19⟩, ⟨%g20, H20, %h20⟩, ⟨%g21, H21, %h21⟩⟩
  obtain ⟨h19a, h19b⟩ := h19
  obtain ⟨h20a, h20b⟩ := h20
  obtain ⟨h21a, h21b⟩ := h21
  rw [View.readAt_full arg3.view, View.readAt_full arg4.view] at h19a h19b h20a h20b h21a h21b
  sl_exec
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  isplitl [H12]
  · iexists _; isplitr; · ipureintro; rfl
    iexact H12
  isplitl [H13]
  · iexists _; isplitr; swap; · iexact H13
    ipureintro
    sl_unfold_run_names
    refine (View.read_writes_full _ _ _ _ _).trans ?_
    rw [View.readAt_full arg3.view, View.readAt_full arg4.view]
    unfold outO lastF joinA
    unfold mLo at h19a
    unfold mHi at h19b
    unfold aLo at h20a
    unfold aHi at h20b
    unfold sLo at h21a
    unfold sHi at h21b
    simp only [View.readCov, readAt_win, read_put, View.writes_nil]
    repeat first | rw [window_put_same] | rw [m_lo_hi] | rw [m_hi_lo] | rw [a_lo_hi] | rw [a_hi_lo] | rw [s_00_15] | rw [s_05_15] | rw [h19a] | rw [h19b] | rw [h20a] | rw [h20b] | rw [h21a] | rw [h21b]
    rw [put_put_same, put_cover _ (k0_pay47 (F := F))]
  isplitl [H14]
  · iexists _; isplitr; swap; · iexact H14
    ipureintro
    sl_unfold_run_names
    exact (View.read_writes_full _ _ _ _ _).trans (congrArg _ (View.readAt_full _ _ _))
  isplitl [H15]
  · iexists _; isplitr; swap; · iexact H15
    ipureintro
    sl_unfold_run_names
    exact (View.read_writes_full _ _ _ _ _).trans (congrArg _ (View.readAt_full _ _ _))
  isplitl [H16]
  · iexists _; isplitr; swap; · iexact H16
    ipureintro
    sl_unfold_run_names
    exact (View.read_writes_full _ _ _ _ _).trans (congrArg _ (View.readAt_full _ _ _))
  isplitl [H17]
  · iexists _; isplitr; swap; · iexact H17
    ipureintro
    sl_unfold_run_names
    exact (View.read_writes_full _ _ _ _ _).trans (congrArg _ (View.readAt_full _ _ _))
  isplitl [H18]
  · iexists _; isplitr; swap; · iexact H18
    ipureintro
    sl_unfold_run_names
    exact (View.read_writes_full _ _ _ _ _).trans (congrArg _ (View.readAt_full _ _ _))
  isplitl [H19]
  · iexists _; iexists _; isplitr; swap; · iexact H19
    ipureintro; rfl
  isplitl [H20]
  · iexists _; iexists _; isplitr; swap; · iexact H20
    ipureintro; rfl
  iexists _; iexists _; isplitr; swap; · iexact H21
  ipureintro; rfl

end Cert.KernelIdeal.Hand
end
-- ==== Proof.KI.Run.lean ====
module

public import proofs.«01_k».proof.Proof.KI.Body
public import proofs.«01_k».proof.Proof.Gen.KernelIdeal.Frame
public import Idealize.ShloMosaic.Lib.Pipeline.FrameSuffix
public import Idealize.ShloMosaic.Lib.Claim

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

variable (m : (ℓ : Loc nD τ sig) → Buf (Elt F) ℓ) (ρ : Dev nD → PrngReg)

set_option maxRecDepth 8192

/-- The pipeline's proof data: the arrays as the region finds them; after the body each input's buffer at its block and the
    results' at what the point computes of them. The three windows on one array divide its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outO (grid0.coords t) (iblk m c 0 t) (iblk m c 1 t) (iblk m c 2 t) (iblk m c 3 t) (iblk m c 4 t)
    | ⟨11, _⟩ => k0_pay39 (iblk m c 5 t)
    | ⟨12, _⟩ => k0_pay40 (iblk m c 6 t)
    | ⟨13, _⟩ => k0_pay41 (iblk m c 7 t)
    | ⟨14, _⟩ => k0_pay42 (iblk m c 8 t)
    | ⟨15, _⟩ => k0_pay43 (iblk m c 9 t)
    | ⟨_ + 16, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outO (grid0.coords t) (iblk m c 0 t) (iblk m c 1 t) (iblk m c 2 t) (iblk m c 3 t) (iblk m c 4 t) := by dsimp only [dats]
theorem after0_11 (c : Dev nD) (t : Fin cfg0.N) : (dats m 0 c).after 11 t = k0_pay39 (iblk m c 5 t) := by dsimp only [dats]
theorem after0_12 (c : Dev nD) (t : Fin cfg0.N) : (dats m 0 c).after 12 t = k0_pay40 (iblk m c 6 t) := by dsimp only [dats]
theorem after0_13 (c : Dev nD) (t : Fin cfg0.N) : (dats m 0 c).after 13 t = k0_pay41 (iblk m c 7 t) := by dsimp only [dats]
theorem after0_14 (c : Dev nD) (t : Fin cfg0.N) : (dats m 0 c).after 14 t = k0_pay42 (iblk m c 8 t) := by dsimp only [dats]
theorem after0_15 (c : Dev nD) (t : Fin cfg0.N) : (dats m 0 c).after 15 t = k0_pay43 (iblk m c 9 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body starts from at point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)))
/-- What it ends in. -/
def bodyPost (c : Dev nD) (t : Fin cfg0.N) : sProp (MT nD τ sig Unit (Elt F) ℕ (UR sig nD τ) ℕ) :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t))

set_option maxHeartbeats 4000000 in
/-- The body at point `t`: the scratch buffers come from the region's scoped memory and go back to it. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5, after0_6, after0_7, after0_8, after0_9, after0_10, after0_11, after0_12, after0_13, after0_14, after0_15]
  unfold Pipeline.ΦA
  rw [scopedRest0_eq]
  iintro ⟨⟨⟨⟨%fs0, Hs0⟩, ⟨%fs1, Hs1⟩, ⟨%fs2, Hs2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c (grid0.coords t) Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [Hs0]
  · iexists _; rw [owns_whole_eq]; iexists fs0; isplitr; · ipureintro; rfl
    iexact Hs0
  isplitl [Hs1]
  · iexists _; rw [owns_whole_eq]; iexists fs1; isplitr; · ipureintro; rfl
    iexact Hs1
  isplitl [Hs2]
  · iexists _; rw [owns_whole_eq]; iexists fs2; isplitr; · ipureintro; rfl
    iexact Hs2
  iintro ⟨H0, H1, H2, H3, H4, H5, H6, H7, H8, H9, H10, H11, H12, H13, H14, H15, ⟨%e0, Hs0⟩, ⟨%e1, Hs1⟩, ⟨%e2, Hs2⟩⟩
  isplitl [Hs0 Hs1 Hs2 Hg]
  · isplitl [Hs0 Hs1 Hs2]
    · ihave Hs0 := (Entails.of_eq (owns_whole_eq (c : Thread nD τ) cc0_scratch0 fullShare e0)) $$ Hs0
      ihave Hs1 := (Entails.of_eq (owns_whole_eq (c : Thread nD τ) cc0_scratch1 fullShare e1)) $$ Hs1
      ihave Hs2 := (Entails.of_eq (owns_whole_eq (c : Thread nD τ) cc0_scratch2 fullShare e2)) $$ Hs2
      icases Hs0 with ⟨%g0, -, Hs0⟩
      icases Hs1 with ⟨%g1, -, Hs1⟩
      icases Hs2 with ⟨%g2, -, Hs2⟩
      isplitl [Hs0]; · iexists _; iexact Hs0
      isplitl [Hs1]; · iexists _; iexact Hs1
      iexists _; iexact Hs2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs₀_row (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole program: every execution ends, each array of the pipeline at what the points wrote to it, every
    semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (body_obligation m c).loose) (hq := fun c w _ => by dsimp only [dats]; try rfl) (howed := fun _ _ => rfl) (V₀ := V0 m)
    (opss := [hostOps1]) (hsub := sfx_sub) (hfresh := sfx_fresh) (hkeep := sfx_keeps) (hmain := hmain m Variants.none) (hA := A_eq m)
    (hΦ := fun _ _ => rfl)

/-- The frame: every execution ends with the arguments as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_with_sems (frame_of m ρ (dats m) (A_eq m)) (run_main m ρ)

end Cert.KernelIdeal.Hand
end
-- ==== Proof.K2I.Body.lean ====
module

public import proofs.«01_k».proof.Proof.Gen.Kernel2Ideal.Skeleton
public import proofs.«01_k».proof.Proof.Gen.Kernel2Ideal.Frame
public import Idealize.ShloMosaic.Lib.VecWindow
public import Idealize.ShloMosaic.Lib.Claim

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxRecDepth 8192

/-! ## One point of the grid

Four lemmas, one for each way through the body's conditions on the column block: the first column block, the second, the
key and value blocks, the blocks of the linear unit. Each says what the buffers hold afterwards, whatever they held before. -/

set_option maxHeartbeats 4000000 in
/-- The first column block: the modulated rows go to the scratch, the forget columns and the first query block are computed. -/
theorem body_first (c : Dev nD) (i : grid0.Coords) (h1 : k0_cond1 i = 1#1) (h2 : k0_cond2 i = 1#1) (h3 : ¬ k0_cond3 i = 1#1) (h4 : ¬ k0_cond4 i = 1#1) (E : Set ℕ) (arg3 : Memref sig .tc .vmem S1x512x4096 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S4096x1024 .bf16) (harg6 : arg6.IsWhole) (arg7 : Memref sig .tc .vmem S4096x128 .bf16) (harg7 : arg7.IsWhole) (arg8 : Memref sig .tc .vmem S1x512x1024 .bf16) (harg8 : arg8.IsWhole) (arg9 : Memref sig .tc .vmem S1x512x1024 .f32) (harg9 : arg9.IsWhole) (arg10 : Memref sig .tc .vmem S1x512x128 .f32) (harg10 : arg10.IsWhole) (arg11 : Memref sig .tc .vmem S512x4096 .bf16) (harg11 : arg11.IsWhole)
   (x3 : Vec F S1x512x4096 .f32) (x4 : Vec F S1x1x4096 .f32) (x5 : Vec F S1x1x4096 .f32) (x6 : Vec F S4096x1024 .bf16) (x7 : Vec F S4096x128 .bf16) (x8 : Vec F S1x512x1024 .bf16) (x9 : Vec F S1x512x1024 .f32) (x10 : Vec F S1x512x128 .f32) (x11 : Vec F S512x4096 .bf16)
   (K : PUnit → sProp (MT nD τ sig Unit (Elt F) ℕ (UR sig nD τ) ℕ)) :
   iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
     ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay5 (k0_pay2 x3 x4 x5) x6) ∗ owns (c : Thread nD τ) arg9 fullShare x9 ∗ owns (c : Thread nD τ) arg10 fullShare (k0_pay3 x3 x4 x5 x7) ∗ owns (c : Thread nD τ) arg11 fullShare (k0_pay2 x3 x4 x5)) -∗ K ⟨⟩))
   ⊢ wp frame (wpE (defs₀ (F := F)) Variants.none c none) E (cc0_in_proj i arg3 harg3 arg4 harg4 arg5 harg5 arg6 harg6 arg7 harg7 arg8 harg8 arg9 harg9 arg10 harg10 arg11 harg11) K := by
  rw [cc0_in_proj_eq_skeleton]
  unfold cc0_in_proj_skel
  simp only [dif_pos h1, dif_pos h2, dif_neg h3, dif_neg h4, bind_assoc, pure_bind]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf3 hf4 hf5 hf6 hf7 hf8 hf9 hf10 hf11
  sl_exec
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; swap; · iexact H8
    ipureintro
    sl_unfold_run_names
    refine (View.read_writes_full _ _ _ _ _).trans ?_
    simp only [View.readCov]
    rw [View.readAt_full arg3.view, View.readAt_full arg4.view, View.readAt_full arg5.view, View.readAt_full arg6.view]
    exact congrArg (fun h => k0_pay5 h _) (View.readAt_writes_full arg11.view _ _ _ _ _)
  isplitl [H9]
  · iexists _; isplitr; · ipureintro; rfl
    iexact H9
  isplitl [H10]
  · iexists _; isplitr; swap; · iexact H10
    ipureintro
    sl_unfold_run_names
    refine (View.read_writes_full _ _ _ _ _).trans ?_
    rw [View.readAt_full arg3.view, View.readAt_full arg4.view, View.readAt_full arg5.view, View.readAt_full arg7.view]
  iexists _; isplitr; swap; · iexact H11
  ipureintro
  sl_unfold_run_names
  refine (View.read_writes_full _ _ _ _ _).trans ?_
  rw [View.readAt_full arg3.view, View.readAt_full arg4.view, View.readAt_full arg5.view]

set_option maxHeartbeats 4000000 in
/-- The second column block: the second query block, from the rows in the scratch. -/
theorem body_second (c : Dev nD) (i : grid0.Coords) (h1 : ¬ k0_cond1 i = 1#1) (h2 : k0_cond2 i = 1#1) (h3 : ¬ k0_cond3 i = 1#1) (h4 : ¬ k0_cond4 i = 1#1) (E : Set ℕ) (arg3 : Memref sig .tc .vmem S1x512x4096 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S4096x1024 .bf16) (harg6 : arg6.IsWhole) (arg7 : Memref sig .tc .vmem S4096x128 .bf16) (harg7 : arg7.IsWhole) (arg8 : Memref sig .tc .vmem S1x512x1024 .bf16) (harg8 : arg8.IsWhole) (arg9 : Memref sig .tc .vmem S1x512x1024 .f32) (harg9 : arg9.IsWhole) (arg10 : Memref sig .tc .vmem S1x512x128 .f32) (harg10 : arg10.IsWhole) (arg11 : Memref sig .tc .vmem S512x4096 .bf16) (harg11 : arg11.IsWhole)
   (x3 : Vec F S1x512x4096 .f32) (x4 : Vec F S1x1x4096 .f32) (x5 : Vec F S1x1x4096 .f32) (x6 : Vec F S4096x1024 .bf16) (x7 : Vec F S4096x128 .bf16) (x8 : Vec F S1x512x1024 .bf16) (x9 : Vec F S1x512x1024 .f32) (x10 : Vec F S1x512x128 .f32) (x11 : Vec F S512x4096 .bf16)
   (K : PUnit → sProp (MT nD τ sig Unit (Elt F) ℕ (UR sig nD τ) ℕ)) :
   iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
     ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay5 x11 x6) ∗ owns (c : Thread nD τ) arg9 fullShare x9 ∗ owns (c : Thread nD τ) arg10 fullShare x10 ∗ owns (c : Thread nD τ) arg11 fullShare x11) -∗ K ⟨⟩))
   ⊢ wp frame (wpE (defs₀ (F := F)) Variants.none c none) E (cc0_in_proj i arg3 harg3 arg4 harg4 arg5 harg5 arg6 harg6 arg7 harg7 arg8 harg8 arg9 harg9 arg10 harg10 arg11 harg11) K := by
  rw [cc0_in_proj_eq_skeleton]
  unfold cc0_in_proj_skel
  simp only [dif_neg h1, dif_pos h2, dif_neg h3, dif_neg h4, bind_assoc, pure_bind]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf3 hf4 hf5 hf6 hf7 hf8 hf9 hf10 hf11
  sl_exec
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; swap; · iexact H8
    ipureintro
    sl_unfold_run_names
    refine (View.read_writes_full _ _ _ _ _).trans ?_
    rw [View.readAt_full arg11.view, View.readAt_full arg6.view]
  isplitl [H9]
  · iexists _; isplitr; · ipureintro; rfl
    iexact H9
  isplitl [H10]
  · iexists _; isplitr; · ipureintro; rfl
    iexact H10
  iexists _; isplitr; · ipureintro; rfl
  iexact H11

set_option maxHeartbeats 4000000 in
/-- A key or value block, from the rows in the scratch. -/
theorem body_middle (c : Dev nD) (i : grid0.Coords) (h1 : ¬ k0_cond1 i = 1#1) (h2 : ¬ k0_cond2 i = 1#1) (h3 : k0_cond3 i = 1#1) (h4 : ¬ k0_cond4 i = 1#1) (E : Set ℕ) (arg3 : Memref sig .tc .vmem S1x512x4096 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S4096x1024 .bf16) (harg6 : arg6.IsWhole) (arg7 : Memref sig .tc .vmem S4096x128 .bf16) (harg7 : arg7.IsWhole) (arg8 : Memref sig .tc .vmem S1x512x1024 .bf16) (harg8 : arg8.IsWhole) (arg9 : Memref sig .tc .vmem S1x512x1024 .f32) (harg9 : arg9.IsWhole) (arg10 : Memref sig .tc .vmem S1x512x128 .f32) (harg10 : arg10.IsWhole) (arg11 : Memref sig .tc .vmem S512x4096 .bf16) (harg11 : arg11.IsWhole)
   (x3 : Vec F S1x512x4096 .f32) (x4 : Vec F S1x1x4096 .f32) (x5 : Vec F S1x1x4096 .f32) (x6 : Vec F S4096x1024 .bf16) (x7 : Vec F S4096x128 .bf16) (x8 : Vec F S1x512x1024 .bf16) (x9 : Vec F S1x512x1024 .f32) (x10 : Vec F S1x512x128 .f32) (x11 : Vec F S512x4096 .bf16)
   (K : PUnit → sProp (MT nD τ sig Unit (Elt F) ℕ (UR sig nD τ) ℕ)) :
   iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
     ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay6 x11 x6) ∗ owns (c : Thread nD τ) arg9 fullShare x9 ∗ owns (c : Thread nD τ) arg10 fullShare x10 ∗ owns (c : Thread nD τ) arg11 fullShare x11) -∗ K ⟨⟩))
   ⊢ wp frame (wpE (defs₀ (F := F)) Variants.none c none) E (cc0_in_proj i arg3 harg3 arg4 harg4 arg5 harg5 arg6 harg6 arg7 harg7 arg8 harg8 arg9 harg9 arg10 harg10 arg11 harg11) K := by
  rw [cc0_in_proj_eq_skeleton]
  unfold cc0_in_proj_skel
  simp only [dif_neg h1, dif_neg h2, dif_pos h3, dif_neg h4, bind_assoc, pure_bind]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf3 hf4 hf5 hf6 hf7 hf8 hf9 hf10 hf11
  sl_exec
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; swap; · iexact H8
    ipureintro
    sl_unfold_run_names
    refine (View.read_writes_full _ _ _ _ _).trans ?_
    rw [View.readAt_full arg11.view, View.readAt_full arg6.view]
  isplitl [H9]
  · iexists _; isplitr; · ipureintro; rfl
    iexact H9
  isplitl [H10]
  · iexists _; isplitr; · ipureintro; rfl
    iexact H10
  iexists _; isplitr; · ipureintro; rfl
  iexact H11

set_option maxHeartbeats 4000000 in
/-- A block of the linear unit, from the rows in the scratch. -/
theorem body_last (c : Dev nD) (i : grid0.Coords) (h1 : ¬ k0_cond1 i = 1#1) (h2 : ¬ k0_cond2 i = 1#1) (h3 : ¬ k0_cond3 i = 1#1) (h4 : k0_cond4 i = 1#1) (E : Set ℕ) (arg3 : Memref sig .tc .vmem S1x512x4096 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S4096x1024 .bf16) (harg6 : arg6.IsWhole) (arg7 : Memref sig .tc .vmem S4096x128 .bf16) (harg7 : arg7.IsWhole) (arg8 : Memref sig .tc .vmem S1x512x1024 .bf16) (harg8 : arg8.IsWhole) (arg9 : Memref sig .tc .vmem S1x512x1024 .f32) (harg9 : arg9.IsWhole) (arg10 : Memref sig .tc .vmem S1x512x128 .f32) (harg10 : arg10.IsWhole) (arg11 : Memref sig .tc .vmem S512x4096 .bf16) (harg11 : arg11.IsWhole)
   (x3 : Vec F S1x512x4096 .f32) (x4 : Vec F S1x1x4096 .f32) (x5 : Vec F S1x1x4096 .f32) (x6 : Vec F S4096x1024 .bf16) (x7 : Vec F S4096x128 .bf16) (x8 : Vec F S1x512x1024 .bf16) (x9 : Vec F S1x512x1024 .f32) (x10 : Vec F S1x512x128 .f32) (x11 : Vec F S512x4096 .bf16)
   (K : PUnit → sProp (MT nD τ sig Unit (Elt F) ℕ (UR sig nD τ) ℕ)) :
   iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
     ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay7 x11 x6) ∗ owns (c : Thread nD τ) arg10 fullShare x10 ∗ owns (c : Thread nD τ) arg11 fullShare x11) -∗ K ⟨⟩))
   ⊢ wp frame (wpE (defs₀ (F := F)) Variants.none c none) E (cc0_in_proj i arg3 harg3 arg4 harg4 arg5 harg5 arg6 harg6 arg7 harg7 arg8 harg8 arg9 harg9 arg10 harg10 arg11 harg11) K := by
  rw [cc0_in_proj_eq_skeleton]
  unfold cc0_in_proj_skel
  simp only [dif_neg h1, dif_neg h2, dif_neg h3, dif_pos h4, bind_assoc, pure_bind]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf3 hf4 hf5 hf6 hf7 hf8 hf9 hf10 hf11
  sl_exec
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; swap; · iexact H9
    ipureintro
    sl_unfold_run_names
    refine (View.read_writes_full _ _ _ _ _).trans ?_
    rw [View.readAt_full arg11.view, View.readAt_full arg6.view]
  isplitl [H10]
  · iexists _; isplitr; · ipureintro; rfl
    iexact H10
  iexists _; isplitr; · ipureintro; rfl
  iexact H11

end Cert.Kernel2Ideal.Hand
end
-- ==== Proof.K2I.Run.lean ====
module

public import proofs.«01_k».proof.Proof.K2I.Body
public import Idealize.ShloMosaic.Lib.Pipeline.FrameSuffix
public import Idealize.ShloMosaic.Lib.Pipeline.TableIdle
public import Idealize.ShloMosaic.Lib.Claim

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

variable (m : (ℓ : Loc nD τ sig) → Buf (Elt F) ℓ) (ρ : Dev nD → PrngReg)

set_option maxRecDepth 8192

/-! ## What the buffers hold, point by point -/

/-- The grid point numbered `k`. -/
def pt (k : ℕ) : Fin cfg0.N := ⟨k % 256, Nat.mod_lt _ (by decide)⟩
/-- The first point of the eight that share point `k`'s rows. -/
def rowPt (k : ℕ) : Fin cfg0.N := pt (k / 8 * 8)
/-- The last point up to `k`, of the eight, that stores a block of queries, keys or values. -/
def qkvPt (k : ℕ) : ℕ := min k (k / 8 * 8 + 5)

/-- The modulated rows the scratch holds over the eight points that share them. -/
def rowAt (c : Dev nD) (k : ℕ) : Vec F S512x4096 .bf16 := k0_pay2 (iblk m c 0 (rowPt k)) (iblk m c 1 (rowPt k)) (iblk m c 2 (rowPt k))
/-- The forget columns of those rows. -/
def fAt (c : Dev nD) (k : ℕ) : Vec F S1x512x128 .f32 := k0_pay3 (iblk m c 0 (rowPt k)) (iblk m c 1 (rowPt k)) (iblk m c 2 (rowPt k)) (iblk m c 4 (rowPt k))
/-- The block of queries, keys or values stored last. -/
def qkvAt (c : Dev nD) (k : ℕ) : Vec F S1x512x1024 .bf16 :=
  if k % 8 < 2 then k0_pay5 (rowAt m c k) (iblk m c 3 (pt (qkvPt k))) else k0_pay6 (rowAt m c k) (iblk m c 3 (pt (qkvPt k)))

theorem pt_val (t : Fin cfg0.N) : pt t.val = t := Fin.ext (Nat.mod_eq_of_lt t.isLt)

/-- What the region holds besides the staging buffers before point `n`: the scratch, which holds the rows from the second of the
    eight points on, and the generator's register. -/
def Inv (c : Dev nD) (n : ℕ) : sProp (MT nD τ sig Unit (Elt F) ℕ (UR sig nD τ) ℕ) :=
  iprop((∃ h, ⌜n % 8 ≠ 0 → h = rowAt m c n⌝ ∗ owns (c : Thread nD τ) (Memref.whole cc0_scratch0) fullShare h) ∗ ∃ r, prngReg c r)

/-- The pipeline's proof data: the arrays as the region finds them; after the body each input's buffer at its block and the
    results' at what the points so far computed of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => qkvAt m c t.val
    | ⟨6, _⟩ => k0_pay7 (rowAt m c t.val) (iblk m c 3 t)
    | ⟨7, _⟩ => fAt m c t.val
    | ⟨_ + 8, h⟩ => absurd h (Nat.not_lt.2 (Nat.le_add_left _ _))
  Φ n := Inv m c n.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = qkvAt m c t.val := by dsimp only [dats]
theorem after0_6 (c : Dev nD) (t : Fin cfg0.N) : (dats m 0 c).after 6 t = k0_pay7 (rowAt m c t.val) (iblk m c 3 t) := by dsimp only [dats]
theorem after0_7 (c : Dev nD) (t : Fin cfg0.N) : (dats m 0 c).after 7 t = fAt m c t.val := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The conditions and the write-backs, over the grid -/

theorem cond1_iff : ∀ t : Fin cfg0.N, k0_cond1 (grid0.coords t) = 1#1 ↔ t.val % 8 = 0 :=
  (by decide +kernel : ∀ t : Fin grid0.N, k0_cond1 (grid0.coords t) = 1#1 ↔ t.val % 8 = 0)
theorem cond2_iff : ∀ t : Fin cfg0.N, k0_cond2 (grid0.coords t) = 1#1 ↔ t.val % 8 < 2 :=
  (by decide +kernel : ∀ t : Fin grid0.N, k0_cond2 (grid0.coords t) = 1#1 ↔ t.val % 8 < 2)
theorem cond3_iff : ∀ t : Fin cfg0.N, k0_cond3 (grid0.coords t) = 1#1 ↔ 2 ≤ t.val % 8 ∧ t.val % 8 < 6 :=
  (by decide +kernel : ∀ t : Fin grid0.N, k0_cond3 (grid0.coords t) = 1#1 ↔ 2 ≤ t.val % 8 ∧ t.val % 8 < 6)
theorem cond4_iff : ∀ t : Fin cfg0.N, k0_cond4 (grid0.coords t) = 1#1 ↔ 6 ≤ t.val % 8 :=
  (by decide +kernel : ∀ t : Fin grid0.N, k0_cond4 (grid0.coords t) = 1#1 ↔ 6 ≤ t.val % 8)

theorem idle5 : ∀ t : Fin cfg0.N, cfg0.idle 5 (cfg0.grid.coords t) = decide (6 ≤ t.val % 8) :=
  (by decide +kernel : ∀ t : Fin grid0.N, idle0 5 (grid0.coords t) = decide (6 ≤ t.val % 8))
theorem idle6 : ∀ t : Fin cfg0.N, cfg0.idle 6 (cfg0.grid.coords t) = decide (t.val % 8 < 6) :=
  (by decide +kernel : ∀ t : Fin grid0.N, idle0 6 (grid0.coords t) = decide (t.val % 8 < 6))
theorem idle7 : ∀ t : Fin cfg0.N, cfg0.idle 7 (cfg0.grid.coords t) = decide (t.val % 8 ≠ 0) :=
  (by decide +kernel : ∀ t : Fin grid0.N, idle0 7 (grid0.coords t) = decide (t.val % 8 ≠ 0))
theorem flush5 : ∀ t : Fin cfg0.N, (cfg0.win 5).flush t = decide (t.val % 8 ≠ 5 ∧ t.val % 8 ≠ 6) :=
  (by decide +kernel : ∀ t : Fin grid0.N, win0_5.flush t = decide (t.val % 8 ≠ 5 ∧ t.val % 8 ≠ 6))
theorem flush6 : ∀ t : Fin cfg0.N, (cfg0.win 6).flush t = decide (6 ≤ t.val % 8) :=
  (by decide +kernel : ∀ t : Fin grid0.N, win0_6.flush t = decide (6 ≤ t.val % 8))
theorem flush7 : ∀ t : Fin cfg0.N, (cfg0.win 7).flush t = decide (t.val % 8 = 7) :=
  (by decide +kernel : ∀ t : Fin grid0.N, win0_7.flush t = decide (t.val % 8 = 7))

/-- Window 5's buffer holds nothing the body stored, except at the two points after the last of its blocks. -/
theorem fresh5 (t : Fin cfg0.N) : cfg0.fresh 5 t.val = decide (t.val % 8 < 6) :=
  cfg0.fresh_tab 5 (fun n => decide (n % 8 < 6)) rfl (fun t => by
    rw [flush5, idle5]; show decide _ = (decide _ || (decide _ && decide _))
    rw [Bool.eq_iff_iff]; simp only [decide_eq_true_eq, Bool.or_eq_true, Bool.and_eq_true]; omega) t.val (le_of_lt t.isLt)
theorem fresh7 (t : Fin cfg0.N) : cfg0.fresh 7 t.val = decide (t.val % 8 = 0) :=
  cfg0.fresh_tab 7 (fun n => decide (n % 8 = 0)) rfl (fun t => by
    rw [flush7, idle7]; show decide _ = (decide _ || (decide _ && decide _))
    rw [Bool.eq_iff_iff]; simp only [decide_eq_true_eq, Bool.or_eq_true, Bool.and_eq_true]; omega) t.val (le_of_lt t.isLt)

theorem rowAt_pred (c : Dev nD) (k : ℕ) (hk : k % 8 ≠ 0) : rowAt m c (k - 1) = rowAt m c k := by
  unfold rowAt rowPt; rw [show (k - 1) / 8 = k / 8 by omega]
theorem fAt_pred (c : Dev nD) (k : ℕ) (hk : k % 8 ≠ 0) : fAt m c (k - 1) = fAt m c k := by
  unfold fAt rowPt; rw [show (k - 1) / 8 = k / 8 by omega]
theorem qkvAt_pred (c : Dev nD) (k : ℕ) (hk : 6 ≤ k % 8) : qkvAt m c (k - 1) = qkvAt m c k := by
  unfold qkvAt; rw [rowAt_pred m c k (by omega), if_neg (by omega), if_neg (by omega), show qkvPt (k - 1) = qkvPt k by unfold qkvPt; omega]

/-- At the points that store no block of queries, keys or values, window 5's buffer holds the last one stored. -/
theorem before0_5 (c : Dev nD) (t : Fin cfg0.N) (ht : 6 ≤ t.val % 8) (d) : (dats m 0 c).before 5 t d = qkvAt m c t.val := by
  rw [(dats m 0 c).before_out_traj 5 rfl (fun _ _ => rfl) (fun t _ hi _ => by
      rw [idle5, decide_eq_true_eq] at hi
      rw [after0_5, after0_5]; exact (qkvAt_pred m c t.val hi).symm) t.val t rfl d, fresh5, if_neg (by rw [decide_eq_true_eq]; omega), after0_5]
  exact qkvAt_pred m c t.val ht
/-- After the first of the eight points window 7's buffer holds the forget columns. -/
theorem before0_7 (c : Dev nD) (t : Fin cfg0.N) (ht : t.val % 8 ≠ 0) (d) : (dats m 0 c).before 7 t d = fAt m c t.val := by
  rw [(dats m 0 c).before_out_traj 7 rfl (fun _ _ => rfl) (fun t _ hi _ => by
      rw [idle7, decide_eq_true_eq] at hi
      rw [after0_7, after0_7]; exact (fAt_pred m c t.val hi).symm) t.val t rfl d, fresh7, if_neg (by rw [decide_eq_true_eq]; omega), after0_7]
  exact fAt_pred m c t.val ht

/-! ## The body obligation -/

/-- What the body starts from at point `t`. -/
def bodyPre (c : Dev nD) (t : Fin cfg0.N) : sProp (MT nD τ sig Unit (Elt F) ℕ (UR sig nD τ) ℕ) :=
  iprop(Inv m c t.val ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)))
/-- What it ends in. -/
def bodyPost (c : Dev nD) (t : Fin cfg0.N) : sProp (MT nD τ sig Unit (Elt F) ℕ (UR sig nD τ) ℕ) :=
  iprop(Inv m c (t.val + 1) ∗ (dats m 0 c).owesAt () t.castSucc ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ (dats m 0 c).leavesExact 5 t ∗ (dats m 0 c).leavesExact 6 t ∗ (dats m 0 c).leavesExact 7 t)

/-- A window whose body stored at this point. -/
theorem leaves_live (c : Dev nD) (t : Fin cfg0.N) (w : Fin cfg0.W) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]
/-- A window written back at this point. -/
theorem leaves_flush (c : Dev nD) (t : Fin cfg0.N) (w : Fin cfg0.W) (hf : (cfg0.win w).flush t = true) :
    (dats m 0 c).leavesExact w t = owns (c : Thread nD τ) ((cfg0.win w).stage (cfg0.slots t w)) fullShare ((dats m 0 c).after w t) := by
  unfold Dat.leavesExact; rw [hf]; cases cfg0.idle w (cfg0.grid.coords t) <;> rfl

set_option maxHeartbeats 4000000 in
/-- The first of the eight points. -/
theorem sound_first (c : Dev nD) (t : Fin cfg0.N) (ht : t.val % 8 = 0) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, after0_0, after0_1, after0_2, after0_3, after0_4]
  rw [leaves_live m c t 5 (by rw [idle5, decide_eq_false_iff_not]; omega), after0_5]
  rw [(dats m 0 c).leavesExact_idle 6 t (by rw [idle6, decide_eq_true_eq]; omega) (by rw [flush6, decide_eq_false_iff_not]; omega)]
  rw [leaves_live m c t 7 (by rw [idle7, decide_eq_false_iff_not]; omega), after0_7]
  have hrow : rowPt t.val = t := by unfold rowPt; rw [show t.val / 8 * 8 = t.val by omega]; exact pt_val t
  have hq : qkvAt m c t.val = k0_pay5 (k0_pay2 (iblk m c 0 t) (iblk m c 1 t) (iblk m c 2 t)) (iblk m c 3 t) := by unfold qkvAt rowAt; rw [if_pos (by omega), show qkvPt t.val = t.val by unfold qkvPt; omega, pt_val, hrow]
  have hf : fAt m c t.val = k0_pay3 (iblk m c 0 t) (iblk m c 1 t) (iblk m c 2 t) (iblk m c 4 t) := by unfold fAt; rw [hrow]
  rw [hq, hf]
  unfold Inv
  iintro ⟨⟨⟨%h, %hh, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_first c (grid0.coords t) (by rw [cond1_iff]; omega) (by rw [cond2_iff]; omega) (by rw [cond3_iff]; omega) (by rw [cond4_iff]; omega) Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs]; · iexact Hs
  iintro ⟨H0, H1, H2, H3, H4, H5, H6, H7, Hs⟩
  isplitl [Hs Hg]
  · isplitl [Hs]
    · iexists _; isplitr; swap; · iexact Hs
      ipureintro
      intro _
      rw [show rowAt m c (t.val + 1) = rowAt m c t.val from (rowAt_pred m c (t.val + 1) (by omega)).symm]
      unfold rowAt; rw [hrow]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexact H7

set_option maxHeartbeats 4000000 in
/-- The second of the eight points. -/
theorem sound_second (c : Dev nD) (t : Fin cfg0.N) (ht : t.val % 8 = 1) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, after0_0, after0_1, after0_2, after0_3, after0_4]
  rw [leaves_live m c t 5 (by rw [idle5, decide_eq_false_iff_not]; omega), after0_5]
  rw [(dats m 0 c).leavesExact_idle 6 t (by rw [idle6, decide_eq_true_eq]; omega) (by rw [flush6, decide_eq_false_iff_not]; omega)]
  rw [(dats m 0 c).leavesExact_idle 7 t (by rw [idle7, decide_eq_true_eq]; omega) (by rw [flush7, decide_eq_false_iff_not]; omega)]
  have hq : qkvAt m c t.val = k0_pay5 (rowAt m c t.val) (iblk m c 3 t) := by unfold qkvAt; rw [if_pos (by omega), show qkvPt t.val = t.val by unfold qkvPt; omega, pt_val]
  rw [hq]
  unfold Inv
  iintro ⟨⟨⟨%h, %hh, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain rfl : h = rowAt m c t.val := hh (by omega)
  iapply (body_second c (grid0.coords t) (by rw [cond1_iff]; omega) (by rw [cond2_iff]; omega) (by rw [cond3_iff]; omega) (by rw [cond4_iff]; omega) Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs]; · iexact Hs
  iintro ⟨H0, H1, H2, H3, H4, H5, H6, H7, Hs⟩
  isplitl [Hs Hg]
  · isplitl [Hs]
    · iexists _; isplitr; swap; · iexact Hs
      ipureintro
      intro _
      rw [show rowAt m c (t.val + 1) = rowAt m c t.val from (rowAt_pred m c (t.val + 1) (by omega)).symm]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 4000000 in
/-- A point of a key or value block. -/
theorem sound_middle (c : Dev nD) (t : Fin cfg0.N) (ht : 2 ≤ t.val % 8) (ht2 : t.val % 8 < 6) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, after0_0, after0_1, after0_2, after0_3, after0_4]
  rw [leaves_live m c t 5 (by rw [idle5, decide_eq_false_iff_not]; omega), after0_5]
  rw [(dats m 0 c).leavesExact_idle 6 t (by rw [idle6, decide_eq_true_eq]; omega) (by rw [flush6, decide_eq_false_iff_not]; omega)]
  rw [(dats m 0 c).leavesExact_idle 7 t (by rw [idle7, decide_eq_true_eq]; omega) (by rw [flush7, decide_eq_false_iff_not]; omega)]
  have hq : qkvAt m c t.val = k0_pay6 (rowAt m c t.val) (iblk m c 3 t) := by unfold qkvAt; rw [if_neg (by omega), show qkvPt t.val = t.val by unfold qkvPt; omega, pt_val]
  rw [hq]
  unfold Inv
  iintro ⟨⟨⟨%h, %hh, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain rfl : h = rowAt m c t.val := hh (by omega)
  iapply (body_middle c (grid0.coords t) (by rw [cond1_iff]; omega) (by rw [cond2_iff]; omega) (by rw [cond3_iff]; omega) (by rw [cond4_iff]; omega) Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs]; · iexact Hs
  iintro ⟨H0, H1, H2, H3, H4, H5, H6, H7, Hs⟩
  isplitl [Hs Hg]
  · isplitl [Hs]
    · iexists _; isplitr; swap; · iexact Hs
      ipureintro
      intro _
      rw [show rowAt m c (t.val + 1) = rowAt m c t.val from (rowAt_pred m c (t.val + 1) (by omega)).symm]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

set_option maxHeartbeats 4000000 in
/-- The first point of the linear unit. -/
theorem sound_seventh (c : Dev nD) (t : Fin cfg0.N) (ht : t.val % 8 = 6) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, after0_0, after0_1, after0_2, after0_3, after0_4]
  rw [(dats m 0 c).leavesExact_idle 5 t (by rw [idle5, decide_eq_true_eq]; omega) (by rw [flush5, decide_eq_false_iff_not]; omega)]
  rw [leaves_live m c t 6 (by rw [idle6, decide_eq_false_iff_not]; omega), after0_6]
  rw [(dats m 0 c).leavesExact_idle 7 t (by rw [idle7, decide_eq_true_eq]; omega) (by rw [flush7, decide_eq_false_iff_not]; omega)]
  unfold Inv
  iintro ⟨⟨⟨%h, %hh, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain rfl : h = rowAt m c t.val := hh (by omega)
  iapply (body_last c (grid0.coords t) (by rw [cond1_iff]; omega) (by rw [cond2_iff]; omega) (by rw [cond3_iff]; omega) (by rw [cond4_iff]; omega) Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs]; · iexact Hs
  iintro ⟨H0, H1, H2, H3, H4, H5, H6, H7, Hs⟩
  isplitl [Hs Hg]
  · isplitl [Hs]
    · iexists _; isplitr; swap; · iexact Hs
      ipureintro
      intro _
      rw [show rowAt m c (t.val + 1) = rowAt m c t.val from (rowAt_pred m c (t.val + 1) (by omega)).symm]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  iexists _; iexact H7

set_option maxHeartbeats 4000000 in
/-- The last of the eight points. -/
theorem sound_eighth (c : Dev nD) (t : Fin cfg0.N) (ht : t.val % 8 = 7) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, after0_0, after0_1, after0_2, after0_3, after0_4]
  simp only [before0_5 m c t (by omega), before0_7 m c t (by omega)]
  rw [leaves_flush m c t 5 (by rw [flush5, decide_eq_true_eq]; omega), after0_5]
  rw [leaves_live m c t 6 (by rw [idle6, decide_eq_false_iff_not]; omega), after0_6]
  rw [leaves_flush m c t 7 (by rw [flush7, decide_eq_true_eq]; omega), after0_7]
  unfold Inv
  iintro ⟨⟨⟨%h, %hh, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain rfl : h = rowAt m c t.val := hh (by omega)
  iapply (body_last c (grid0.coords t) (by rw [cond1_iff]; omega) (by rw [cond2_iff]; omega) (by rw [cond3_iff]; omega) (by rw [cond4_iff]; omega) Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs]; · iexact Hs
  iintro ⟨H0, H1, H2, H3, H4, H5, H6, H7, Hs⟩
  isplitl [Hs Hg]
  · isplitl [Hs]
    · iexists _; isplitr; swap; · iexact Hs
      ipureintro
      intro _
      rw [show rowAt m c (t.val + 1) = rowAt m c t.val from (rowAt_pred m c (t.val + 1) (by omega)).symm]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) : defs₀ (F := F) .tc cfg0.body (cfg0.bodyArgs t (cfg0.slots t)) = bodyAt0 t := by
  unfold defs₀; rw [Defs.onTc_tc]

/-- The body at any point. -/
theorem sound_body (c : Dev nD) (t : Fin cfg0.N) :
    bodyPre m c t ⊢ wp frame (wpE (defs₀ (F := F)) Variants.none (c : Thread nD τ) none) Set.univ (bodyAt0 t) (fun _ => bodyPost m c t) := by
  by_cases h0 : t.val % 8 = 0
  · exact sound_first m c t h0
  by_cases h1 : t.val % 8 = 1
  · exact sound_second m c t h1
  by_cases h5 : t.val % 8 < 6
  · exact sound_middle m c t (by omega) h5
  by_cases h6 : t.val % 8 = 6
  · exact sound_seventh m c t h6
  exact sound_eighth m c t (by omega)

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The region's scratch and register at entry are the invariant before the first point. -/
theorem inv_in (c : Dev nD) : Pipeline.ΦA spec0 c ⊢ Inv m c 0 := by
  unfold Pipeline.ΦA Inv
  rw [scopedRest0_eq]
  iintro ⟨⟨%f, Hs⟩, Hg⟩
  isplitl [Hs]
  · iexists _; isplitr; swap
    · rw [owns_whole_eq]; iexists f; isplitr; · ipureintro; rfl
      iexact Hs
    ipureintro; intro h; exact absurd rfl h
  iexact Hg

/-- And the invariant after the last point gives them back. -/
theorem inv_out (c : Dev nD) (n : ℕ) : Inv m c n ⊢ Pipeline.ΦA spec0 c := by
  unfold Pipeline.ΦA Inv
  rw [scopedRest0_eq]
  iintro ⟨⟨%h, -, Hs⟩, Hg⟩
  isplitl [Hs]
  · ihave Hs := (Entails.of_eq (owns_whole_eq (c : Thread nD τ) cc0_scratch0 fullShare h)) $$ Hs
    icases Hs with ⟨%g0, -, Hs⟩
    iexists _; iexact Hs
  iexact Hg

set_option backward.isDefEq.respectTransparency.types false in
/-- The run of the whole program: every execution ends, each array of the pipeline at what the points wrote to it, every
    semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c w => Pipeline.Dat.share_full _ (fun _ => rfl) w) (howed := fun _ _ => rfl) (V₀ := V0 m)
    (opss := [hostOps1]) (hsub := sfx_sub) (hfresh := sfx_fresh) (hkeep := sfx_keeps) (hmain := hmain m Variants.none) (hA := A_eq m)
    (hin := fun c => inv_in m c) (hout := fun c => inv_out m c _)

/-- The frame: every execution ends with the arguments as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) (A_eq m)) (run_main m ρ)

end Cert.Kernel2Ideal.Hand
end
-- ==== Proof.Val.Casts.lean ====
module

public import proofs.«01_k».proof.Proof.KI.Run
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

/-! ## The weights' chunks, cast along the way -/

/-- The first cast result ends at the array its chunks were read from. -/
theorem final_cast0 : (dats m 0 c).arrAt 11 cfg0.N = (fun i : S128x16x2048.Idx => (V m c main_v31 i : EReal)) := by
  refine (dats m 0 c).arrAt_eq_of_covers 11 _ (by decide +kernel) fun t hf y => ?_
  blk_simp
  rw [after0_11]
  have e : ∀ t : Fin cfg0.N, win0_5.index t = win0_11.index t := fun _ => rfl
  refine (congrFun (?_ : k0_pay39 (F := Ideal) (iblk m c 5 t) = fun y => iblk m c 5 t y) y).trans ?_
  · funext y
    rw [eq_ix3 y]
    pointwise [k0_pay39]
  blk_simp [iblk]
  blk_ext [e t]

/-- The second cast result ends at the array its chunks were read from. -/
theorem final_cast1 : (dats m 0 c).arrAt 12 cfg0.N = (fun i : S256x16x4096.Idx => (V m c main_v32 i : EReal)) := by
  refine (dats m 0 c).arrAt_eq_of_covers 12 _ (by decide +kernel) fun t hf y => ?_
  blk_simp
  rw [after0_12]
  have e : ∀ t : Fin cfg0.N, win0_6.index t = win0_12.index t := fun _ => rfl
  refine (congrFun (?_ : k0_pay40 (F := Ideal) (iblk m c 6 t) = fun y => iblk m c 6 t y) y).trans ?_
  · funext y
    rw [eq_ix3 y]
    pointwise [k0_pay40]
  blk_simp [iblk]
  blk_ext [e t]

/-- The third cast result ends at the array its chunks were read from. -/
theorem final_cast2 : (dats m 0 c).arrAt 13 cfg0.N = (fun i : S256x1024x512.Idx => (V m c main_v33 i : EReal)) := by
  refine (dats m 0 c).arrAt_eq_of_covers 13 _ (by decide +kernel) fun t hf y => ?_
  blk_simp
  rw [after0_13]
  have e : ∀ t : Fin cfg0.N, win0_7.index t = win0_13.index t := fun _ => rfl
  refine (congrFun (?_ : k0_pay41 (F := Ideal) (iblk m c 7 t) = fun y => iblk m c 7 t y) y).trans ?_
  · funext y
    rw [eq_ix3 y]
    pointwise [k0_pay41]
  blk_simp [iblk]
  blk_ext [e t]

/-- The fourth cast result ends at the array its chunks were read from. -/
theorem final_cast3 : (dats m 0 c).arrAt 14 cfg0.N = (fun i : S256x1024x512.Idx => (V m c main_v34 i : EReal)) := by
  refine (dats m 0 c).arrAt_eq_of_covers 14 _ (by decide +kernel) fun t hf y => ?_
  blk_simp
  rw [after0_14]
  have e : ∀ t : Fin cfg0.N, win0_8.index t = win0_14.index t := fun _ => rfl
  refine (congrFun (?_ : k0_pay42 (F := Ideal) (iblk m c 8 t) = fun y => iblk m c 8 t y) y).trans ?_
  · funext y
    rw [eq_ix3 y]
    pointwise [k0_pay42]
  blk_simp [iblk]
  blk_ext [e t]

/-- The fifth cast result ends at the array its chunks were read from. -/
theorem final_cast4 : (dats m 0 c).arrAt 15 cfg0.N = (fun i : S256x128x4096.Idx => (V m c main_v35 i : EReal)) := by
  refine (dats m 0 c).arrAt_eq_of_covers 15 _ (by decide +kernel) fun t hf y => ?_
  blk_simp
  rw [after0_15]
  have e : ∀ t : Fin cfg0.N, win0_9.index t = win0_15.index t := fun _ => rfl
  refine (congrFun (?_ : k0_pay43 (F := Ideal) (iblk m c 9 t) = fun y => iblk m c 9 t y) y).trans ?_
  · funext y
    rw [eq_ix3 y]
    pointwise [k0_pay43]
  blk_simp [iblk]
  blk_ext [e t]

end Cert.KernelIdeal.Hand
end
-- ==== Proof.Val.Math.lean ====
module

public import Idealize.ShloMosaic.PureOps.Ideal
public import Idealize.ShloMosaic.PureOps.Ideal.Laws

@[expose] public section

noncomputable section

namespace Cert.Attn

open Idealize.ShloMosaic Finset

/-! ## The attention of one query row

`t j` is the score of column `j` in natural units, `q` the row's own position: the row attends to the columns `j ≤ q`. -/

/-- The weight of column `j` in the row at position `q`. -/
def soft (t : ℕ → ℝ) (q j : ℕ) : ℝ := if j ≤ q then Real.exp (t j) / ∑ i ∈ range (q + 1), Real.exp (t i) else 0

/-- The weighted mean of `v` over the first `N` columns. -/
def mix (t : ℕ → ℝ) (q N : ℕ) (v : ℕ → EReal) : EReal := ∑ j ∈ range N, (soft t q j : EReal) * v j

/-- A nonnegative real goes into a sum of extended reals, from the left. -/
theorem coe_mul_sum {ι : Type} (S : Finset ι) (f : ι → EReal) (x : ℝ) (hx : 0 ≤ x) : (x : EReal) * ∑ j ∈ S, f j = ∑ j ∈ S, (x : EReal) * f j := by
  classical
  induction S using Finset.induction_on with
  | empty => simp
  | insert a S ha ih =>
    rw [sum_insert ha, sum_insert ha, EReal.left_distrib_of_nonneg_of_ne_top (EReal.coe_nonneg.2 hx) (EReal.coe_ne_top x), ih]

/-- A sum of reals is the real sum. -/
theorem sum_coe {ι : Type} (S : Finset ι) (f : ι → ℝ) : ∑ j ∈ S, (f j : EReal) = ((∑ j ∈ S, f j : ℝ) : EReal) := by
  classical
  induction S using Finset.induction_on with
  | empty => simp
  | insert a S ha ih => rw [sum_insert ha, sum_insert ha, ih, EReal.coe_add]

/-! ## Blocks of columns, one after the other -/

/-- After the first `n` columns: `m` bounds the scores seen (it is −∞ before the first block), and `a` is the sum of the
    columns' `w`, each by two to its score less `m`. -/
structure Seen (s w : ℕ → EReal) (n : ℕ) (m a : EReal) : Prop where
  ne_top : m ≠ ⊤
  start : m = ⊥ → n = 0
  sum : a = ∑ j ∈ range n, Ideal.exp2 (s j - m) * w j

theorem seen_zero (s w : ℕ → EReal) : Seen s w 0 ⊥ 0 := ⟨by simp, fun _ => rfl, by simp⟩

theorem fold_max_ne_top {B : ℕ} (f : Fin B → EReal) (hf : ∀ j, f j ≠ ⊤) : (univ.fold max (⊥ : EReal) f) ≠ ⊤ := by
  rw [← lt_top_iff_ne_top, Finset.fold_max_lt]
  exact ⟨bot_lt_top, fun j _ => lt_top_iff_ne_top.2 (hf j)⟩

theorem le_fold_max {B : ℕ} (f : Fin B → EReal) (j : Fin B) : f j ≤ univ.fold max (⊥ : EReal) f :=
  (Finset.le_fold_max _).2 (Or.inr ⟨j, mem_univ _, le_rfl⟩)

/-- Adding one block of columns: the sum so far is scaled from the old bound to the new one. -/
theorem Seen.step {s w : ℕ → EReal} {n : ℕ} {m a : EReal} (h : Seen s w n m a) (B : ℕ) (hB : 0 < B) (hs : ∀ j, s j ≠ ⊤) (hn : s n ≠ ⊥) :
    Seen s w (n + B) (max m (univ.fold max (⊥ : EReal) fun j : Fin B => s (n + j)))
      (Ideal.exp2 (m - max m (univ.fold max (⊥ : EReal) fun j : Fin B => s (n + j))) * a
        + ∑ j : Fin B, Ideal.exp2 (s (n + j) - max m (univ.fold max (⊥ : EReal) fun j : Fin B => s (n + j))) * w (n + j)) := by
  have h0 : s n ≤ univ.fold max (⊥ : EReal) fun j : Fin B => s (n + j) := by
    have := le_fold_max (fun j : Fin B => s (n + j)) ⟨0, hB⟩
    simpa using this
  have h1 : (univ.fold max (⊥ : EReal) fun j : Fin B => s (n + j)) ≠ ⊤ := fold_max_ne_top _ fun j => hs _
  generalize (univ.fold max (⊥ : EReal) fun j : Fin B => s (n + j)) = M at h0 h1
  have hb : max m M ≠ ⊥ := fun hh => hn (by
    have : M ≤ ⊥ := hh ▸ le_max_right m M
    exact le_bot_iff.1 (h0.trans this))
  have ht : max m M ≠ ⊤ := by
    rcases max_choice m M with hh | hh <;> rw [hh]
    · exact h.ne_top
    · exact h1
  have hm := h.start
  have ha := h.sum
  have hmt := h.ne_top
  generalize max m M = m' at hb ht
  refine ⟨ht, fun hh => absurd hh hb, ?_⟩
  rw [Finset.sum_range_add, Finset.sum_range (fun x => Ideal.exp2 (s (n + x) - m') * w (n + x))]
  congr 1
  rw [ha]
  induction m' with
  | bot => exact absurd rfl hb
  | top => exact absurd rfl ht
  | coe r' =>
    induction m with
    | top => exact absurd rfl hmt
    | bot => rw [hm rfl]; simp
    | coe r =>
      rw [← EReal.coe_sub, Ideal.exp2_coe, coe_mul_sum _ _ (Real.rpow 2 (r - r')) (Real.rpow_nonneg (by norm_num) _)]
      refine sum_congr rfl fun j _ => ?_
      rw [← mul_assoc]
      congr 1
      have hsj := hs j
      generalize s j = x at hsj
      induction x with
      | top => exact absurd rfl hsj
      | bot => simp
      | coe x =>
        rw [← EReal.coe_sub, ← EReal.coe_sub, Ideal.exp2_coe, Ideal.exp2_coe, ← EReal.coe_mul]
        congr 1
        show (2 : ℝ) ^ (r - r') * (2 : ℝ) ^ (x - r) = (2 : ℝ) ^ (x - r')
        rw [← Real.rpow_add (by norm_num)]
        congr 1; ring

/-- The columns' weights, up to a common factor. -/
def part (t : ℕ → ℝ) (q : ℕ) (c : ℝ) (j : ℕ) : ℝ := if j ≤ q then Real.exp (t j) * c else 0

theorem sum_part (t : ℕ → ℝ) (q n : ℕ) (c : ℝ) (hq : q < n) : ∑ j ∈ range n, part t q c j = (∑ i ∈ range (q + 1), Real.exp (t i)) * c := by
  obtain ⟨d, rfl⟩ := Nat.exists_eq_add_of_lt hq
  rw [show q + d + 1 = (q + 1) + d by omega, Finset.sum_range_add, sum_mul]
  rw [show ∑ x ∈ range d, part t q c (q + 1 + x) = 0 from sum_eq_zero fun x _ => if_neg (by omega), add_zero]
  exact sum_congr rfl fun j hj => if_pos (by have := mem_range.1 hj; omega)

theorem sum_exp_pos (t : ℕ → ℝ) (q : ℕ) : 0 < ∑ i ∈ range (q + 1), Real.exp (t i) :=
  sum_pos (fun _ _ => Real.exp_pos _) ⟨0, mem_range.2 (Nat.succ_pos q)⟩

theorem part_div (t : ℕ → ℝ) (q : ℕ) (c : ℝ) (hc : 0 < c) (j : ℕ) :
    (1 / ((∑ i ∈ range (q + 1), Real.exp (t i)) * c)) * part t q c j = soft t q j := by
  have h1 := (sum_exp_pos t q).ne'
  unfold part soft
  split_ifs
  · field_simp
  · simp

/-- The scores a kernel works with are in units of two's logarithm, −∞ past the row's position. -/
def scoreTwo (t : ℕ → ℝ) (q j : ℕ) : EReal := if j ≤ q then ((t j / Real.log 2 : ℝ) : EReal) else ⊥

theorem scoreTwo_ne_top (t : ℕ → ℝ) (q j : ℕ) : scoreTwo t q j ≠ ⊤ := by unfold scoreTwo; split_ifs <;> simp

theorem exp2_scoreTwo (t : ℕ → ℝ) (q j : ℕ) (r : ℝ) : Ideal.exp2 (scoreTwo t q j - r) = (part t q (Real.exp (-(r * Real.log 2))) j : EReal) := by
  unfold scoreTwo part
  split_ifs
  · rw [← EReal.coe_sub, Ideal.exp2_coe]
    congr 1
    show (2 : ℝ) ^ (t j / Real.log 2 - r) = _
    rw [Real.rpow_def_of_pos (by norm_num), ← Real.exp_add]
    congr 1
    have : Real.log 2 ≠ 0 := (Real.log_pos (by norm_num)).ne'
    field_simp
    ring
  · simp

/-- The columns seen and done with: the accumulated values over the accumulated weights are the weighted mean. -/
theorem div_of_seen (t : ℕ → ℝ) (q n N : ℕ) (hq : q < n) (hN : n ≤ N) (w : ℕ → EReal) (m a l : EReal)
    (ha : Seen (scoreTwo t q) w n m a) (hl : Seen (scoreTwo t q) (fun _ => 1) n m l) : Ideal.div a l = mix t q N w := by
  have h1 := ha.ne_top
  have h2 := ha.start
  have h3 := ha.sum
  have h4 := hl.sum
  induction m with
  | top => exact absurd rfl h1
  | bot => exact absurd (h2 rfl) (by omega)
  | coe r =>
    have hc := Real.exp_pos (-(r * Real.log 2))
    simp only [exp2_scoreTwo, mul_one] at h3 h4
    rw [sum_coe, sum_part t q n _ hq] at h4
    have hne : (∑ i ∈ range (q + 1), Real.exp (t i)) * Real.exp (-(r * Real.log 2)) ≠ 0 := (mul_pos (sum_exp_pos t q) hc).ne'
    rw [h4, Ideal.div_coe hne, h3, mul_comm, coe_mul_sum _ _ _ (by have := sum_exp_pos t q; positivity)]
    obtain ⟨d, rfl⟩ := Nat.exists_eq_add_of_le hN
    unfold mix
    rw [Finset.sum_range_add (fun j => (soft t q j : EReal) * w j) n d]
    rw [show ∑ x ∈ range d, (soft t q (n + x) : EReal) * w (n + x) = 0 from sum_eq_zero fun x _ => by
      rw [soft, if_neg (by omega)]; simp, add_zero]
    refine sum_congr rfl fun j _ => ?_
    rw [← mul_assoc, ← EReal.coe_mul, part_div t q _ hc j]

/-- The scores of the plain formula, −∞ past the row's position. -/
def scoreE (t : ℕ → ℝ) (q j : ℕ) : EReal := if j ≤ q then (t j : EReal) else ⊥

theorem scoreE_ne_top (t : ℕ → ℝ) (q j : ℕ) : scoreE t q j ≠ ⊤ := by unfold scoreE; split_ifs <;> simp

theorem exp_scoreE (t : ℕ → ℝ) (q j : ℕ) (r : ℝ) : Ideal.exp (scoreE t q j - r) = (part t q (Real.exp (-r)) j : EReal) := by
  unfold scoreE part
  split_ifs
  · rw [← EReal.coe_sub, Ideal.exp_coe, ← Real.exp_add, sub_eq_add_neg]
  · simp

/-- The plain softmax of a row, its maximum taken off first, is the weighted mean. -/
theorem softmax_eq (t : ℕ → ℝ) (q N : ℕ) (hq : q < N) (w : ℕ → EReal) (m l : EReal) (h1 : m ≠ ⊤) (h2 : m ≠ ⊥)
    (hl : l = ∑ j ∈ range N, Ideal.exp (scoreE t q j - m)) :
    ∑ j ∈ range N, w j * Ideal.div (Ideal.exp (scoreE t q j - m)) l = mix t q N w := by
  induction m with
  | top => exact absurd rfl h1
  | bot => exact absurd rfl h2
  | coe r =>
    have hc := Real.exp_pos (-r)
    simp only [exp_scoreE] at hl ⊢
    rw [sum_coe, sum_part t q N _ hq] at hl
    have hne : (∑ i ∈ range (q + 1), Real.exp (t i)) * Real.exp (-r) ≠ 0 := (mul_pos (sum_exp_pos t q) hc).ne'
    refine sum_congr rfl fun j _ => ?_
    rw [hl, Ideal.div_coe hne, ← EReal.coe_mul, mul_comm (part _ _ _ _), part_div t q _ hc j, mul_comm]

end Cert.Attn

end
-- ==== Proof.Val.Score.lean ====
module

public import proofs.«01_k».proof.Proof.Val.Math
public import Idealize.ShloMosaic.Lib.Pointwise

@[expose] public section

noncomputable section

namespace Cert.Attn

open Idealize.ShloMosaic Finset

/-! ## The attention as mathematics: from real queries, keys and running sums of the forget gates -/

/-- The shape of the queries, keys and values: the heads' columns side by side. -/
abbrev Flat : Shape := ⟨3, ![2, 8192, 2048]⟩
/-- The shape of the running sums. -/
abbrev Sums : Shape := ⟨3, ![2, 16, 8192]⟩

/-- The inner product of head `h`'s query at position `p` and key at position `j`. -/
def inner (Q K : Flat.Idx → ℝ) (b : Fin 2) (h : Fin 16) (p j : Fin 8192) : ℝ :=
  ∑ d : Fin 128, Q (ix3 b p ⟨h.val * 128 + d.val, by omega⟩) * K (ix3 b j ⟨h.val * 128 + d.val, by omega⟩)

/-- Head `h`'s score of position `j` for position `p`. -/
def score (Q K : Flat.Idx → ℝ) (C : Sums.Idx → ℝ) (b : Fin 2) (h : Fin 16) (p : Fin 8192) (j : ℕ) : ℝ :=
  if hj : j < 8192 then inner Q K b h p ⟨j, hj⟩ / √128 + C (ix3 b h p) - C (ix3 b h ⟨j, hj⟩) else 0

/-- The attention: each head's values, averaged with the softmax of its scores over the positions up to its own. -/
def attend (Q K : Flat.Idx → ℝ) (V : Flat.Idx → EReal) (C : Sums.Idx → ℝ) (b : Fin 2) (p : Fin 8192) (e : Fin 2048) : EReal :=
  mix (score Q K C b ⟨e.val / 128, by omega⟩ p) p.val 8192 fun j => if hj : j < 8192 then V (ix3 b ⟨j, hj⟩ e) else 0

theorem ofBits_128 : Ideal.ofBits .f32 0x43000000#32 = ((128 : ℝ) : EReal) := by
  simp [Ideal.ofBits, Ideal.ieee]
  rw [← EReal.coe_mul]
  norm_num

theorem ofBits_two : Ideal.ofBits .f32 0x40000000#32 = ((2 : ℝ) : EReal) := by
  simp [Ideal.ofBits, Ideal.ieee]
  rw [← EReal.coe_mul]
  norm_num

theorem sqrt_128 : Ideal.sqrt (Ideal.ofBits .f32 0x43000000#32) = ((√128 : ℝ) : EReal) := by
  rw [ofBits_128, Ideal.sqrt_coe, if_neg (by norm_num)]

theorem sqrt_ne : (√128 : ℝ) ≠ 0 := by positivity

theorem sum_prod_coe (Q K : Flat.Idx → ℝ) (b : Fin 2) (h : Fin 16) (p j : Fin 8192) :
    ∑ d : Fin 128, (Q (ix3 b p ⟨h.val * 128 + d.val, by omega⟩) : EReal) * (K (ix3 b j ⟨h.val * 128 + d.val, by omega⟩) : EReal)
      = (inner Q K b h p j : EReal) := by
  unfold inner
  rw [← sum_coe]
  exact sum_congr rfl fun d _ => (EReal.coe_mul _ _).symm

end Cert.Attn

end
-- ==== Proof.Val.Prep.lean ====
module

public import proofs.«01_k».proof.KernelIdeal
public import proofs.«01_k».proof.Proof.Gen.KernelIdeal.Frame
public import Idealize.ShloMosaic.Lib.Claim
public import Idealize.ShloMosaic.Lib.Pointwise
public import proofs.«01_k».proof.Proof.Val.Score

@[expose] public section

set_option maxRecDepth 16384

noncomputable section

namespace Cert.KernelIdeal.Hand

open Cert.KernelIdeal Cert.KernelIdeal.Gen Cert.Attn
open Idealize.ShloMosaic Idealize.ShloMosaic.TcCoe

/-! ## The arrays the kernel is called with -/

/-- One over the logarithm of two, as the host computes it. -/
def perLogTwo : FVec Ideal S_ .f32 := Host.divf (constant S_ .f32 0x3F800000#32) (Host.log (constant S_ .f32 0x40000000#32))

/-- Queries, keys and values side by side, the queries scaled. -/
def qkvOf (q k v : FVec Ideal S2x8192x2048 .f32) : FVec Ideal S2x8192x6144 .bf16 :=
  truncf .bf16 (concatenate S2x8192x6144 2 [⟨S2x8192x2048, mulf q (broadcastInDim S2x8192x2048 ![] bcast_S_S2x8192x2048 (Host.divf perLogTwo (Host.sqrt (constant S_ .f32 0x43000000#32))))⟩, ⟨S2x8192x2048, k⟩, ⟨S2x8192x2048, v⟩] concatenates_S2x8192x2048_S2x8192x2048_S2x8192x2048_S2x8192x6144_d2) bitsLt_bf16_f32

/-- The running sums in base-two units. -/
def baseTwo (f : FVec Ideal S2x16x8192 .f32) : FVec Ideal S2x16x8192 .f32 := mulf f (broadcastInDim S2x16x8192 ![] bcast_S_S2x16x8192 perLogTwo)

/-- What one rounding of the running sums leaves, -/
def rest (x : FVec Ideal S2x16x8192 .f32) : FVec Ideal S2x16x8192 .f32 := subf x (extf .f32 (truncf .bf16 x bitsLt_bf16_f32) bitsLt_bf16_f32)

/-- A piece of the running sums as a column. -/
def column (x : FVec Ideal S2x16x8192 .f32) : FVec Ideal S2x16x8192x1 .bf16 :=
  broadcastInDim S2x16x8192x1 ![0, 1, 2] bcast_S2x16x8192_S2x16x8192x1_0_1_2 (truncf .bf16 x bitsLt_bf16_f32)

/-- The running sums in three pieces. -/
def pieces (f : FVec Ideal S2x16x8192 .f32) : FVec Ideal S2x16x8192x3 .bf16 :=
  concatenate S2x16x8192x3 3 [⟨S2x16x8192x1, column (baseTwo f)⟩, ⟨S2x16x8192x1, column (rest (baseTwo f))⟩, ⟨S2x16x8192x1, column (rest (rest (baseTwo f)))⟩] concatenates_S2x16x8192x1_S2x16x8192x1_S2x16x8192x1_S2x16x8192x3_d3

/-- Three columns of ones. -/
def onesThree : FVec Ideal S2x16x8192x3 .bf16 := broadcastInDim S2x16x8192x3 ![] bcast_S_S2x16x8192x3 (constant S_ .bf16 0x3F80#16)

/-- The columns of zeros. -/
def zerosRest : FVec Ideal S2x16x8192x122 .bf16 := broadcastInDim S2x16x8192x122 ![] bcast_S_S2x16x8192x122 (constant S_ .bf16 0x0000#16)

/-- The columns that go with the queries. -/
def qaugOf (f : FVec Ideal S2x16x8192 .f32) : FVec Ideal S2x16x8192x128 .bf16 :=
  concatenate S2x16x8192x128 3 [⟨S2x16x8192x3, pieces f⟩, ⟨S2x16x8192x3, onesThree⟩, ⟨S2x16x8192x122, zerosRest⟩] concatenates_S2x16x8192x3_S2x16x8192x3_S2x16x8192x122_S2x16x8192x128_d3

/-- The columns that go with the keys. -/
def kaugOf (f : FVec Ideal S2x16x8192 .f32) : FVec Ideal S2x16x8192x128 .bf16 :=
  concatenate S2x16x8192x128 3 [⟨S2x16x8192x3, onesThree⟩, ⟨S2x16x8192x3, Host.negf (pieces f)⟩, ⟨S2x16x8192x122, zerosRest⟩] concatenates_S2x16x8192x3_S2x16x8192x3_S2x16x8192x122_S2x16x8192x128_d3

variable (m : (ℓ : Loc nD τ sig) → Buf (Elt Ideal) ℓ) (c : Dev nD)

theorem V_qkv : V m c main_v7 = qkvOf (m ((c : Thread nD τ).loc main_arg0)) (m ((c : Thread nD τ).loc main_arg1)) (m ((c : Thread nD τ).loc main_arg2)) := by
  entry_read
  rfl

theorem V_qaug : V m c main_v23 = qaugOf (m ((c : Thread nD τ).loc main_arg3)) := by
  entry_read
  rfl

theorem V_kaug : V m c main_v25 = kaugOf (m ((c : Thread nD τ).loc main_arg3)) := by
  entry_read
  rfl

theorem V_chunk0 : V m c main_v31 = shapeCast S128x16x2048 (shapeCast S2048x2048 (m ((c : Thread nD τ).loc main_arg4)) shapeCasts_S1x2048x2048_S2048x2048) shapeCasts_S2048x2048_S128x16x2048 := by
  entry_read
  rfl

theorem V_chunk1 : V m c main_v32 = shapeCast S256x16x4096 (shapeCast S4096x4096 (m ((c : Thread nD τ).loc main_arg5)) shapeCasts_S1x4096x4096_S4096x4096) shapeCasts_S4096x4096_S256x16x4096 := by
  entry_read
  rfl

theorem V_chunk2 : V m c main_v33 = shapeCast S256x1024x512 (shapeCast S64x4096x512 (m ((c : Thread nD τ).loc main_arg6)) shapeCasts_S1x64x4096x512_S64x4096x512) shapeCasts_S64x4096x512_S256x1024x512 := by
  entry_read
  rfl

theorem V_chunk3 : V m c main_v34 = shapeCast S256x1024x512 (shapeCast S64x4096x512 (m ((c : Thread nD τ).loc main_arg7)) shapeCasts_S1x64x4096x512_S64x4096x512) shapeCasts_S64x4096x512_S256x1024x512 := by
  entry_read
  rfl

theorem V_chunk4 : V m c main_v35 = shapeCast S256x128x4096 (shapeCast S64x512x4096 (m ((c : Thread nD τ).loc main_arg8)) shapeCasts_S1x64x512x4096_S64x512x4096) shapeCasts_S64x512x4096_S256x128x4096 := by
  entry_read
  rfl

end Cert.KernelIdeal.Hand
end
-- ==== Proof.Val.Block.lean ====
module

public import proofs.«01_k».proof.Proof.KI.Body
public import Idealize.ShloMosaic.Lib.Pointwise
public import Idealize.ShloMosaic.Lib.WordCmp
public import Idealize.ShloMosaic.Lib.Pointwise.Sums

@[expose] public section

set_option maxRecDepth 8192

noncomputable section

namespace Cert.KernelIdeal.Hand

open Cert.KernelIdeal Cert.KernelIdeal.Gen
open Idealize.ShloMosaic Idealize.ShloMosaic.VecWindow

/-! ## What the body's operations compute, element by element -/

/-- The mask's value. -/
theorem mask_eq : Named.named (F := Ideal) (φ := .f32) κ "mask" 0xF149F2CA#32 = (⊥ : EReal) :=
  IdealRules.named_const.ideal_named_scalar _ _ _ _ rfl

theorem negInf : Ideal.ofBits .f32 0xFF800000#32 = (⊥ : EReal) := by
  simp [Ideal.ofBits, Ideal.ieee]

/-- The new maximum of a row: the old one and the block's scores. -/
theorem pay64_apply (s : FVec Ideal S512x512 .f32) (m : FVec Ideal S512x1 .f32) (r : Fin 512) :
    k0_pay64 s m (ix2 r 0) = max (m (ix2 r 0)) (Finset.univ.fold max (⊥ : EReal) fun j : Fin 512 => s (ix2 r j)) := by
  pointwise [k0_pay64, negInf]

/-- The new accumulator of a row. -/
theorem pay65_apply (w : FVec Ideal S512x256 .bf16) (s : FVec Ideal S512x512 .f32) (m : FVec Ideal S512x1 .f32) (a : FVec Ideal S512x256 .f32) (r : Fin 512) (d : Fin 256) :
    k0_pay65 w s m a (ix2 r d) = Ideal.exp2 (m (ix2 r 0) - k0_pay64 s m (ix2 r 0)) * a (ix2 r d)
      + ∑ j : Fin 512, Ideal.exp2 (s (ix2 r j) - k0_pay64 s m (ix2 r 0)) * w (ix2 j d) := by
  pointwise [k0_pay65]
  rfl

theorem pay11_apply (s : FVec Ideal S1x512x512 .f32) (r j : Fin 512) : k0_pay11 s (ix2 r j) = s (ix3 0 r j) := by
  pointwise [k0_pay11]

theorem pay63_apply (s : FVec Ideal S1x512x512 .f32) (r j : Fin 512) : k0_pay63 s (ix2 r j) = if j.val ≤ r.val then s (ix3 0 r j) else ⊥ := by
  pointwise [k0_pay63, mask_eq]
  rw [WordCmp.cmpi_sle_ofNat (by have := j.isLt; omega) (by have := r.isLt; omega)]
  by_cases h : j.val ≤ r.val
  · simp [h, Scalar.select]
  · simp [h, Scalar.select]

theorem pay4_apply (o : FVec Ideal S512x128 .bf16) (v : FVec Ideal S1x512x128 .bf16) (j : Fin 512) (d : Fin 256) :
    k0_pay4 o v (ix2 j d) = if h : d.val < 128 then v (ix3 0 j ⟨d.val, h⟩) else o (ix2 j ⟨d.val - 128, by omega⟩) := by
  pointwise [k0_pay4]

theorem pay45_apply (j : Fin 512) (d : Fin 128) : k0_pay45 (F := Ideal) (ix2 j d) = (1 : EReal) := by
  pointwise [k0_pay45]

theorem pay46_apply (j : Fin 1024) (d : Fin 1) : k0_pay46 (F := Ideal) (ix2 j d) = (⊥ : EReal) := by
  pointwise [k0_pay46, mask_eq]

theorem pay47_apply (j : Fin 1024) (d : Fin 256) : k0_pay47 (F := Ideal) (ix2 j d) = (0 : EReal) := by
  pointwise [k0_pay47]

theorem pay44_apply (Q : FVec Ideal S1x1024x128 .bf16) (QA : FVec Ideal S1x1x1024x128 .bf16) (r : Fin 1024) (c : Fin 256) :
    k0_pay44 Q QA (ix2 r c) = if h : c.val < 128 then Q (ix3 0 r ⟨c.val, h⟩) else QA (ix4 0 0 r ⟨c.val - 128, by omega⟩) := by
  pointwise [k0_pay44]

theorem pay3_apply (x : FVec Ideal S1024x256 .bf16) (k : FVec Ideal S1x512x128 .bf16) (l : FVec Ideal S1x1x512x128 .bf16) (r : Fin 1024) (j : Fin 512) :
    k0_pay3 x k l (ix3 0 r j) = ∑ c : Fin 256, x (ix2 r c) * (if h : c.val < 128 then k (ix3 0 j ⟨c.val, h⟩) else l (ix4 0 0 j ⟨c.val - 128, by omega⟩)) := by
  pointwise [k0_pay3]

theorem pay61_apply (x : FVec Ideal S1024x256 .bf16) (k : FVec Ideal S1x512x128 .bf16) (l : FVec Ideal S1x1x512x128 .bf16) (r : Fin 512) (j : Fin 512) :
    k0_pay61 x k l (ix3 0 r j) = ∑ c : Fin 256, x (ix2 ⟨512 + r.val, by omega⟩ c) * (if h : c.val < 128 then k (ix3 0 j ⟨c.val, h⟩) else l (ix4 0 0 j ⟨c.val - 128, by omega⟩)) := by
  pointwise [k0_pay61]

theorem pay2_apply (x y : FVec Ideal S1024x128 .f32) (r : Fin 1024) (d : Fin 128) : k0_pay2 (F := Ideal) x y (ix3 0 r d) = Ideal.div (x (ix2 r d)) (y (ix2 r d)) := by
  pointwise [k0_pay2]

/-! ## The steps of the body that are one step -/

section Same
variable {F : FTy → Type} [FloatOps F] [Named F]

theorem m_first (s : Vec F S1x512x512 .f32) (m : Vec F S512x1 .f32) : k0_pay10 (k0_pay6 s m) = k0_pay64 (k0_pay11 s) m := shapeCast_id _ _
theorem m_upper (s : Vec F S1x512x512 .f32) (m : Vec F S512x1 .f32) : k0_pay14 s m = k0_pay64 (k0_pay11 s) m := shapeCast_id _ _
theorem m_second (s : Vec F S1x512x512 .f32) (m : Vec F S512x1 .f32) : k0_pay50 (k0_pay18 s m) = k0_pay64 (k0_pay11 s) m := shapeCast_id _ _
theorem m_second_upper (s : Vec F S1x512x512 .f32) (m : Vec F S512x1 .f32) : k0_pay54 s m = k0_pay64 (k0_pay11 s) m := shapeCast_id _ _
theorem m_last (s : Vec F S1x512x512 .f32) (m : Vec F S512x1 .f32) : k0_pay70 (k0_pay68 s m) = k0_pay64 (k0_pay11 s) m := shapeCast_id _ _
theorem a_first (w : FVec F S512x256 .bf16) (s : Vec F S1x512x512 .f32) (m : Vec F S512x1 .f32) (a : Vec F S512x256 .f32) :
    k0_pay9 w (k0_pay7 s m) (k0_pay8 s m) a = k0_pay65 w (k0_pay11 s) m a := rfl
theorem a_upper (w : FVec F S512x256 .bf16) (s : Vec F S1x512x512 .f32) (m : Vec F S512x1 .f32) (a : Vec F S512x256 .f32) :
    k0_pay13 w s m a = k0_pay65 w (k0_pay11 s) m a := rfl
theorem a_second (w : FVec F S512x256 .bf16) (s : Vec F S1x512x512 .f32) (m : Vec F S512x1 .f32) (a : Vec F S512x256 .f32) :
    k0_pay49 w (k0_pay19 s m a) (k0_pay20 s m) = k0_pay65 w (k0_pay11 s) m a := rfl
theorem a_second_upper (w : FVec F S512x256 .bf16) (s : Vec F S1x512x512 .f32) (m : Vec F S512x1 .f32) (a : Vec F S512x256 .f32) :
    k0_pay53 w s m a = k0_pay65 w (k0_pay11 s) m a := rfl
theorem a_last (w : FVec F S512x256 .bf16) (s : Vec F S1x512x512 .f32) (m : Vec F S512x1 .f32) (a : Vec F S512x256 .f32) :
    k0_pay69 w s m a = k0_pay65 w (k0_pay11 s) m a := rfl
theorem a_diag (o : FVec F S512x128 .bf16) (v : Vec F S1x512x128 .bf16) (s : Vec F S1x512x512 .f32) (m : Vec F S512x1 .f32) (a : Vec F S512x256 .f32) :
    k0_pay73 o v s m a = k0_pay65 (k0_pay4 o v) (k0_pay63 s) m a := rfl
theorem w_second (o : FVec F S512x128 .bf16) (v : Vec F S1x512x128 .bf16) : k0_pay16 o v = k0_pay4 o v := rfl
theorem w_last (o : FVec F S512x128 .bf16) (v : Vec F S1x512x128 .bf16) : k0_pay62 o v = k0_pay4 o v := rfl
theorem s_second (x : FVec F S1024x256 .bf16) (k : Vec F S1x512x128 .bf16) (l : Vec F S1x1x512x128 .bf16) : k0_pay15 x k l = k0_pay3 x k l := rfl
theorem s_start (Q : Vec F S1x1024x128 .bf16) (QA : Vec F S1x1x1024x128 .bf16) (k : Vec F S1x512x128 .bf16) (l : Vec F S1x1x512x128 .bf16) :
    k0_pay48 Q QA k l = k0_pay3 (k0_pay44 Q QA) k l := rfl

end Same

end Cert.KernelIdeal.Hand

end
-- ==== Proof.Val.Attend.lean ====
module

public import proofs.«01_k».proof.Proof.Val.Block
public import proofs.«01_k».proof.Proof.Val.Math

@[expose] public section

set_option maxRecDepth 8192

noncomputable section

namespace Cert.KernelIdeal.Hand

open Cert.KernelIdeal Cert.KernelIdeal.Gen Cert.Attn
open Idealize.ShloMosaic Idealize.ShloMosaic.VecWindow

/-! ## Windows at an index -/

section Win
variable {α : Type}

theorem win_rows (K : S1x8192x128.Idx → α) (off : Fin 3 → ℕ) (inb) (n : ℕ) (h : off = ![0, n, 0]) (j : Fin 512) (c : Fin 128) (hn : n + j.val < 8192) :
    window K off S1x512x128.size inb (ix3 0 j c) = K (ix3 0 ⟨n + j.val, hn⟩ c) := by
  subst h
  unfold window
  congr 1
  idx_ext

theorem win_rows4 (K : S1x1x8192x128.Idx → α) (off : Fin 4 → ℕ) (inb) (n : ℕ) (h : off = ![0, 0, n, 0]) (j : Fin 512) (c : Fin 128) (hn : n + j.val < 8192) :
    window K off S1x1x512x128.size inb (ix4 0 0 j c) = K (ix4 0 0 ⟨n + j.val, hn⟩ c) := by
  subst h
  unfold window
  congr 1
  idx_ext

/-- A row of the lower, and of the upper half of a point's query rows. -/
abbrev lo (r : Fin 512) : Fin 1024 := ⟨r.val, by omega⟩
abbrev hi (r : Fin 512) : Fin 1024 := ⟨512 + r.val, by omega⟩

theorem win_lo (x : S1x1024x512.Idx → α) (inb) (r j : Fin 512) : window x ![0, 0, 0] S1x512x512.size inb (ix3 0 r j) = x (ix3 0 (lo r) j) := by
  unfold window
  congr 1
  idx_ext

theorem win_hi (x : S1x1024x512.Idx → α) (inb) (r j : Fin 512) : window x ![0, 512, 0] S1x512x512.size inb (ix3 0 r j) = x (ix3 0 (hi r) j) := by
  unfold window
  congr 1
  idx_ext

end Win

theorem bLo_apply (x : Vec Ideal S1x1024x512 .f32) (r j : Fin 512) : bLo x (ix3 0 r j) = x (ix3 0 (lo r) j) := win_lo x _ r j
theorem bHi_apply (x : Vec Ideal S1x1024x512 .f32) (r j : Fin 512) : bHi x (ix3 0 r j) = x (ix3 0 (hi r) j) := win_hi x _ r j
theorem pay46_all (y) : k0_pay46 (F := Ideal) y = (⊥ : EReal) := by rw [eq_ix2 y]; exact pay46_apply _ _
theorem pay47_all (y) : k0_pay47 (F := Ideal) y = (0 : EReal) := by rw [eq_ix2 y]; exact pay47_apply _ _

/-! ## Scores and values of a point -/

section Point
variable (i : grid0.Coords) (Q : FVec Ideal S1x1024x128 .bf16) (QA : FVec Ideal S1x1x1024x128 .bf16) (K : FVec Ideal S1x8192x128 .bf16)
  (KA : FVec Ideal S1x1x8192x128 .bf16) (W : FVec Ideal S1x8192x128 .bf16)

/-- The score of query row `r` against key `j`: the product of the query with the key, and of their bias columns. -/
def keyScore (r : Fin 1024) (j : ℕ) : EReal :=
  if h : j < 8192 then (∑ c : Fin 128, Q (ix3 0 r c) * K (ix3 0 ⟨j, h⟩ c)) + ∑ c : Fin 128, QA (ix4 0 0 r c) * KA (ix4 0 0 ⟨j, h⟩ c) else 0

/-- Column `d` of the values, followed by columns of ones. -/
def valCol (d : Fin 256) (j : ℕ) : EReal :=
  if hd : d.val < 128 then (if h : j < 8192 then W (ix3 0 ⟨j, h⟩ ⟨d.val, hd⟩) else 0) else 1

/-- The position of a query row in the sequence. -/
def pos (r : Fin 1024) : ℕ := 1024 * (i 2).val + r.val

theorem pay3_halves (k : FVec Ideal S1x512x128 .bf16) (l : FVec Ideal S1x1x512x128 .bf16) (r : Fin 1024) (j : Fin 512) :
    k0_pay3 (F := Ideal) (k0_pay44 (F := Ideal) Q QA) k l (ix3 0 r j) = (∑ c : Fin 128, Q (ix3 0 r c) * k (ix3 0 j c)) + ∑ c : Fin 128, QA (ix4 0 0 r c) * l (ix4 0 0 j c) := by
  pointwise [k0_pay3, k0_pay44]

theorem pay61_halves (k : FVec Ideal S1x512x128 .bf16) (l : FVec Ideal S1x1x512x128 .bf16) (r : Fin 512) (j : Fin 512) :
    k0_pay61 (F := Ideal) (k0_pay44 (F := Ideal) Q QA) k l (ix3 0 r j) = (∑ c : Fin 128, Q (ix3 0 (hi r) c) * k (ix3 0 j c)) + ∑ c : Fin 128, QA (ix4 0 0 (hi r) c) * l (ix4 0 0 j c) := by
  pointwise [k0_pay61, k0_pay44]

/-- The scores of the block of keys from `n` on. -/
theorem scores_at (n : ℕ) (hn : n + 512 ≤ 8192) (off : Fin 3 → ℕ) (inb) (h : off = ![0, n, 0]) (off' : Fin 4 → ℕ) (inb') (h' : off' = ![0, 0, n, 0]) (r : Fin 1024) (j : Fin 512) :
    k0_pay3 (F := Ideal) (k0_pay44 (F := Ideal) Q QA) (window K off S1x512x128.size inb) (window KA off' S1x1x512x128.size inb') (ix3 0 r j) = keyScore Q QA K KA r (n + j.val) := by
  have hj : n + j.val < 8192 := by omega
  rw [pay3_halves, keyScore, dif_pos hj]
  simp only [win_rows K off inb n h j _ hj, win_rows4 KA off' inb' n h' j _ hj]

theorem scores_upper (n : ℕ) (hn : n + 512 ≤ 8192) (off : Fin 3 → ℕ) (inb) (h : off = ![0, n, 0]) (off' : Fin 4 → ℕ) (inb') (h' : off' = ![0, 0, n, 0]) (r j : Fin 512) :
    k0_pay61 (F := Ideal) (k0_pay44 (F := Ideal) Q QA) (window K off S1x512x128.size inb) (window KA off' S1x1x512x128.size inb') (ix3 0 r j) = keyScore Q QA K KA (hi r) (n + j.val) := by
  have hj : n + j.val < 8192 := by omega
  rw [pay61_halves, keyScore, dif_pos hj]
  simp only [win_rows K off inb n h j _ hj, win_rows4 KA off' inb' n h' j _ hj]

/-- The values of the block of keys from `n` on, and ones. -/
theorem values_at (n : ℕ) (hn : n + 512 ≤ 8192) (off : Fin 3 → ℕ) (inb) (h : off = ![0, n, 0]) (j : Fin 512) (d : Fin 256) :
    k0_pay4 (F := Ideal) (k0_pay45 (F := Ideal)) (window W off S1x512x128.size inb) (ix2 j d) = valCol W d (n + j.val) := by
  have hj : n + j.val < 8192 := by omega
  rw [pay4_apply, valCol]
  split_ifs with hd
  · exact win_rows W off inb n h j _ hj
  · exact pay45_apply _ _

variable (t : Fin 1024 → ℕ → ℝ)

/-- One row takes one block of columns in. -/
theorem row_step (w : FVec Ideal S512x256 .bf16) (s : FVec Ideal S512x512 .f32) (m : FVec Ideal S512x1 .f32) (a : FVec Ideal S512x256 .f32) (r : Fin 512) (d : Fin 256)
    (ρ : Fin 1024) (n : ℕ) (h : Seen (scoreTwo (t ρ) (pos i ρ)) (valCol W d) n (m (ix2 r 0)) (a (ix2 r d))) (hs : ∀ j : Fin 512, s (ix2 r j) = scoreTwo (t ρ) (pos i ρ) (n + j.val))
    (hw : ∀ j : Fin 512, w (ix2 j d) = valCol W d (n + j.val)) (hn : n ≤ pos i ρ) :
    Seen (scoreTwo (t ρ) (pos i ρ)) (valCol W d) (n + 512) (k0_pay64 s m (ix2 r 0)) (k0_pay65 w s m a (ix2 r d)) := by
  rw [pay65_apply, pay64_apply]
  simp only [hs, hw]
  refine h.step 512 (by norm_num) (scoreTwo_ne_top _ _) ?_
  unfold scoreTwo
  rw [if_pos hn]
  exact EReal.coe_ne_bot _

/-- What the scratch buffers hold when the first `n` columns are in. -/
structure Holds (n : ℕ) (S : St Ideal) : Prop where
  low : ∀ (r : Fin 512) (d : Fin 256), Seen (scoreTwo (t (lo r)) (pos i (lo r))) (valCol W d) n (S.m0 (ix2 r 0)) (S.a0 (ix2 r d))
  upp : ∀ (r : Fin 512) (d : Fin 256), Seen (scoreTwo (t (hi r)) (pos i (hi r))) (valCol W d) n (S.m1 (ix2 r 0)) (S.a1 (ix2 r d))
  slow : ∀ r j : Fin 512, S.s0 (ix3 0 r j) = keyScore Q QA K KA (lo r) (n + j.val)
  supp : ∀ r j : Fin 512, S.s1 (ix3 0 r j) = keyScore Q QA K KA (hi r) (n + j.val)

variable (hs : ∀ (r : Fin 1024) (j : ℕ), j < 8192 → keyScore Q QA K KA r j = ((t r j / Real.log 2 : ℝ) : EReal))

include hs

theorem score_of (r : Fin 1024) (j : ℕ) (hj : j < 8192) (h : j ≤ pos i r) : keyScore Q QA K KA r j = scoreTwo (t r) (pos i r) j := by
  rw [hs r j hj, scoreTwo, if_pos h]

theorem holds_start : Holds i Q QA K KA W t 0 (st0 (F := Ideal) Q QA K KA) where
  low r d := by
    have e1 : (st0 (F := Ideal) Q QA K KA).m0 (ix2 r 0) = (⊥ : EReal) := by
      simp only [st0, window, pay46_all]
    have e2 : (st0 (F := Ideal) Q QA K KA).a0 (ix2 r d) = (0 : EReal) := by
      simp only [st0, window, pay47_all]
    rw [e1, e2]; exact seen_zero _ _
  upp r d := by
    have e1 : (st0 (F := Ideal) Q QA K KA).m1 (ix2 r 0) = (⊥ : EReal) := by
      simp only [st0, window, pay46_all]
    have e2 : (st0 (F := Ideal) Q QA K KA).a1 (ix2 r d) = (0 : EReal) := by
      simp only [st0, window, pay47_all]
    rw [e1, e2]; exact seen_zero _ _
  slow r j := by
    show bLo (F := Ideal) (k0_pay48 (F := Ideal) Q QA _ _) _ = _
    rw [bLo_apply, s_start]
    exact scores_at Q QA K KA 0 (by norm_num) _ _ rfl _ _ rfl _ _
  supp r j := by
    show bHi (F := Ideal) (k0_pay48 (F := Ideal) Q QA _ _) _ = _
    rw [bHi_apply, s_start]
    exact scores_at Q QA K KA 0 (by norm_num) _ _ rfl _ _ rfl _ _

theorem holds_step (k : Fin (k0_t1_loop i).trips) (hk : k.val + 1 ≤ (i 2).val) (S : St Ideal) (h : Holds i Q QA K KA W t (1024 * k.val) S) :
    Holds i Q QA K KA W t (1024 * (k.val + 1)) (tripAt i (k0_pay44 (F := Ideal) Q QA) (k0_pay45 (F := Ideal)) K KA W k S) := by
  have hi2 : (i 2).val < 8 := (i 2).isLt
  have e1 : ∀ j : ℕ, 1024 * (k.val + 1) + j = 1024 * k.val + 512 + 512 + j := fun j => by ring
  have p1 : ∀ r : Fin 1024, 1024 * (k.val + 1) ≤ pos i r := fun r => by unfold pos; omega
  have o11 : k0_off1 i k 0#32 = ![0, 1024 * k.val + 512, 0] := (k0_off1_eq i k 0).trans (by simp)
  have o21 : k0_off2 i k 0#32 = ![0, 0, 1024 * k.val + 512, 0] := (k0_off2_eq i k 0).trans (by simp)
  have o31 : k0_off3 i k 0#32 = ![0, 1024 * k.val, 0] := (k0_off3_eq i k 0).trans (by simp)
  have o12 : k0_off1 i k 1#32 = ![0, 1024 * (k.val + 1), 0] := (k0_off1_eq i k 1).trans (by simp [mul_add, add_assoc])
  have o22 : k0_off2 i k 1#32 = ![0, 0, 1024 * (k.val + 1), 0] := (k0_off2_eq i k 1).trans (by simp [mul_add, add_assoc])
  have o32 : k0_off3 i k 1#32 = ![0, 1024 * k.val + 512, 0] := (k0_off3_eq i k 1).trans (by simp)
  constructor
  · intro r d
    have h1 := row_step i W t (k0_pay4 (F := Ideal) (k0_pay45 (F := Ideal)) (window W (k0_off3 i k 0#32) S1x512x128.size (k0_off3_inb i k 0))) (k0_pay11 S.s0) S.m0 S.a0 r d (lo r) (1024 * k.val) (h.low r d)
      (fun j => by rw [pay11_apply, h.slow, score_of i Q QA K KA t hs _ _ (by omega) (by have := p1 (lo r); omega)])
      (fun j => values_at W _ (by omega) _ _ o31 _ _) (by have := p1 (lo r); omega)
    have h2 := row_step i W t (k0_pay4 (F := Ideal) (k0_pay45 (F := Ideal)) (window W (k0_off3 i k 1#32) S1x512x128.size (k0_off3_inb i k 1)))
      (k0_pay11 (bLo (F := Ideal) (k0_pay3 (F := Ideal) (k0_pay44 (F := Ideal) Q QA) (window K (k0_off1 i k 0#32) S1x512x128.size (k0_off1_inb i k 0)) (window KA (k0_off2 i k 0#32) S1x1x512x128.size (k0_off2_inb i k 0))))) _ _ r d (lo r) (1024 * k.val + 512) h1
      (fun j => by rw [pay11_apply, bLo_apply, scores_at Q QA K KA _ (by omega) _ _ o11 _ _ o21, score_of i Q QA K KA t hs _ _ (by omega) (by have := p1 (lo r); omega)])
      (fun j => values_at W _ (by omega) _ _ o32 _ _) (by have := p1 (lo r); omega)
    rw [mul_add, mul_one]
    simpa only [tripAt, tripF, m_first, m_second, a_first, a_second, w_second, add_assoc] using h2
  · intro r d
    have h1 := row_step i W t (k0_pay4 (F := Ideal) (k0_pay45 (F := Ideal)) (window W (k0_off3 i k 0#32) S1x512x128.size (k0_off3_inb i k 0))) (k0_pay11 S.s1) S.m1 S.a1 r d (hi r) (1024 * k.val) (h.upp r d)
      (fun j => by rw [pay11_apply, h.supp, score_of i Q QA K KA t hs _ _ (by omega) (by have := p1 (hi r); omega)])
      (fun j => values_at W _ (by omega) _ _ o31 _ _) (by have := p1 (hi r); omega)
    have h2 := row_step i W t (k0_pay4 (F := Ideal) (k0_pay45 (F := Ideal)) (window W (k0_off3 i k 1#32) S1x512x128.size (k0_off3_inb i k 1)))
      (k0_pay11 (bHi (F := Ideal) (k0_pay3 (F := Ideal) (k0_pay44 (F := Ideal) Q QA) (window K (k0_off1 i k 0#32) S1x512x128.size (k0_off1_inb i k 0)) (window KA (k0_off2 i k 0#32) S1x1x512x128.size (k0_off2_inb i k 0))))) _ _ r d (hi r) (1024 * k.val + 512) h1
      (fun j => by rw [pay11_apply, bHi_apply, scores_at Q QA K KA _ (by omega) _ _ o11 _ _ o21, score_of i Q QA K KA t hs _ _ (by omega) (by have := p1 (hi r); omega)])
      (fun j => values_at W _ (by omega) _ _ o32 _ _) (by have := p1 (hi r); omega)
    rw [mul_add, mul_one]
    simpa only [tripAt, tripF, m_upper, m_second_upper, a_upper, a_second_upper, w_second, add_assoc] using h2
  · intro r j
    show bLo (F := Ideal) (k0_pay15 (F := Ideal) _ _ _) _ = _
    rw [bLo_apply, s_second]
    exact scores_at Q QA K KA _ (by omega) _ _ o12 _ _ o22 _ _
  · intro r j
    show bHi (F := Ideal) (k0_pay15 (F := Ideal) _ _ _) _ = _
    rw [bHi_apply, s_second]
    exact scores_at Q QA K KA _ (by omega) _ _ o12 _ _ o22 _ _

omit hs in
theorem trips_val : (k0_t1_loop i).trips = (i 2).val := by
  have h : ∀ n : Fin 8, Scf.trips 0#32 (Scalar.addi 0#32 (Scalar.muli (Scalar.divsi (Scalar.subi (BitVec.ofNat 32 n.val) 0#32) 1#32) 1#32)) 1#32 = n.val := by decide +kernel
  exact h (i 2)

theorem holds_at (k : ℕ) (hk : k ≤ (i 2).val) : Holds i Q QA K KA W t (1024 * k) (stAt (F := Ideal) i Q QA K KA W k) := by
  induction k with
  | zero => exact holds_start i Q QA K KA W t hs
  | succ k ih =>
    have := stAt_succ (F := Ideal) i Q QA K KA W ⟨k, by rw [trips_val]; omega⟩
    rw [this]
    exact holds_step i Q QA K KA W t hs ⟨k, by rw [trips_val]; omega⟩ hk _ (ih (by omega))

/-! ## The point's block of the result -/

omit hs in
theorem joinA_lo (a0 a1 : Vec Ideal S512x256 .f32) (r : Fin 512) (d : Fin 256) : joinA a0 a1 (ix2 (lo r) d) = a0 (ix2 r d) := by
  unfold joinA put
  have h1 : ¬ ∀ q : Fin S1024x256.rank, (![512, 0] : Fin 2 → ℕ) q ≤ (ix2 (lo r) d q).val ∧ (ix2 (lo r) d q).val < (![512, 0] : Fin 2 → ℕ) q + S512x256.size q := by
    intro h
    have h3 : 512 ≤ r.val := (h 0).1
    omega
  have h2 : ∀ q : Fin S1024x256.rank, (![0, 0] : Fin 2 → ℕ) q ≤ (ix2 (lo r) d q).val ∧ (ix2 (lo r) d q).val < (![0, 0] : Fin 2 → ℕ) q + S512x256.size q := by
    intro q
    fin_cases q
    · exact ⟨Nat.zero_le _, (Nat.zero_add 512).symm ▸ r.isLt⟩
    · exact ⟨Nat.zero_le _, (Nat.zero_add 256).symm ▸ d.isLt⟩
  rw [dif_neg h1, dif_pos h2]
  refine congrArg a0 (funext fun q => Fin.ext ?_)
  fin_cases q <;> rfl

omit hs in
theorem joinA_hi (a0 a1 : Vec Ideal S512x256 .f32) (r : Fin 512) (d : Fin 256) : joinA a0 a1 (ix2 (hi r) d) = a1 (ix2 r d) := by
  unfold joinA put
  have h2 : ∀ q : Fin S1024x256.rank, (![512, 0] : Fin 2 → ℕ) q ≤ (ix2 (hi r) d q).val ∧ (ix2 (hi r) d q).val < (![512, 0] : Fin 2 → ℕ) q + S512x256.size q := by
    intro q
    fin_cases q
    · exact ⟨Nat.le_add_right 512 r.val, Nat.add_lt_add_left r.isLt 512⟩
    · exact ⟨Nat.zero_le _, (Nat.zero_add 256).symm ▸ d.isLt⟩
  rw [dif_pos h2]
  refine congrArg a1 (funext fun q => Fin.ext ?_)
  fin_cases q
  · exact Nat.add_sub_cancel_left 512 r.val
  · rfl

/-- The rows of the lower half, all their columns in. -/
theorem last_lo (r : Fin 512) : ∃ m, ∀ d : Fin 256, Seen (scoreTwo (t (lo r)) (pos i (lo r))) (valCol W d) (1024 * (i 2).val + 512) m
    (lastF (F := Ideal) i Q QA K KA W (stAt (F := Ideal) i Q QA K KA W (k0_t1_loop i).trips) (ix2 (lo r) d)) := by
  have hi2 : (i 2).val < 8 := (i 2).isLt
  rw [trips_val]
  have h := holds_at i Q QA K KA W t hs (i 2).val le_rfl
  generalize stAt (F := Ideal) i Q QA K KA W (i 2).val = S at h
  have o0 : k0_off9 i 0#32 = ![0, 1024 * (i 2).val, 0] := (k0_off9_eq i 0).trans (by simp)
  refine ⟨k0_pay64 (F := Ideal) (k0_pay63 S.s0) S.m0 (ix2 r 0), fun d => ?_⟩
  unfold lastF
  rw [joinA_lo]
  refine row_step i W t _ (k0_pay63 S.s0) S.m0 S.a0 r d (lo r) _ (h.low r d) (fun j => ?_) (fun j => ?_) (by unfold pos; omega)
  · rw [pay63_apply, h.slow]
    split_ifs with hj
    · exact score_of i Q QA K KA t hs _ _ (by omega) (by unfold pos; show _ ≤ _ + r.val; omega)
    · unfold scoreTwo pos
      rw [if_neg (show ¬ (_ ≤ _ + r.val) by omega)]
  · rw [w_last]
    exact values_at W _ (by omega) _ _ o0 _ _

/-- The rows of the upper half, all their columns in. -/
theorem last_hi (r : Fin 512) : ∃ m, ∀ d : Fin 256, Seen (scoreTwo (t (hi r)) (pos i (hi r))) (valCol W d) (1024 * (i 2).val + 512 + 512) m
    (lastF (F := Ideal) i Q QA K KA W (stAt (F := Ideal) i Q QA K KA W (k0_t1_loop i).trips) (ix2 (hi r) d)) := by
  have hi2 : (i 2).val < 8 := (i 2).isLt
  rw [trips_val]
  have h := holds_at i Q QA K KA W t hs (i 2).val le_rfl
  generalize stAt (F := Ideal) i Q QA K KA W (i 2).val = S at h
  have o0 : k0_off9 i 0#32 = ![0, 1024 * (i 2).val, 0] := (k0_off9_eq i 0).trans (by simp)
  have o1 : k0_off9 i 1#32 = ![0, 1024 * (i 2).val + 512, 0] := (k0_off9_eq i 1).trans (by simp)
  refine ⟨k0_pay64 (F := Ideal) (k0_pay63 (k0_pay61 (F := Ideal) (k0_pay44 (F := Ideal) Q QA) (window K (k0_off7 i) S1x512x128.size (k0_off7_inb i)) (window KA (k0_off8 i) S1x1x512x128.size (k0_off8_inb i))))
    (k0_pay64 (F := Ideal) (k0_pay11 S.s1) S.m1) (ix2 r 0), fun d => ?_⟩
  unfold lastF
  rw [joinA_hi, a_diag, a_last, m_last, w_last]
  refine row_step i W t _ _ _ _ r d (hi r) _ (row_step i W t _ _ _ _ r d (hi r) _ (h.upp r d) (fun j => ?_) (fun j => ?_) (by unfold pos; omega)) (fun j => ?_) (fun j => ?_) (by unfold pos; show _ ≤ _ + (512 + r.val); omega)
  · rw [pay11_apply, h.supp]
    exact score_of i Q QA K KA t hs _ _ (by omega) (by unfold pos; show _ ≤ _ + (512 + r.val); omega)
  · exact values_at W _ (by omega) _ _ o0 _ _
  · rw [pay63_apply, scores_upper Q QA K KA _ (by omega) _ _ (k0_off7_eq i) _ _ (k0_off8_eq i)]
    split_ifs with hj
    · exact score_of i Q QA K KA t hs _ _ (by omega) (by unfold pos; show _ ≤ _ + (512 + r.val); omega)
    · unfold scoreTwo pos
      rw [if_neg (show ¬ (_ ≤ _ + (512 + r.val)) by omega)]
  · exact values_at W _ (by omega) _ _ o1 _ _

/-- The point's block of the result holds, at each row and column, the row's weighted mean of the values' column. -/
theorem outO_apply (r : Fin 1024) (d : Fin 128) : outO (F := Ideal) i Q QA K KA W (ix3 0 r d)
    = mix (t r) (pos i r) 8192 (fun j => if h : j < 8192 then W (ix3 0 ⟨j, h⟩ d) else 0) := by
  have hi2 : (i 2).val < 8 := (i 2).isLt
  obtain ⟨n, hn1, hn2, m, hm⟩ : ∃ n, pos i r < n ∧ n ≤ 8192 ∧ ∃ m, ∀ d : Fin 256, Seen (scoreTwo (t r) (pos i r)) (valCol W d) n m
      (lastF (F := Ideal) i Q QA K KA W (stAt (F := Ideal) i Q QA K KA W (k0_t1_loop i).trips) (ix2 r d)) := by
    rcases Nat.lt_or_ge r.val 512 with h | h
    · exact ⟨_, by unfold pos; omega, by omega, last_lo i Q QA K KA W t hs ⟨r.val, h⟩⟩
    · have e : r = hi ⟨r.val - 512, by omega⟩ := Fin.ext (by simp; omega)
      rw [e]
      exact ⟨_, by unfold pos; show _ + (512 + (r.val - 512)) < _; omega, by omega, last_hi i Q QA K KA W t hs ⟨r.val - 512, by omega⟩⟩
  unfold outO
  rw [pay2_apply]
  generalize lastF (F := Ideal) i Q QA K KA W (stAt (F := Ideal) i Q QA K KA W (k0_t1_loop i).trips) = L at hm
  have e1 : window L ![0, 0] S1024x128.size inb_S1024x256_S1024x128_0_0 (ix2 r d) = L (ix2 r ⟨d.val, by omega⟩) := by
    unfold window; congr 1; idx_ext
  have e2 : window L ![0, 128] S1024x128.size inb_S1024x256_S1024x128_0_128 (ix2 r d) = L (ix2 r ⟨128 + d.val, by omega⟩) := by
    unfold window; congr 1; idx_ext
  rw [e1, e2]
  have h1 := hm ⟨d.val, by omega⟩
  have h2 := hm ⟨128 + d.val, by omega⟩
  have v1 : valCol W ⟨d.val, by omega⟩ = fun j => if h : j < 8192 then W (ix3 0 ⟨j, h⟩ d) else 0 := by
    funext j; unfold valCol; rw [dif_pos d.isLt]
  have v2 : valCol W ⟨128 + d.val, by omega⟩ = fun _ => (1 : EReal) := by
    funext j; unfold valCol; rw [dif_neg (by simp)]
  rw [v1] at h1
  rw [v2] at h2
  exact div_of_seen (t r) (pos i r) n 8192 hn1 hn2 _ m _ _ h1 h2

end Point

end Cert.KernelIdeal.Hand

end
-- ==== Proof.Val.PrepVal.lean ====
module

public import proofs.«01_k».proof.Proof.Val.Prep

@[expose] public section

set_option maxRecDepth 16384

noncomputable section

namespace Cert.KernelIdeal.Hand

open Cert.KernelIdeal Cert.KernelIdeal.Gen Cert.Attn
open Idealize.ShloMosaic

/-! ## Their entries -/

theorem perLogTwo_apply : perLogTwo ix0 = ((1 / Real.log 2 : ℝ) : EReal) := by
  pointwise [perLogTwo]
  rw [ofBits_two, Ideal.log_coe, if_neg (by norm_num), Ideal.div_coe (Real.log_pos (by norm_num)).ne', one_mul]

theorem qkv_query (q k v : FVec Ideal S2x8192x2048 .f32) (b : Fin 2) (p : Fin 8192) (e : Fin 2048) :
    qkvOf q k v (ix3 b p ⟨e.val, by omega⟩) = q (ix3 b p e) * ((1 / Real.log 2 * (1 / √128) : ℝ) : EReal) := by
  pointwise [qkvOf]
  rw [perLogTwo_apply, sqrt_128, Ideal.div_coe sqrt_ne, ← EReal.coe_mul]

theorem qkv_key (q k v : FVec Ideal S2x8192x2048 .f32) (b : Fin 2) (p : Fin 8192) (e : Fin 2048) :
    qkvOf q k v (ix3 b p ⟨2048 + e.val, by omega⟩) = k (ix3 b p e) := by
  pointwise [qkvOf]

theorem qkv_value (q k v : FVec Ideal S2x8192x2048 .f32) (b : Fin 2) (p : Fin 8192) (e : Fin 2048) :
    qkvOf q k v (ix3 b p ⟨4096 + e.val, by omega⟩) = v (ix3 b p e) := by
  pointwise [qkvOf]
  rw [dif_neg (by omega), dif_neg (by omega)]
  exact congrArg (fun z => v (ix3 b p z)) (Fin.ext (by show 4096 + e.val - 2048 - 2048 = e.val; omega))

theorem rest_apply (x : FVec Ideal S2x16x8192 .f32) (b : Fin 2) (h : Fin 16) (p : Fin 8192) : rest x (ix3 b h p) = x (ix3 b h p) - x (ix3 b h p) := by
  pointwise [rest]

theorem column_apply (x : FVec Ideal S2x16x8192 .f32) (b : Fin 2) (h : Fin 16) (p : Fin 8192) (d : Fin 1) : column x (ix4 b h p d) = x (ix3 b h p) := by
  pointwise [column]

theorem baseTwo_apply (x : FVec Ideal S2x16x8192 .f32) (b : Fin 2) (h : Fin 16) (p : Fin 8192) : baseTwo x (ix3 b h p) = x (ix3 b h p) * ((1 / Real.log 2 : ℝ) : EReal) := by
  pointwise [baseTwo]
  rw [perLogTwo_apply]

/-- Of the three pieces the first is the whole and the others are zero: casts are exact here. -/
theorem pieces_apply (C : S2x16x8192.Idx → ℝ) (b : Fin 2) (h : Fin 16) (p : Fin 8192) (d : Fin 3) :
    pieces (fun i => (C i : EReal)) (ix4 b h p d) = ((if d.val = 0 then C (ix3 b h p) / Real.log 2 else 0 : ℝ) : EReal) := by
  have h0 : baseTwo (fun i => (C i : EReal)) (ix3 b h p) = ((C (ix3 b h p) / Real.log 2 : ℝ) : EReal) := by
    rw [baseTwo_apply, ← EReal.coe_mul, mul_one_div]
  pointwise [pieces]
  simp only [column_apply, rest_apply, h0, ← EReal.coe_sub, sub_self]
  by_cases h1 : d.val = 0
  · rw [dif_pos (by omega), if_pos h1]
  · rw [dif_neg (by omega), if_neg h1]
    split_ifs <;> rfl

theorem ones_apply (i : S2x16x8192x3.Idx) : onesThree i = (1 : EReal) := Ideal.ofBits_one_bf16

theorem zeros_apply (i : S2x16x8192x122.Idx) : zerosRest i = (0 : EReal) := by
  show Ideal.ofBits .bf16 0x0000#16 = 0
  simp [Ideal.ofBits, Ideal.ieee]

theorem qaug_apply (C : S2x16x8192.Idx → ℝ) (b : Fin 2) (h : Fin 16) (p : Fin 8192) (d : Fin 128) :
    qaugOf (fun i => (C i : EReal)) (ix4 b h p d) = ((if d.val = 0 then C (ix3 b h p) / Real.log 2 else if d.val < 3 then 0 else if d.val < 6 then 1 else 0 : ℝ) : EReal) := by
  pointwise [qaugOf]
  simp only [pieces_apply, ones_apply, zeros_apply]
  split_ifs <;> first | rfl | omega

theorem kaug_apply (C : S2x16x8192.Idx → ℝ) (b : Fin 2) (h : Fin 16) (p : Fin 8192) (d : Fin 128) :
    kaugOf (fun i => (C i : EReal)) (ix4 b h p d) = ((if d.val < 3 then 1 else if d.val = 3 then -(C (ix3 b h p) / Real.log 2) else 0 : ℝ) : EReal) := by
  pointwise [kaugOf]
  simp only [pieces_apply, ones_apply, zeros_apply, ← EReal.coe_neg]
  split_ifs <;> first | rfl | omega | simp

/-- The added columns bring the difference of the running sums. -/
theorem aug_sum (C : S2x16x8192.Idx → ℝ) (b : Fin 2) (h : Fin 16) (p j : Fin 8192) :
    ∑ d : Fin 128, qaugOf (fun i => (C i : EReal)) (ix4 b h p d) * kaugOf (fun i => (C i : EReal)) (ix4 b h j d)
      = ((C (ix3 b h p) / Real.log 2 - C (ix3 b h j) / Real.log 2 : ℝ) : EReal) := by
  simp only [qaug_apply, kaug_apply, ← EReal.coe_mul]
  rw [sum_coe]
  congr 1
  generalize C (ix3 b h p) / Real.log 2 = x
  generalize C (ix3 b h j) / Real.log 2 = y
  have h1 : ∀ d : Fin 128, ((if d.val = 0 then x else if d.val < 3 then 0 else if d.val < 6 then 1 else 0 : ℝ) * (if d.val < 3 then 1 else if d.val = 3 then -y else 0))
      = (if d = (⟨0, by omega⟩ : Fin 128) then x else 0) + (if d = (⟨3, by omega⟩ : Fin 128) then -y else 0) := fun d => by
    simp only [Fin.ext_iff]
    split_ifs <;> first | omega | simp
  rw [Finset.sum_congr rfl fun d _ => h1 d, Finset.sum_add_distrib, Finset.sum_ite_eq' Finset.univ, Finset.sum_ite_eq' Finset.univ, if_pos (Finset.mem_univ _), if_pos (Finset.mem_univ _)]
  ring

/-- The scaled queries' inner products with the keys. -/
theorem qk_sum (Q K : S2x8192x2048.Idx → ℝ) (v : FVec Ideal S2x8192x2048 .f32) (b : Fin 2) (h : Fin 16) (p j : Fin 8192) :
    ∑ d : Fin 128, qkvOf (fun i => (Q i : EReal)) (fun i => (K i : EReal)) v (ix3 b p ⟨h.val * 128 + d.val, by omega⟩)
        * qkvOf (fun i => (Q i : EReal)) (fun i => (K i : EReal)) v (ix3 b j ⟨2048 + (h.val * 128 + d.val), by omega⟩)
      = ((1 / Real.log 2 * (1 / √128) * inner Q K b h p j : ℝ) : EReal) := by
  have h1 : ∀ d : Fin 128, qkvOf (fun i => (Q i : EReal)) (fun i => (K i : EReal)) v (ix3 b p ⟨h.val * 128 + d.val, by omega⟩)
        * qkvOf (fun i => (Q i : EReal)) (fun i => (K i : EReal)) v (ix3 b j ⟨2048 + (h.val * 128 + d.val), by omega⟩)
      = ((1 / Real.log 2 * (1 / √128) * (Q (ix3 b p ⟨h.val * 128 + d.val, by omega⟩) * K (ix3 b j ⟨h.val * 128 + d.val, by omega⟩)) : ℝ) : EReal) := fun d => by
    rw [qkv_query _ _ _ b p ⟨h.val * 128 + d.val, by omega⟩, qkv_key _ _ _ b j ⟨h.val * 128 + d.val, by omega⟩, ← EReal.coe_mul, ← EReal.coe_mul]
    congr 1
    ring
  rw [Finset.sum_congr rfl fun d _ => h1 d, sum_coe, ← Finset.mul_sum]
  rfl

end Cert.KernelIdeal.Hand
end
-- ==== Proof.Val.Blocks.lean ====
module

public import proofs.«01_k».proof.Proof.KI.Run
public import proofs.«01_k».proof.Proof.Val.Attend
public import proofs.«01_k».proof.Proof.Val.PrepVal
public import Idealize.ShloMosaic.Lib.Pipeline.ValueKit

@[expose] public section

set_option maxRecDepth 16384

noncomputable section

namespace Cert.KernelIdeal.Hand

open Cert.KernelIdeal Cert.KernelIdeal.Gen Cert.Attn
open Idealize.ShloMosaic Idealize.ShloMosaic.TcCoe

variable (m : (ℓ : Loc nD τ sig) → Buf (Elt Ideal) ℓ) (c : Dev nD)

/-! ## The blocks a grid point reads, at coordinates -/

/-- The grid point's batch entry, head and query block. -/
abbrev batch (t : Fin cfg0.N) : Fin 2 := grid0.coords t 0
abbrev head (t : Fin cfg0.N) : Fin 16 := grid0.coords t 1
abbrev rowBlock (t : Fin cfg0.N) : Fin 8 := grid0.coords t 2

theorem index_q : ∀ t : Fin cfg0.N, win0_0.index t = ![(batch t).val, (rowBlock t).val, (head t).val] := (by decide +kernel : ∀ t : Fin grid0.N, _)
theorem index_qa : ∀ t : Fin cfg0.N, win0_1.index t = ![(batch t).val, (head t).val, (rowBlock t).val, 0] := (by decide +kernel : ∀ t : Fin grid0.N, _)
theorem index_k : ∀ t : Fin cfg0.N, win0_2.index t = ![(batch t).val, 0, 16 + (head t).val] := (by decide +kernel : ∀ t : Fin grid0.N, _)
theorem index_ka : ∀ t : Fin cfg0.N, win0_3.index t = ![(batch t).val, (head t).val, 0, 0] := (by decide +kernel : ∀ t : Fin grid0.N, _)
theorem index_v : ∀ t : Fin cfg0.N, win0_4.index t = ![(batch t).val, 0, 32 + (head t).val] := (by decide +kernel : ∀ t : Fin grid0.N, _)
theorem index_o : ∀ t : Fin cfg0.N, win0_10.index t = ![(batch t).val, (rowBlock t).val, (head t).val] := (by decide +kernel : ∀ t : Fin grid0.N, _)

theorem q_block (t : Fin cfg0.N) (r : Fin 1024) (d : Fin 128) : iblk m c 0 t (ix3 0 r d)
    = V m c main_v7 (ix3 (batch t) ⟨1024 * (rowBlock t).val + r.val, by omega⟩ ⟨(head t).val * 128 + d.val, by omega⟩) := by
  blk_simp [iblk]
  blk_ext [index_q t]

theorem qa_block (t : Fin cfg0.N) (r : Fin 1024) (d : Fin 128) : iblk m c 1 t (ix4 0 0 r d)
    = V m c main_v23 (ix4 (batch t) (head t) ⟨1024 * (rowBlock t).val + r.val, by omega⟩ d) := by
  blk_simp [iblk]
  blk_ext [index_qa t]

theorem k_block (t : Fin cfg0.N) (j : Fin 8192) (d : Fin 128) : iblk m c 2 t (ix3 0 j d)
    = V m c main_v7 (ix3 (batch t) j ⟨2048 + ((head t).val * 128 + d.val), by omega⟩) := by
  blk_simp [iblk]
  blk_ext [index_k t]

theorem ka_block (t : Fin cfg0.N) (j : Fin 8192) (d : Fin 128) : iblk m c 3 t (ix4 0 0 j d)
    = V m c main_v25 (ix4 (batch t) (head t) j d) := by
  blk_simp [iblk]
  blk_ext [index_ka t]

theorem v_block (t : Fin cfg0.N) (j : Fin 8192) (d : Fin 128) : iblk m c 4 t (ix3 0 j d)
    = V m c main_v7 (ix3 (batch t) j ⟨4096 + ((head t).val * 128 + d.val), by omega⟩) := by
  blk_simp [iblk]
  blk_ext [index_v t]

end Cert.KernelIdeal.Hand
end
-- ==== Proof.Val.Final.lean ====
module

public import proofs.«01_k».proof.Proof.Val.Blocks
public import proofs.«01_k».proof.Proof.Val.Prep
public import proofs.«01_k».proof.Proof.Val.Score

@[expose] public section

set_option maxRecDepth 16384

noncomputable section

namespace Cert.KernelIdeal.Hand

open Cert.KernelIdeal Cert.KernelIdeal.Gen Cert.Attn
open Idealize.ShloMosaic Idealize.ShloMosaic.TcCoe

variable (m : (ℓ : Loc nD τ sig) → Buf (Elt Ideal) ℓ) (c : Dev nD)
variable (Q K : S2x8192x2048.Idx → ℝ) (C : S2x16x8192.Idx → ℝ)

/-- A query row's position in the sequence. -/
abbrev rowPos (t : Fin cfg0.N) (r : Fin 1024) : Fin 8192 := ⟨1024 * (rowBlock t).val + r.val, by omega⟩

/-- The scores a point computes are the layer's scores, to the base two: the scale, the change of base and the running sums
    come in through the host's preparation. -/
theorem keyScore_eq (hQ : m ((c : Thread nD τ).loc main_arg0) = fun i => (Q i : EReal)) (hK : m ((c : Thread nD τ).loc main_arg1) = fun i => (K i : EReal))
    (hC : m ((c : Thread nD τ).loc main_arg3) = fun i => (C i : EReal)) (t : Fin cfg0.N) (r : Fin 1024) (j : ℕ) (hj : j < 8192) :
    keyScore (iblk m c 0 t) (iblk m c 1 t) (iblk m c 2 t) (iblk m c 3 t) r j
      = ((score Q K C (batch t) (head t) (rowPos t r) j / Real.log 2 : ℝ) : EReal) := by
  unfold keyScore
  rw [dif_pos hj]
  simp only [q_block, k_block, qa_block, ka_block]
  rw [V_qkv, V_qaug, V_kaug, hQ, hK, hC]
  rw [qk_sum, aug_sum, ← EReal.coe_add]
  congr 1
  unfold score
  rw [dif_pos hj]
  have h2 : Real.log 2 ≠ 0 := (Real.log_pos (by norm_num)).ne'
  field_simp [sqrt_ne]
  ring

/-- The values a point reads are the layer's values of its head. -/
theorem value_eq (t : Fin cfg0.N) (d : Fin 128) :
    (fun j => if h : j < 8192 then iblk m c 4 t (ix3 0 ⟨j, h⟩ d) else (0 : EReal))
      = fun j => if h : j < 8192 then m ((c : Thread nD τ).loc main_arg2) (ix3 (batch t) ⟨j, h⟩ ⟨(head t).val * 128 + d.val, by omega⟩) else (0 : EReal) := by
  funext j
  by_cases hj : j < 8192
  · rw [dif_pos hj, dif_pos hj, v_block, V_qkv]
    exact qkv_value _ _ _ (batch t) ⟨j, hj⟩ ⟨(head t).val * 128 + d.val, by omega⟩
  · rw [dif_neg hj, dif_neg hj]

/-- What a point writes to its block of the output is the attention there. -/
theorem block_eq (hQ : m ((c : Thread nD τ).loc main_arg0) = fun i => (Q i : EReal)) (hK : m ((c : Thread nD τ).loc main_arg1) = fun i => (K i : EReal))
    (hC : m ((c : Thread nD τ).loc main_arg3) = fun i => (C i : EReal)) (t : Fin cfg0.N) (r : Fin 1024) (d : Fin 128) :
    outO (F := Ideal) (grid0.coords t) (iblk m c 0 t) (iblk m c 1 t) (iblk m c 2 t) (iblk m c 3 t) (iblk m c 4 t) (ix3 0 r d)
      = attend Q K (m ((c : Thread nD τ).loc main_arg2)) C (batch t) (rowPos t r) ⟨(head t).val * 128 + d.val, by omega⟩ := by
  refine (outO_apply _ _ _ _ _ _ (fun r j => score Q K C (batch t) (head t) (rowPos t r) j) (fun r j hj => keyScore_eq m c Q K C hQ hK hC t r j hj) r d).trans ?_
  rw [value_eq]
  unfold attend
  have e : (⟨((head t).val * 128 + d.val) / 128, by omega⟩ : Fin 16) = head t := Fin.ext (by show ((head t).val * 128 + d.val) / 128 = (head t).val; omega)
  rw [show (⟨(⟨(head t).val * 128 + d.val, by omega⟩ : Fin 2048).val / 128, by omega⟩ : Fin 16) = head t from e]
  rfl

/-- The output array ends at the attention of the queries, keys, values and running sums. -/
theorem final_out (hQ : m ((c : Thread nD τ).loc main_arg0) = fun i => (Q i : EReal)) (hK : m ((c : Thread nD τ).loc main_arg1) = fun i => (K i : EReal))
    (hC : m ((c : Thread nD τ).loc main_arg3) = fun i => (C i : EReal)) :
    (dats m 0 c).arrAt 10 cfg0.N = (fun i : S2x8192x2048.Idx => attend Q K (m ((c : Thread nD τ).loc main_arg2)) C (i 0) (i 1) (i 2)) := by
  refine (dats m 0 c).arrAt_eq_of_covers 10 _ (by decide +kernel) fun t hf y => ?_
  blk_simp
  rw [after0_10]
  obtain ⟨r, d, rfl⟩ : ∃ (r : Fin 1024) (d : Fin 128), y = ix3 0 r d := ⟨y 1, y 2, by rw [eq_ix3 y]; congr 1; exact Subsingleton.elim _ _⟩
  rw [block_eq m c Q K C hQ hK hC]
  have h : (win0_10.blk t).view.emb (ix3 0 r d) = ix3 (batch t) (rowPos t r) ⟨(head t).val * 128 + d.val, by omega⟩ := by
    blk_ext [index_o t]
  rw [h]
  rfl

end Cert.KernelIdeal.Hand
end
-- ==== Proof.Val.Tail.lean ====
module

public import proofs.«01_k».proof.Proof.Val.Casts
public import proofs.«01_k».proof.Proof.Val.Prep
public import proofs.«01_k».proof.Proof.Val.Final
public import Idealize.ShloMosaic.Lib.Claim

@[expose] public section

set_option maxRecDepth 16384

noncomputable section

namespace Cert.KernelIdeal.Hand

open Cert.KernelIdeal Cert.KernelIdeal.Gen Cert.Attn
open Idealize.ShloMosaic Idealize.ShloMosaic.TcCoe Idealize.SL.Sem

variable (m : (ℓ : Loc nD τ sig) → Buf (Elt Ideal) ℓ) (c : Dev nD)

/-! ## The reshapes after the pipeline -/

/-- Two windows on the same array only read it. -/
theorem shared_in : ∀ w w' : Fin cfg0.W, w ≠ w' → Pipeline.arrRef spec0 w = Pipeline.arrRef spec0 w' → (cfg0.win w).isOut = false := by decide

/-- After the pipeline a window's array holds what the points left in it. -/
theorem array_after (w : Fin cfg0.W) :
    Pipeline.withArrays spec0 c (V0 m c) (fun w => (dats m 0 c).arrAt w cfg0.N) (Proc.devRef .tc (Pipeline.arrRef spec0 w)) = (dats m 0 c).arrAt w cfg0.N :=
  Pipeline.withArrays_arr_shared spec0 c (V0 m c) (fun w => (dats m 0 c).arrAt w cfg0.N)
    (fun w w' hne h => ((dats m 0 c).arrAt_in w (shared_in w w' hne h) _).trans (A_eq m c w)) w

/-- The first cast result is its argument, without the leading axis. -/
theorem tail0 : Pipeline.afterTail₀ cfgs (dats m) 0 (V0 m) [hostOps1] c main_v37
    = shapeCast S2048x2048 (m ((c : Thread nD τ).loc main_arg4)) shapeCasts_S1x2048x2048_S2048x2048 := by
  have h : Pipeline.afterTail₀ cfgs (dats m) 0 (V0 m) [hostOps1] c main_v37
      = shapeCast S2048x2048 (Pipeline.withArrays spec0 c (V0 m c) (fun w => (dats m 0 c).arrAt w cfg0.N) (Proc.devRef .tc (Pipeline.arrRef spec0 11))) shapeCasts_S128x16x2048_S2048x2048 := by
    unfold Pipeline.afterTail₀
    simp only [hostOps1, List.flatten_cons, List.flatten_nil, List.append_nil, List.cons_append, List.nil_append]
    run_tidy
    rfl
  rw [h, array_after m c 11, final_cast0, V_chunk0]
  exact shapeCast_shapeCast _ _ _

/-- The second cast result is its argument, without the leading axis. -/
theorem tail1 : Pipeline.afterTail₀ cfgs (dats m) 0 (V0 m) [hostOps1] c main_v38
    = shapeCast S4096x4096 (m ((c : Thread nD τ).loc main_arg5)) shapeCasts_S1x4096x4096_S4096x4096 := by
  have h : Pipeline.afterTail₀ cfgs (dats m) 0 (V0 m) [hostOps1] c main_v38
      = shapeCast S4096x4096 (Pipeline.withArrays spec0 c (V0 m c) (fun w => (dats m 0 c).arrAt w cfg0.N) (Proc.devRef .tc (Pipeline.arrRef spec0 12))) shapeCasts_S256x16x4096_S4096x4096 := by
    unfold Pipeline.afterTail₀
    simp only [hostOps1, List.flatten_cons, List.flatten_nil, List.append_nil, List.cons_append, List.nil_append]
    run_tidy
    rfl
  rw [h, array_after m c 12, final_cast1, V_chunk1]
  exact shapeCast_shapeCast _ _ _

/-- The third cast result is its argument, without the leading axis. -/
theorem tail2 : Pipeline.afterTail₀ cfgs (dats m) 0 (V0 m) [hostOps1] c main_v39
    = shapeCast S64x4096x512 (m ((c : Thread nD τ).loc main_arg6)) shapeCasts_S1x64x4096x512_S64x4096x512 := by
  have h : Pipeline.afterTail₀ cfgs (dats m) 0 (V0 m) [hostOps1] c main_v39
      = shapeCast S64x4096x512 (Pipeline.withArrays spec0 c (V0 m c) (fun w => (dats m 0 c).arrAt w cfg0.N) (Proc.devRef .tc (Pipeline.arrRef spec0 13))) shapeCasts_S256x1024x512_S64x4096x512 := by
    unfold Pipeline.afterTail₀
    simp only [hostOps1, List.flatten_cons, List.flatten_nil, List.append_nil, List.cons_append, List.nil_append]
    run_tidy
    rfl
  rw [h, array_after m c 13, final_cast2, V_chunk2]
  exact shapeCast_shapeCast _ _ _

/-- The fourth cast result is its argument, without the leading axis. -/
theorem tail3 : Pipeline.afterTail₀ cfgs (dats m) 0 (V0 m) [hostOps1] c main_v40
    = shapeCast S64x4096x512 (m ((c : Thread nD τ).loc main_arg7)) shapeCasts_S1x64x4096x512_S64x4096x512 := by
  have h : Pipeline.afterTail₀ cfgs (dats m) 0 (V0 m) [hostOps1] c main_v40
      = shapeCast S64x4096x512 (Pipeline.withArrays spec0 c (V0 m c) (fun w => (dats m 0 c).arrAt w cfg0.N) (Proc.devRef .tc (Pipeline.arrRef spec0 14))) shapeCasts_S256x1024x512_S64x4096x512 := by
    unfold Pipeline.afterTail₀
    simp only [hostOps1, List.flatten_cons, List.flatten_nil, List.append_nil, List.cons_append, List.nil_append]
    run_tidy
    rfl
  rw [h, array_after m c 14, final_cast3, V_chunk3]
  exact shapeCast_shapeCast _ _ _

/-- The fifth cast result is its argument, without the leading axis. -/
theorem tail4 : Pipeline.afterTail₀ cfgs (dats m) 0 (V0 m) [hostOps1] c main_v41
    = shapeCast S64x512x4096 (m ((c : Thread nD τ).loc main_arg8)) shapeCasts_S1x64x512x4096_S64x512x4096 := by
  have h : Pipeline.afterTail₀ cfgs (dats m) 0 (V0 m) [hostOps1] c main_v41
      = shapeCast S64x512x4096 (Pipeline.withArrays spec0 c (V0 m c) (fun w => (dats m 0 c).arrAt w cfg0.N) (Proc.devRef .tc (Pipeline.arrRef spec0 15))) shapeCasts_S256x128x4096_S64x512x4096 := by
    unfold Pipeline.afterTail₀
    simp only [hostOps1, List.flatten_cons, List.flatten_nil, List.append_nil, List.cons_append, List.nil_append]
    run_tidy
    rfl
  rw [h, array_after m c 15, final_cast4, V_chunk4]
  exact shapeCast_shapeCast _ _ _

/-- The run with its values, of queries, keys and running sums that are finite: the attention, the five casts, and the arguments
    as they were. -/
theorem value_run (ρ : Dev nD → PrngReg) (Q K : Dev nD → S2x8192x2048.Idx → ℝ) (C : Dev nD → S2x16x8192.Idx → ℝ)
    (hQ : ∀ c : Dev nD, m ((c : Thread nD τ).loc main_arg0) = fun i => (Q c i : EReal)) (hK : ∀ c : Dev nD, m ((c : Thread nD τ).loc main_arg1) = fun i => (K c i : EReal))
    (hC : ∀ c : Dev nD, m ((c : Thread nD τ).loc main_arg3) = fun i => (C c i : EReal)) :
    θ_run defs (onTc (τ := τ) (main (F := Ideal))) ⟨m, fun _ => 0, ρ⟩ fun r => ∀ c : Dev nD,
      r.2.mem ((c.tc : Thread nD τ).loc main_v36_0) = (fun i : S2x8192x2048.Idx => attend (Q c) (K c) (m ((c : Thread nD τ).loc main_arg2)) (C c) (i 0) (i 1) (i 2))
      ∧ r.2.mem ((c.tc : Thread nD τ).loc main_v37) = shapeCast S2048x2048 (m ((c.tc : Thread nD τ).loc main_arg4)) shapeCasts_S1x2048x2048_S2048x2048
      ∧ r.2.mem ((c.tc : Thread nD τ).loc main_v38) = shapeCast S4096x4096 (m ((c.tc : Thread nD τ).loc main_arg5)) shapeCasts_S1x4096x4096_S4096x4096
      ∧ r.2.mem ((c.tc : Thread nD τ).loc main_v39) = shapeCast S64x4096x512 (m ((c.tc : Thread nD τ).loc main_arg6)) shapeCasts_S1x64x4096x512_S64x4096x512
      ∧ r.2.mem ((c.tc : Thread nD τ).loc main_v40) = shapeCast S64x4096x512 (m ((c.tc : Thread nD τ).loc main_arg7)) shapeCasts_S1x64x4096x512_S64x4096x512
      ∧ r.2.mem ((c.tc : Thread nD τ).loc main_v41) = shapeCast S64x512x4096 (m ((c.tc : Thread nD τ).loc main_arg8)) shapeCasts_S1x64x512x4096_S64x512x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (θ_run_and (run_main m ρ) (frame_run m ρ))
  refine ⟨((h.1.1 c).1 10).trans (final_out m c (Q c) (K c) (C c) (hQ c) (hK c) (hC c)), ?_, ?_, ?_, ?_, ?_, h.2.1 c⟩
  · exact ((h.1.1 c).2 main_v37 (Pipeline.mem_restRefs_of main_v37 (by decide) (by decide))).trans (tail0 m c)
  · exact ((h.1.1 c).2 main_v38 (Pipeline.mem_restRefs_of main_v38 (by decide) (by decide))).trans (tail1 m c)
  · exact ((h.1.1 c).2 main_v39 (Pipeline.mem_restRefs_of main_v39 (by decide) (by decide))).trans (tail2 m c)
  · exact ((h.1.1 c).2 main_v40 (Pipeline.mem_restRefs_of main_v40 (by decide) (by decide))).trans (tail3 m c)
  · exact ((h.1.1 c).2 main_v41 (Pipeline.mem_restRefs_of main_v41 (by decide) (by decide))).trans (tail4 m c)

end Cert.KernelIdeal.Hand
end
-- ==== Proof.Val.Ref.lean ====
module

public import proofs.«01_k».proof.ReferenceIdeal
public import proofs.«01_k».proof.Proof.Gen.ReferenceIdeal.Run
public import Idealize.ShloMosaic.Lib.Pointwise
public import Idealize.ShloMosaic.Lib.WordCmp
public import proofs.«01_k».proof.Proof.Val.Math
public import proofs.«01_k».proof.Proof.Val.Score

@[expose] public section

set_option maxRecDepth 8192

noncomputable section

namespace Cert.ReferenceIdeal.Value

open Cert.ReferenceIdeal Cert.ReferenceIdeal.Gen Cert.Attn
open Idealize.ShloMosaic

/-! ## The reference's steps -/

/-- An array of the heads' columns side by side, by heads. -/
def heads (x : FVec Ideal S2x8192x2048 .f32) : FVec Ideal S2x16x8192x128 .f32 :=
  transpose S2x16x8192x128 [0, 2, 1, 3] (shapeCast _ x shapeCasts_S2x8192x2048_S2x8192x16x128) transposes_S2x8192x16x128_S2x16x8192x128_0_2_1_3

/-- The scores before the mask. -/
def rawScores (q k : FVec Ideal S2x16x8192x128 .f32) (cum : FVec Ideal S2x16x8192 .f32) : FVec Ideal S2x16x8192x8192 .f32 :=
  subf (addf (Host.divf (Host.dotGeneral dot_S2x16x8192x128_S2x16x8192x128_S2x16x8192x8192_3_3_2_2_01_01 none q k) (broadcastInDim S2x16x8192x8192 ![] bcast_S_S2x16x8192x8192 (Host.sqrt (constant S_ .f32 0x43000000#32)))) (broadcastInDim S2x16x8192x8192 ![0, 1, 2, 3] bcast_S2x16x8192x1_S2x16x8192x8192_0_1_2_3 (broadcastInDim S2x16x8192x1 ![0, 1, 2] bcast_S2x16x8192_S2x16x8192x1_0_1_2 cum))) (broadcastInDim S2x16x8192x8192 ![0, 1, 2, 3] bcast_S2x16x1x8192_S2x16x8192x8192_0_1_2_3 (broadcastInDim S2x16x1x8192 ![0, 1, 3] bcast_S2x16x8192_S2x16x1x8192_0_1_3 cum))

/-- The scores with the mask. -/
def masked (s : FVec Ideal S2x16x8192x8192 .f32) : FVec Ideal S2x16x8192x8192 .f32 :=
  select (broadcastInDim S2x16x8192x8192 ![2, 3] bcast_S8192x8192_S2x16x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) s (broadcastInDim S2x16x8192x8192 ![] bcast_S_S2x16x8192x8192 (id (constant S_ .f32 0xFF800000#32)))

/-- The rows' maxima. -/
def rowMax (s : FVec Ideal S2x16x8192x8192 .f32) : FVec Ideal S2x16x8192 .f32 :=
  Host.reduce FloatOps.maximumf s (constant S_ .f32 0xFF800000#32) reducesTo_S2x16x8192x8192_S2x16x8192_d3 h_S_

/-- The rows' maxima, at least −∞. -/
def rowBound (s : FVec Ideal S2x16x8192x8192 .f32) : FVec Ideal S2x16x8192 .f32 :=
  maximumf (broadcastInDim S2x16x8192 ![] bcast_S_S2x16x8192 (constant S_ .f32 0xFF800000#32)) (rowMax s)

/-- The exponentials of the scores less their row's maximum. -/
def powers (s : FVec Ideal S2x16x8192x8192 .f32) : FVec Ideal S2x16x8192x8192 .f32 :=
  Host.exp (subf s (broadcastInDim S2x16x8192x8192 ![0, 1, 2, 3] bcast_S2x16x8192x1_S2x16x8192x8192_0_1_2_3 (broadcastInDim S2x16x8192x1 ![0, 1, 2] bcast_S2x16x8192_S2x16x8192x1_0_1_2 (rowBound s))))

/-- The weights. -/
def weights (e : FVec Ideal S2x16x8192x8192 .f32) : FVec Ideal S2x16x8192x8192 .f32 :=
  Host.divf e (broadcastInDim S2x16x8192x8192 ![0, 1, 2, 3] bcast_S2x16x8192x1_S2x16x8192x8192_0_1_2_3 (broadcastInDim S2x16x8192x1 ![0, 1, 2] bcast_S2x16x8192_S2x16x8192x1_0_1_2 (Host.reduceAdd e (constant S_ .f32 0x00000000#32) reducesTo_S2x16x8192x8192_S2x16x8192_d3 h_S_)))

/-- The weighted values, the heads side by side again. -/
def mixed (v : FVec Ideal S2x16x8192x128 .f32) (p : FVec Ideal S2x16x8192x8192 .f32) : FVec Ideal S2x8192x2048 .f32 :=
  shapeCast _ (transpose S2x8192x16x128 [0, 3, 1, 2] (Host.dotGeneral dot_S2x16x8192x128_S2x16x8192x8192_S2x16x128x8192_2_3_3_2_01_01 none v p) transposes_S2x16x128x8192_S2x8192x16x128_0_3_1_2) shapeCasts_S2x8192x16x128_S2x8192x2048

theorem res_steps (m : (ℓ : Loc nD τ sig) → Buf (Elt Ideal) ℓ) (c : Dev nD) :
    res_main_v36 (F := Ideal) m c = mixed (heads (m ((c.tc : Thread nD τ).loc main_arg2)))
      (weights (powers (masked (rawScores (heads (m ((c.tc : Thread nD τ).loc main_arg0))) (heads (m ((c.tc : Thread nD τ).loc main_arg1))) (m ((c.tc : Thread nD τ).loc main_arg3)))))) := rfl

/-! ## The steps at an index -/

theorem negInf : Ideal.ofBits .f32 0xFF800000#32 = (⊥ : EReal) := by simp [Ideal.ofBits, Ideal.ieee]

theorem heads_apply (x : FVec Ideal S2x8192x2048 .f32) (b : Fin 2) (h : Fin 16) (p : Fin 8192) (d : Fin 128) :
    heads x (ix4 b h p d) = x (ix3 b p ⟨h.val * 128 + d.val, by omega⟩) := by
  pointwise [heads]

theorem rawScores_apply (q k : FVec Ideal S2x16x8192x128 .f32) (cum : FVec Ideal S2x16x8192 .f32) (b : Fin 2) (h : Fin 16) (p j : Fin 8192) :
    rawScores q k cum (ix4 b h p j) = Ideal.div (∑ d : Fin 128, q (ix4 b h p d) * k (ix4 b h j d)) (Ideal.sqrt (Ideal.ofBits .f32 0x43000000#32)) + cum (ix3 b h p) - cum (ix3 b h j) := by
  pointwise [rawScores]

theorem masked_apply (s : FVec Ideal S2x16x8192x8192 .f32) (b : Fin 2) (h : Fin 16) (p j : Fin 8192) :
    masked s (ix4 b h p j) = if j.val ≤ p.val then s (ix4 b h p j) else ⊥ := by
  pointwise [masked]
  rw [WordCmp.cmpi_sle_ofNat (by have := j.isLt; omega) (by have := p.isLt; omega)]
  by_cases h : j.val ≤ p.val
  · simp [h, Scalar.select]
  · simp only [h, Scalar.select, decide_false, BitVec.ofBool_false, if_false]
    exact negInf

/-- A maximum over the last axis of four. -/
theorem reduce_last {a b c n : ℕ} (x : FVec Ideal ⟨4, ![a, b, c, n]⟩ .f32) (init : FVec Ideal ⟨0, ![]⟩ .f32) (h' : (⟨4, ![a, b, c, n]⟩ : Shape).ReducesTo [3] ⟨3, ![a, b, c]⟩)
    (h : (⟨4, ![a, b, c, n]⟩ : Shape).Reduces [3] ⟨3, ![a, b, c]⟩) (hu) (i : Fin a) (j : Fin b) (k : Fin c) :
    Host.reduce (FloatOps.maximumf (F := Ideal) (φ := .f32)) x init h' hu (ix3 i j k) = Finset.univ.fold max (init (Shape.Idx.first hu) : EReal) fun l : Fin n => x (ix4 i j k l) := by
  rw [Host.reduce_eq_fold_single _ x _ h' h hu]
  have hf : (x ∘ h.lift (ix3 i j k)) = fun l : Fin n => x (ix4 i j k l) := funext fun l => congrArg x (by
    funext q; apply Fin.ext; fin_cases q <;> rfl)
  exact congrArg (fun f => Finset.fold max (init (Shape.Idx.first hu) : EReal) f (Finset.univ : Finset (Fin n))) hf

theorem rowMax_apply (s : FVec Ideal S2x16x8192x8192 .f32) (b : Fin 2) (h : Fin 16) (p : Fin 8192) :
    rowMax s (ix3 b h p) = Finset.univ.fold max (⊥ : EReal) fun x : Fin 8192 => s (ix4 b h p x) := by
  unfold rowMax
  rw [reduce_last s _ _ (by decide) h_S_ b h p]
  exact congrArg (fun z => Finset.univ.fold max z fun x : Fin 8192 => s (ix4 b h p x)) negInf

theorem max_of_bot {t : Shape} (x y : FVec Ideal t .f32) (i : t.Idx) (h : x i = (⊥ : EReal)) : maximumf x y i = y i :=
  (congrArg (fun z : EReal => max z (y i)) h).trans (max_eq_right bot_le)

theorem bcast_const {t : Shape} (h : (⟨0, ![]⟩ : Shape).BroadcastsInDim t ![]) (w : BitVec 32) (i : t.Idx) :
    broadcastInDim t ![] h (constant (F := Ideal) ⟨0, ![]⟩ .f32 w) i = Ideal.ofBits .f32 w := rfl

theorem rowBound_apply (s : FVec Ideal S2x16x8192x8192 .f32) (b : Fin 2) (h : Fin 16) (p : Fin 8192) :
    rowBound s (ix3 b h p) = Finset.univ.fold max (⊥ : EReal) fun x : Fin 8192 => s (ix4 b h p x) := by
  unfold rowBound
  rw [max_of_bot _ _ _ ((bcast_const _ _ _).trans negInf), rowMax_apply]

theorem powers_apply (s : FVec Ideal S2x16x8192x8192 .f32) (b : Fin 2) (h : Fin 16) (p j : Fin 8192) :
    powers s (ix4 b h p j) = Ideal.exp (s (ix4 b h p j) - (Finset.univ.fold max (⊥ : EReal) fun x : Fin 8192 => s (ix4 b h p x))) := by
  rw [← rowBound_apply]
  unfold powers
  generalize rowBound s = M
  pointwise

theorem weights_apply (s : FVec Ideal S2x16x8192x8192 .f32) (b : Fin 2) (h : Fin 16) (p j : Fin 8192) :
    weights s (ix4 b h p j) = Ideal.div (s (ix4 b h p j)) (∑ x : Fin 8192, s (ix4 b h p x)) := by
  pointwise [weights]

theorem mixed_apply (v : FVec Ideal S2x16x8192x128 .f32) (w : FVec Ideal S2x16x8192x8192 .f32) (b : Fin 2) (p : Fin 8192) (e : Fin 2048) :
    mixed v w (ix3 b p e) = ∑ x : Fin 8192, v (ix4 b ⟨e.val / 128, by omega⟩ x ⟨e.val % 128, by omega⟩) * w (ix4 b ⟨e.val / 128, by omega⟩ p x) := by
  pointwise [mixed]

/-! ## The reference's result -/

variable (Q K : Flat.Idx → ℝ) (C : Sums.Idx → ℝ)

/-- The reference's scores, with the mask. -/
theorem scores_eq (b : Fin 2) (h : Fin 16) (p j : Fin 8192) :
    masked (rawScores (heads fun i => (Q i : EReal)) (heads fun i => (K i : EReal)) fun i => (C i : EReal)) (ix4 b h p j)
      = scoreE (score Q K C b h p) p.val j.val := by
  rw [masked_apply, rawScores_apply]
  simp only [heads_apply]
  rw [sum_prod_coe, sqrt_128, Ideal.div_coe sqrt_ne, ← EReal.coe_mul, ← EReal.coe_add, ← EReal.coe_sub]
  unfold scoreE score
  rw [dif_pos j.isLt, mul_one_div]

/-- A row of the reference: the weights of masked scores, averaged with values. -/
theorem row_eq (t : ℕ → ℝ) (p : Fin 8192) (S : FVec Ideal S2x16x8192x8192 .f32) (v : FVec Ideal S2x16x8192x128 .f32) (b : Fin 2) (e : Fin 2048)
    (hS : ∀ j : Fin 8192, S (ix4 b ⟨e.val / 128, by omega⟩ p j) = scoreE t p.val j.val) (w : ℕ → EReal)
    (hw : ∀ j : Fin 8192, v (ix4 b ⟨e.val / 128, by omega⟩ j ⟨e.val % 128, by omega⟩) = w j.val) :
    mixed v (weights (powers S)) (ix3 b p e) = mix t p.val 8192 w := by
  have h1 : (Finset.univ.fold max (⊥ : EReal) fun x : Fin 8192 => scoreE t p.val x.val) ≠ ⊤ := fold_max_ne_top _ fun x => scoreE_ne_top t p.val x.val
  have h2 : (Finset.univ.fold max (⊥ : EReal) fun x : Fin 8192 => scoreE t p.val x.val) ≠ ⊥ := by
    have h0 := le_fold_max (fun x : Fin 8192 => scoreE t p.val x.val) ⟨0, by omega⟩
    intro h
    rw [h] at h0
    have h3 : scoreE t p.val 0 = (t 0 : EReal) := if_pos (Nat.zero_le _)
    rw [show scoreE t p.val (⟨0, by omega⟩ : Fin 8192).val = (t 0 : EReal) from h3] at h0
    exact absurd (le_bot_iff.1 h0) (EReal.coe_ne_bot _)
  rw [mixed_apply]
  simp only [weights_apply, powers_apply, hS, hw]
  generalize (Finset.univ.fold max (⊥ : EReal) fun x : Fin 8192 => scoreE t p.val x.val) = M at h1 h2 ⊢
  rw [← softmax_eq t p.val 8192 p.isLt w M _ h1 h2 rfl, Finset.sum_range, Finset.sum_range]

/-- The reference's first result is the attention. -/
theorem attention_eq (V : Flat.Idx → EReal) (b : Fin 2) (p : Fin 8192) (e : Fin 2048) :
    mixed (heads V) (weights (powers (masked (rawScores (heads fun i => (Q i : EReal)) (heads fun i => (K i : EReal)) fun i => (C i : EReal))))) (ix3 b p e)
      = attend Q K V C b p e := by
  unfold attend
  refine row_eq _ p _ _ b e (fun j => scores_eq Q K C b _ p j) _ fun j => ?_
  rw [heads_apply, dif_pos j.isLt]
  congr 1
  idx_ext

end Cert.ReferenceIdeal.Value

end
-- ==== Proof.Val.Pre.lean ====
module

public import proofs.«01_k».proof.Pre_finite
public import proofs.«01_k».proof.Proof.Gen.Pre_finite
public import Idealize.ShloMosaic.Lib.ReduceAll
public import Idealize.ShloMosaic.Lib.Pointwise

@[expose] public section

set_option maxRecDepth 16384

noncomputable section

namespace Cert.Pre_finite

open Idealize.ShloMosaic

theorem inf_eq : Ideal.ofBits .f32 0x7F800000#32 = (⊤ : EReal) := by simp [Ideal.ofBits, Ideal.ieee]

/-- A number whose absolute value is below +∞ is real. -/
theorem real_of_lt (x : EReal) (h : max x (-x) < (⊤ : EReal)) : ∃ r : ℝ, x = r := by
  induction x with
  | top => simp at h
  | bot => simp at h
  | coe r => exact ⟨r, rfl⟩

/-- An array of which every entry's absolute value is below +∞ is an array of reals. -/
theorem all_real {s : Shape} {axes : List (Fin s.rank)} (x : FVec Ideal s .f32) (hb : (⟨0, ![]⟩ : Shape).BroadcastsInDim s ![]) (h : s.ReducesTo axes ⟨0, ![]⟩) (hu : 0 < (⟨0, ![]⟩ : Shape).numel)
    (j : (⟨0, ![]⟩ : Shape).Idx)
    (e : Host.reduce IntOp.andi (cmpf .olt (Host.absf x) (broadcastInDim s ![] hb (constant (F := Ideal) ⟨0, ![]⟩ .f32 0x7F800000#32))) (constantI ⟨0, ![]⟩ 1 1#1) h hu j = 1#1) :
    ∃ r : s.Idx → ℝ, x = fun i => (r i : EReal) := by
  have h0 : ∀ i, ∃ r : ℝ, x i = (r : EReal) := fun i => by
    have h1 := Host.reduce_andi_all _ _ h hu j e i
    change FloatOps.cmpf (F := Ideal) (φ := .f32) .olt (Host.absf x i) (broadcastInDim s ![] hb (constant (F := Ideal) ⟨0, ![]⟩ .f32 0x7F800000#32) i) = 1#1 at h1
    have h2 : (max (x i : EReal) (-(x i : EReal)) : EReal) < Ideal.ofBits .f32 0x7F800000#32 := by
      by_contra hc
      have h3 : FloatOps.cmpf (F := Ideal) (φ := .f32) .olt (Host.absf x i) (broadcastInDim s ![] hb (constant (F := Ideal) ⟨0, ![]⟩ .f32 0x7F800000#32) i) = BitVec.ofBool (decide ((max (x i : EReal) (-(x i : EReal)) : EReal) < Ideal.ofBits .f32 0x7F800000#32)) := rfl
      rw [h3, decide_eq_false hc] at h1
      exact absurd h1 (by decide)
    rw [inf_eq] at h2
    exact real_of_lt _ h2
  choose r hr using h0
  exact ⟨r, funext hr⟩

/-- The precondition: the queries, the keys and the running sums are arrays of reals. -/
theorem reals (q k v f w0 w1 w2 w3 w4) (h : fn (F := Ideal) q k v f w0 w1 w2 w3 w4 = fun _ => 1#1) :
    (∃ Q : S2x8192x2048.Idx → ℝ, q = fun i => (Q i : EReal)) ∧ (∃ K : S2x8192x2048.Idx → ℝ, k = fun i => (K i : EReal)) ∧ ∃ C : S2x16x8192.Idx → ℝ, f = fun i => (C i : EReal) := by
  have h0 := congrFun h ix0
  obtain ⟨h1, h2⟩ := IntOp.andi_eq_one.1 h0
  obtain ⟨h3, h4⟩ := IntOp.andi_eq_one.1 h1
  exact ⟨all_real q _ _ _ _ h3, all_real k _ _ _ _ h4, all_real f _ _ _ _ h2⟩

end Cert.Pre_finite
end
-- ==== Proof.Val2.Math.lean ====
module

public import Idealize.ShloMosaic.Lib.Pointwise

@[expose] public section

noncomputable section

namespace Cert.Proj

open Idealize.ShloMosaic

/-- A modulated row: scaled by one plus the scale, and shifted. -/
abbrev modulate (x : (Shape.mk 3 ![2, 8192, 4096]).Idx → EReal) (scale shift : (Shape.mk 3 ![2, 1, 4096]).Idx → EReal) (b : Fin 2) (p : Fin 8192) (k : Fin 4096) : EReal :=
  x (ix3 b p k) * (Ideal.ofBits .f32 0x3F800000#32 + scale (ix3 b 0 k)) + shift (ix3 b 0 k)

/-- The projection of a modulated row: multiplied into a column of the weights. -/
def project (x : (Shape.mk 3 ![2, 8192, 4096]).Idx → EReal) (scale shift : (Shape.mk 3 ![2, 1, 4096]).Idx → EReal) (w : (Shape.mk 3 ![1, 4096, 8208]).Idx → EReal)
    (b : Fin 2) (p : Fin 8192) (e : Fin 8208) : EReal :=
  ∑ k : Fin 4096, modulate x scale shift b p k * w (ix3 0 k e)

/-- A stretch of the projection's columns, from column `o` on. -/
def stretchCol (f : Fin 2 → Fin 8192 → Fin 8208 → EReal) {n : ℕ} (o : ℕ) (h : o + n ≤ 8208) (b : Fin 2) (p : Fin 8192) (e : Fin n) : EReal :=
  f b p ⟨o + e.val, by omega⟩

/-- The array of those. -/
def stretch (f : Fin 2 → Fin 8192 → Fin 8208 → EReal) {n : ℕ} (o : ℕ) (h : o + n ≤ 8208) (i : (Shape.mk 3 ![2, 8192, n]).Idx) : EReal :=
  stretchCol f o h (i 0) (i 1) (i 2)

end Cert.Proj
end
-- ==== Proof.Val2.Pay.lean ====
module

public import proofs.«01_k».proof.Proof.Gen.Kernel2Ideal.Skeleton
public import proofs.«01_k».proof.Proof.Val2.Math

@[expose] public section

set_option maxRecDepth 16384

noncomputable section

namespace Cert.Kernel2Ideal.Hand

open Cert.Kernel2Ideal Cert.Kernel2Ideal.Gen Cert.Proj
open Idealize.ShloMosaic

/-! ## The kernel's steps at an index -/

theorem rows_apply (x : Vec Ideal S1x512x4096 .f32) (sc sh : Vec Ideal S1x1x4096 .f32) (r : Fin 512) (k : Fin 4096) :
    k0_pay2 x sc sh (ix2 r k) = x (ix3 0 r k) * (Ideal.ofBits .f32 0x3F800000#32 + sc (ix3 0 0 k)) + sh (ix3 0 0 k) := by
  pointwise [k0_pay2, k0_pay1]

theorem rows1_apply (x : Vec Ideal S1x512x4096 .f32) (sc sh : Vec Ideal S1x1x4096 .f32) (r : Fin 512) (k : Fin 4096) :
    k0_pay1 x sc sh (ix2 r k) = x (ix3 0 r k) * (Ideal.ofBits .f32 0x3F800000#32 + sc (ix3 0 0 k)) + sh (ix3 0 0 k) := by
  pointwise [k0_pay1]

theorem forget_apply (x : Vec Ideal S1x512x4096 .f32) (sc sh : Vec Ideal S1x1x4096 .f32) (w : Vec Ideal S4096x128 .bf16) (r : Fin 512) (l : Fin 128) :
    k0_pay3 x sc sh w (ix3 0 r l) = ∑ k : Fin 4096, k0_pay1 x sc sh (ix2 r k) * w (ix2 k l) := by
  pointwise [k0_pay3]

theorem query_apply (h : Vec Ideal S512x4096 .bf16) (w : Vec Ideal S4096x1024 .bf16) (r : Fin 512) (l : Fin 1024) :
    k0_pay5 h w (ix3 0 r l) = (∑ k : Fin 4096, h (ix2 r k) * w (ix2 k l)) * Ideal.ofBits .f32 0x3E0293EE#32 := by
  pointwise [k0_pay5, k0_pay4]

theorem keyValue_apply (h : Vec Ideal S512x4096 .bf16) (w : Vec Ideal S4096x1024 .bf16) (r : Fin 512) (l : Fin 1024) :
    k0_pay6 h w (ix3 0 r l) = ∑ k : Fin 4096, h (ix2 r k) * w (ix2 k l) := by
  pointwise [k0_pay6, k0_pay4]

theorem linear_apply (h : Vec Ideal S512x4096 .bf16) (w : Vec Ideal S4096x1024 .bf16) (r : Fin 512) (l : Fin 1024) :
    k0_pay7 h w (ix3 0 r l) = ∑ k : Fin 4096, h (ix2 r k) * w (ix2 k l) := by
  pointwise [k0_pay7, k0_pay4]

end Cert.Kernel2Ideal.Hand
end
-- ==== Proof.Val2.Prep.lean ====
module

public import proofs.«01_k».proof.Proof.Gen.Kernel2Ideal.Frame
public import Idealize.ShloMosaic.Lib.Claim
public import Idealize.ShloMosaic.Lib.Pointwise
public import Idealize.ShloMosaic.Lib.Routing.OpsOne

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Routing

/-! ## The weights the kernel is called with -/

/-- The weights without the forget columns. -/
def mainOf (w : FVec Ideal S1x4096x8208 .f32) : FVec Ideal S4096x8192 .bf16 :=
  truncf .bf16 (concatenate S4096x8192 1
    [⟨S4096x6144, extractStridedSlice S4096x6144 ![0, 0] (shapeCast S4096x8208 w shapeCasts_S1x4096x8208_S4096x8208) slices_S4096x8208_S4096x6144_0_0⟩,
     ⟨S4096x2048, extractStridedSlice S4096x2048 ![0, 6160] (shapeCast S4096x8208 w shapeCasts_S1x4096x8208_S4096x8208) slices_S4096x8208_S4096x2048_0_6160⟩]
    concatenates_S4096x6144_S4096x2048_S4096x8192_d1) bitsLt_bf16_f32

/-- The forget columns. -/
def forgetCols (w : FVec Ideal S1x4096x8208 .f32) : FVec Ideal S4096x16 .bf16 :=
  truncf .bf16 (extractStridedSlice S4096x16 ![0, 6144] (shapeCast S4096x8208 w shapeCasts_S1x4096x8208_S4096x8208) slices_S4096x8208_S4096x16_0_6144) bitsLt_bf16_f32

/-- The forget columns, in the first of a register's columns. -/
def forgetOf (w : FVec Ideal S1x4096x8208 .f32) : FVec Ideal S4096x128 .bf16 :=
  Host.scatter scatter_S4096x128_S1_S4096x16_01_n_1_0 (fun _ b => b) (broadcastInDim S4096x128 ![] bcast_S_S4096x128 (constant S_ .bf16 0x0000#16))
    (broadcastInDim S1 ![] bcast_S_S1 (constantI S_ 32 0#32)) (forgetCols w)

variable (m : (ℓ : Loc nD τ sig) → Buf (Elt Ideal) ℓ) (c : Dev nD)

theorem V_main : V m c main_v4 = mainOf (m ((c : Thread nD τ).loc main_arg3)) := by
  entry_read
  rfl

theorem V_forget : V m c main_v9 = forgetOf (m ((c : Thread nD τ).loc main_arg3)) := by
  entry_read
  simp only [hostOps0, List.flatten_cons, List.flatten_nil, List.append_nil, List.cons_append, List.nil_append]
  run_tidy
  rfl

theorem mainOf_low (w : FVec Ideal S1x4096x8208 .f32) (k : Fin 4096) (e : Fin 8192) (h : e.val < 6144) :
    mainOf w (ix2 k e) = w (ix3 0 k ⟨e.val, by omega⟩) := by
  pointwise [mainOf]
  rw [dif_pos h]

theorem mainOf_high (w : FVec Ideal S1x4096x8208 .f32) (k : Fin 4096) (e : Fin 8192) (h : ¬ e.val < 6144) :
    mainOf w (ix2 k e) = w (ix3 0 k ⟨e.val + 16, by omega⟩) := by
  pointwise [mainOf]
  rw [dif_neg h]
  exact congrArg (fun q => w (ix3 0 k q)) (Fin.ext (by show 6160 + (e.val - 6144) = e.val + 16; omega))

theorem forgetCols_apply (w : FVec Ideal S1x4096x8208 .f32) (k : Fin 4096) (l : Fin 16) :
    forgetCols w (ix2 k l) = w (ix3 0 k ⟨6144 + l.val, by omega⟩) := by
  pointwise [forgetCols]

/-- Where the padding puts a forget column. -/
theorem lands (idx : IVec S1 32) (h0 : (idx (ix1 0)).toInt = 0) (k' k : Fin 4096) (l' : Fin 16) (l : Fin 128) :
    scatter_S4096x128_S1_S4096x16_01_n_1_0.resultIdx? (ix2 k' l') idx = some (ix2 k l) ↔ k' = k ∧ l'.val = l.val := by
  have w0 : scatter_S4096x128_S1_S4096x16_01_n_1_0.window (ix2 k' l') 0 = k'.val := rfl
  have w1 : scatter_S4096x128_S1_S4096x16_01_n_1_0.window (ix2 k' l') 1 = l'.val := rfl
  have s0 : scatter_S4096x128_S1_S4096x16_01_n_1_0.start (ix2 k' l') idx 0 = 0 := rfl
  have s1 : scatter_S4096x128_S1_S4096x16_01_n_1_0.start (ix2 k' l') idx 1 = 0 := by
    rw [← h0]
    have e : ∀ j : S1.Idx, j = ix1 0 := fun j => by rw [eq_ix1 j]; congr 1; exact Subsingleton.elim _ _
    exact congrArg (fun j => (idx j).toInt) (e _)
  refine (resultIdx?_ix2 scatter_S4096x128_S1_S4096x16_01_n_1_0 (ix2 k' l') idx k l).trans ?_
  rw [s0, s1, w0, w1, Fin.ext_iff]
  omega

theorem forgetOf_apply (w : FVec Ideal S1x4096x8208 .f32) (k : Fin 4096) (l : Fin 128) (h : l.val < 16) :
    forgetOf w (ix2 k l) = w (ix3 0 k ⟨6144 + l.val, by omega⟩) := by
  unfold forgetOf
  have z : ((broadcastInDim S1 ![] bcast_S_S1 (constantI S_ 32 0#32) : IVec S1 32) (ix1 0)).toInt = 0 := rfl
  refine (scatter_set_hit _ _ _ _ (ix2 k l) (w (ix3 0 k ⟨6144 + l.val, by omega⟩)) (fun j hj => ?_) (ix2 k ⟨l.val, h⟩) ((lands _ z k k ⟨l.val, h⟩ l).2 ⟨rfl, rfl⟩))
  obtain ⟨k', l', rfl⟩ : ∃ (k' : Fin 4096) (l' : Fin 16), j = ix2 k' l' := ⟨j 0, j 1, eq_ix2 j⟩
  obtain ⟨e1, e2⟩ := (lands _ z _ k _ l).1 hj
  rw [forgetCols_apply, e1]
  exact congrArg (fun q => w (ix3 0 k q)) (Fin.ext (congrArg (6144 + ·) e2))

end Cert.Kernel2Ideal.Hand
end
-- ==== Proof.Val2.Blocks.lean ====
module

public import proofs.«01_k».proof.Proof.K2I.Run
public import proofs.«01_k».proof.Proof.Val2.Pay
public import proofs.«01_k».proof.Proof.Val2.Prep
public import Idealize.ShloMosaic.Lib.Pipeline.ValueKit

@[expose] public section

set_option maxRecDepth 16384

noncomputable section

namespace Cert.Kernel2Ideal.Hand

open Cert.Kernel2Ideal Cert.Kernel2Ideal.Gen Cert.Proj
open Idealize.ShloMosaic Idealize.ShloMosaic.TcCoe

variable (m : (ℓ : Loc nD τ sig) → Buf (Elt Ideal) ℓ) (c : Dev nD)

/-! ## The blocks a grid point reads, at coordinates -/

/-- The grid point's batch entry, row block and column block. -/
abbrev batch (t : Fin cfg0.N) : Fin 2 := grid0.coords t 0
abbrev rowBlock (t : Fin cfg0.N) : Fin 16 := grid0.coords t 1
abbrev colBlock (t : Fin cfg0.N) : Fin 8 := grid0.coords t 2

theorem index_x : ∀ t : Fin cfg0.N, win0_0.index (rowPt t.val) = ![(batch t).val, (rowBlock t).val, 0] := (by decide +kernel : ∀ t : Fin grid0.N, _)
theorem index_scale : ∀ t : Fin cfg0.N, win0_1.index (rowPt t.val) = ![(batch t).val, 0, 0] := (by decide +kernel : ∀ t : Fin grid0.N, _)
theorem index_shift : ∀ t : Fin cfg0.N, win0_2.index (rowPt t.val) = ![(batch t).val, 0, 0] := (by decide +kernel : ∀ t : Fin grid0.N, _)
theorem index_w : ∀ t : Fin cfg0.N, win0_3.index t = ![0, (colBlock t).val] := (by decide +kernel : ∀ t : Fin grid0.N, _)
theorem col_held : ∀ t : Fin cfg0.N, (colBlock (pt (qkvPt t.val))).val = min (t.val % 8) 5 := (by decide +kernel : ∀ t : Fin grid0.N, _)
theorem index_wf : ∀ t : Fin cfg0.N, win0_4.index (rowPt t.val) = ![0, 0] := (by decide +kernel : ∀ t : Fin grid0.N, _)
theorem index_qkv : ∀ t : Fin cfg0.N, win0_5.index t = ![(batch t).val, (rowBlock t).val, (colBlock (pt (qkvPt t.val))).val] := (by decide +kernel : ∀ t : Fin grid0.N, _)
theorem index_u : ∀ t : Fin cfg0.N, win0_6.index t = ![(batch t).val, (rowBlock t).val, t.val % 8 - 6] := (by decide +kernel : ∀ t : Fin grid0.N, _)
theorem index_f : ∀ t : Fin cfg0.N, win0_7.index t = ![(batch t).val, (rowBlock t).val, 0] := (by decide +kernel : ∀ t : Fin grid0.N, _)
theorem col_val : ∀ t : Fin cfg0.N, (colBlock t).val = t.val % 8 := (by decide +kernel : ∀ t : Fin grid0.N, _)

/-- A row's position in the sequence. -/
abbrev rowPos (t : Fin cfg0.N) (r : Fin 512) : Fin 8192 := ⟨(rowBlock t).val * 512 + r.val, by omega⟩

theorem x_block (t : Fin cfg0.N) (r : Fin 512) (k : Fin 4096) : iblk m c 0 (rowPt t.val) (ix3 0 r k)
    = V m c main_arg0 (ix3 (batch t) (rowPos t r) k) := by
  blk_simp [iblk]
  blk_ext [index_x t]

theorem scale_block (t : Fin cfg0.N) (k : Fin 4096) : iblk m c 1 (rowPt t.val) (ix3 0 0 k) = V m c main_arg1 (ix3 (batch t) 0 k) := by
  blk_simp [iblk]
  blk_ext [index_scale t]

theorem shift_block (t : Fin cfg0.N) (k : Fin 4096) : iblk m c 2 (rowPt t.val) (ix3 0 0 k) = V m c main_arg2 (ix3 (batch t) 0 k) := by
  blk_simp [iblk]
  blk_ext [index_shift t]

theorem w_block (t : Fin cfg0.N) (k : Fin 4096) (l : Fin 1024) : iblk m c 3 t (ix2 k l)
    = V m c main_v4 (ix2 k ⟨(colBlock t).val * 1024 + l.val, by omega⟩) := by
  blk_simp [iblk]
  blk_ext [index_w t]

theorem emb_wf (t : Fin cfg0.N) (k : Fin 4096) (l : Fin 128) : (win0_4.blk (rowPt t.val)).view.emb (ix2 k l) = ix2 k l := by
  blk_ext [index_wf t]

theorem wf_read (A : FVec Ideal S4096x128 .bf16) (t : Fin cfg0.N) (k : Fin 4096) (l : Fin 128) :
    (win0_4.blk (rowPt t.val)).view.read (Elt Ideal) A (ix2 k l) = A (ix2 k l) := by
  blk_simp
  rw [emb_wf]

theorem wf_block (t : Fin cfg0.N) (k : Fin 4096) (l : Fin 128) : iblk m c 4 (rowPt t.val) (ix2 k l) = V m c main_v9 (ix2 k l) :=
  wf_read (V m c main_v9) t k l

end Cert.Kernel2Ideal.Hand
end
-- ==== Proof.Val2.Final.lean ====
module

public import proofs.«01_k».proof.Proof.Val2.Blocks

@[expose] public section

set_option maxRecDepth 16384

noncomputable section

namespace Cert.Kernel2Ideal.Hand

open Cert.Kernel2Ideal Cert.Kernel2Ideal.Gen Cert.Proj
open Idealize.ShloMosaic Idealize.ShloMosaic.TcCoe

variable (m : (ℓ : Loc nD τ sig) → Buf (Elt Ideal) ℓ) (c : Dev nD)

/-! ## What the points leave in the output arrays -/

/-- The projection of the launched arrays. -/
abbrev proj (b : Fin 2) (p : Fin 8192) (e : Fin 8208) : EReal :=
  project (m ((c : Thread nD τ).loc main_arg0)) (m ((c : Thread nD τ).loc main_arg1)) (m ((c : Thread nD τ).loc main_arg2)) (m ((c : Thread nD τ).loc main_arg3)) b p e

/-- A modulated row of the launched arrays. -/
abbrev modulated (b : Fin 2) (p : Fin 8192) (k : Fin 4096) : EReal :=
  modulate (m ((c : Thread nD τ).loc main_arg0)) (m ((c : Thread nD τ).loc main_arg1)) (m ((c : Thread nD τ).loc main_arg2)) b p k

/-- The rows a point works on are the modulated rows of its row block. -/
theorem row_eq (t : Fin cfg0.N) (r : Fin 512) (k : Fin 4096) : rowAt m c t.val (ix2 r k) = modulated m c (batch t) (rowPos t r) k := by
  unfold rowAt
  rw [rows_apply, x_block, scale_block, shift_block, V_main_arg0, V_main_arg1, V_main_arg2]

/-- A column of the queries scaled, the keys and the values, side by side. -/
def scaledCol (b : Fin 2) (p : Fin 8192) (e : Fin 6144) : EReal :=
  if e.val < 2048 then proj m c b p ⟨e.val, by omega⟩ * Ideal.ofBits .f32 0x3E0293EE#32 else proj m c b p ⟨e.val, by omega⟩

/-- The queries scaled, the keys and the values, side by side. -/
def scaledQkv (i : S2x8192x6144.Idx) : EReal := scaledCol m c (i 0) (i 1) (i 2)

/-- The columns of the linear unit. -/
def linearCol (b : Fin 2) (p : Fin 8192) (e : Fin 2048) : EReal := proj m c b p ⟨6160 + e.val, by omega⟩

/-- The array of the linear unit. -/
def linear (i : S2x8192x2048.Idx) : EReal := linearCol m c (i 0) (i 1) (i 2)

theorem held_lt (t : Fin cfg0.N) (l : Fin 1024) : (colBlock (pt (qkvPt t.val))).val * 1024 + l.val < 6144 := by
  have h := col_held t
  omega

/-- What a point has in its block of the queries, keys and values. -/
theorem qkv_eq (t : Fin cfg0.N) (r : Fin 512) (l : Fin 1024) :
    qkvAt m c t.val (ix3 0 r l) = scaledCol m c (batch t) (rowPos t r) ⟨(colBlock (pt (qkvPt t.val))).val * 1024 + l.val, held_lt t l⟩ := by
  have hc := col_held t
  have hs : (∑ k : Fin 4096, rowAt m c t.val (ix2 r k) * iblk m c 3 (pt (qkvPt t.val)) (ix2 k l))
      = proj m c (batch t) (rowPos t r) ⟨(colBlock (pt (qkvPt t.val))).val * 1024 + l.val, (held_lt t l).trans (by omega)⟩ := by
    refine Finset.sum_congr rfl fun k _ => ?_
    rw [row_eq, w_block, V_main, mainOf_low _ _ _ (held_lt t l)]
  unfold qkvAt scaledCol
  by_cases h : t.val % 8 < 2
  · rw [if_pos h, query_apply, hs, if_pos (show (colBlock (pt (qkvPt t.val))).val * 1024 + l.val < 2048 by omega)]
  · rw [if_neg h, keyValue_apply, hs, if_neg (show ¬ (colBlock (pt (qkvPt t.val))).val * 1024 + l.val < 2048 by omega)]

/-- What a point of the linear unit has in its block. -/
theorem linear_eq (t : Fin cfg0.N) (h : 6 ≤ t.val % 8) (r : Fin 512) (l : Fin 1024) :
    k0_pay7 (rowAt m c t.val) (iblk m c 3 t) (ix3 0 r l)
      = linearCol m c (batch t) (rowPos t r) ⟨(t.val % 8 - 6) * 1024 + l.val, by omega⟩ := by
  have hc := col_val t
  rw [linear_apply]
  unfold linearCol
  refine Finset.sum_congr rfl fun k _ => ?_
  rw [row_eq, w_block, V_main, mainOf_high _ _ _ (show ¬ (colBlock t).val * 1024 + l.val < 6144 by omega)]
  exact congrArg (fun q : Fin 8208 => modulated m c (batch t) (rowPos t r) k * m ((c : Thread nD τ).loc main_arg3) (ix3 0 k q))
    (Fin.ext (by show (colBlock t).val * 1024 + l.val + 16 = 6160 + ((t.val % 8 - 6) * 1024 + l.val); omega))

/-- The rows against the padded forget columns. -/
def forgetCol (b : Fin 2) (p : Fin 8192) (l : Fin 128) : EReal :=
  ∑ k : Fin 4096, modulated m c b p k * forgetOf (m ((c : Thread nD τ).loc main_arg3)) (ix2 k l)

/-- The array of those. -/
def forgetPadded (i : S2x8192x128.Idx) : EReal := forgetCol m c (i 0) (i 1) (i 2)

theorem forget_eq (t : Fin cfg0.N) (r : Fin 512) (l : Fin 128) :
    fAt m c t.val (ix3 0 r l) = forgetCol m c (batch t) (rowPos t r) l := by
  unfold fAt
  rw [forget_apply]
  refine Finset.sum_congr rfl fun k _ => ?_
  rw [rows1_apply, x_block, scale_block, shift_block, wf_block, V_main_arg0, V_main_arg1, V_main_arg2, V_forget]

theorem forgetCol_apply (b : Fin 2) (p : Fin 8192) (l : Fin 128) (h : l.val < 16) :
    forgetCol m c b p l = proj m c b p ⟨6144 + l.val, by omega⟩ := by
  refine Finset.sum_congr rfl fun k _ => ?_
  exact congrArg (fun q : EReal => modulated m c b p k * q) (forgetOf_apply _ k l h)

/-- The array of the queries, keys and values at the end. -/
theorem final_qkv : (dats m 0 c).arrAt 5 cfg0.N = scaledQkv m c := by
  refine (dats m 0 c).arrAt_eq_of_covers 5 _ (by decide +kernel) fun t hf y => ?_
  blk_simp
  rw [after0_5]
  obtain ⟨r, l, rfl⟩ : ∃ (r : Fin 512) (l : Fin 1024), y = ix3 0 r l := ⟨y 1, y 2, by rw [eq_ix3 y]; congr 1; exact Subsingleton.elim _ _⟩
  rw [qkv_eq]
  have h : (win0_5.blk t).view.emb (ix3 0 r l) = ix3 (batch t) (rowPos t r) ⟨(colBlock (pt (qkvPt t.val))).val * 1024 + l.val, held_lt t l⟩ := by
    blk_ext [index_qkv t]
  exact (congrArg (scaledQkv m c) h).symm

/-- The array of the linear unit at the end. -/
theorem final_u : (dats m 0 c).arrAt 6 cfg0.N = linear m c := by
  refine (dats m 0 c).arrAt_eq_of_covers 6 _ (by decide +kernel) fun t hf y => ?_
  have h6 : 6 ≤ t.val % 8 := by
    have e := flush6 t
    rw [hf] at e
    exact of_decide_eq_true e.symm
  blk_simp
  rw [after0_6]
  obtain ⟨r, l, rfl⟩ : ∃ (r : Fin 512) (l : Fin 1024), y = ix3 0 r l := ⟨y 1, y 2, by rw [eq_ix3 y]; congr 1; exact Subsingleton.elim _ _⟩
  rw [linear_eq m c t h6]
  have h : (win0_6.blk t).view.emb (ix3 0 r l) = ix3 (batch t) (rowPos t r) ⟨(t.val % 8 - 6) * 1024 + l.val, by omega⟩ := by
    blk_ext [index_u t]
  exact (congrArg (linear m c) h).symm

/-- The array of the forget columns at the end. -/
theorem final_f : (dats m 0 c).arrAt 7 cfg0.N = forgetPadded m c := by
  refine (dats m 0 c).arrAt_eq_of_covers 7 _ (by decide +kernel) fun t hf y => ?_
  blk_simp
  rw [after0_7]
  obtain ⟨r, l, rfl⟩ : ∃ (r : Fin 512) (l : Fin 128), y = ix3 0 r l := ⟨y 1, y 2, by rw [eq_ix3 y]; congr 1; exact Subsingleton.elim _ _⟩
  rw [forget_eq]
  have h : (win0_7.blk t).view.emb (ix3 0 r l) = ix3 (batch t) (rowPos t r) l := by
    blk_ext [index_f t]
  exact (congrArg (forgetPadded m c) h).symm

end Cert.Kernel2Ideal.Hand
end
-- ==== Proof.Val2.Tail.lean ====
module

public import proofs.«01_k».proof.Proof.Val2.Final
public import Idealize.ShloMosaic.Lib.Claim

@[expose] public section

set_option maxRecDepth 16384

noncomputable section

namespace Cert.Kernel2Ideal.Hand

open Cert.Kernel2Ideal Cert.Kernel2Ideal.Gen Cert.Proj
open Idealize.ShloMosaic Idealize.ShloMosaic.TcCoe Idealize.SL.Sem

variable (m : (ℓ : Loc nD τ sig) → Buf (Elt Ideal) ℓ) (c : Dev nD)

/-! ## The slices after the pipeline -/

/-- The queries' scale is a real that is not zero. -/
theorem query_scale : Ideal.ofBits .f32 0x3E0293EE#32 = ((8557550 / 67108864 : ℝ) : EReal) := by
  simp [Ideal.ofBits, Ideal.ieee, -EReal.coe_mul]
  norm_num

/-- Dividing by the scale undoes it, of any extended real. -/
theorem unscale (a : EReal) : Ideal.div (a * Ideal.ofBits .f32 0x3E0293EE#32) (Ideal.ofBits .f32 0x3E0293EE#32) = a := by
  rw [query_scale, Ideal.div_coe (by norm_num), mul_assoc, ← EReal.coe_mul]
  norm_num

theorem shared_in : ∀ w w' : Fin cfg0.W, w ≠ w' → Pipeline.arrRef spec0 w = Pipeline.arrRef spec0 w' → (cfg0.win w).isOut = false := by decide

/-- After the pipeline a window's array holds what the points left in it. -/
theorem array_after (w : Fin cfg0.W) :
    Pipeline.withArrays spec0 c (V0 m c) (fun w => (dats m 0 c).arrAt w cfg0.N) (Proc.devRef .tc (Pipeline.arrRef spec0 w)) = (dats m 0 c).arrAt w cfg0.N :=
  Pipeline.withArrays_arr_shared spec0 c (V0 m c) (fun w => (dats m 0 c).arrAt w cfg0.N)
    (fun w w' hne h => ((dats m 0 c).arrAt_in w (shared_in w w' hne h) _).trans (A_eq m c w)) w

/-- The queries. -/
theorem tail_q : Pipeline.afterTail₀ cfgs (dats m) 0 (V0 m) [hostOps1] c main_v14 = stretch (proj m c) (n := 2048) 0 (by decide) := by
  have h : Pipeline.afterTail₀ cfgs (dats m) 0 (V0 m) [hostOps1] c main_v14
      = Host.divf (F := Ideal) (extf .f32 (extractStridedSlice S2x8192x2048 ![0, 0, 0] (Pipeline.withArrays spec0 c (V0 m c) (fun w => (dats m 0 c).arrAt w cfg0.N) (Proc.devRef .tc (Pipeline.arrRef spec0 5))) slices_S2x8192x6144_S2x8192x2048_0_0_0) bitsLt_bf16_f32)
        (broadcastInDim S2x8192x2048 ![] bcast_S_S2x8192x2048 (constant S_ .f32 0x3E0293EE#32)) := by
    unfold Pipeline.afterTail₀
    simp only [hostOps1, List.flatten_cons, List.flatten_nil, List.append_nil, List.cons_append, List.nil_append]
    run_tidy
  rw [h, array_after m c 5, final_qkv]
  funext i
  obtain ⟨b, p, e, rfl⟩ : ∃ (b : Fin 2) (p : Fin 8192) (e : Fin 2048), i = ix3 b p e := ⟨i 0, i 1, i 2, eq_ix3 i⟩
  pointwise
  show Ideal.div (scaledCol m c b p ⟨e.val, by omega⟩) (Ideal.ofBits .f32 0x3E0293EE#32) = proj m c b p ⟨0 + e.val, by omega⟩
  unfold scaledCol
  rw [if_pos (show e.val < 2048 by omega), unscale]
  exact congrArg (proj m c b p) (Fin.ext (show e.val = 0 + e.val from (Nat.zero_add _).symm))

/-- The keys. -/
theorem tail_k : Pipeline.afterTail₀ cfgs (dats m) 0 (V0 m) [hostOps1] c main_v16 = stretch (proj m c) (n := 2048) 2048 (by decide) := by
  have h : Pipeline.afterTail₀ cfgs (dats m) 0 (V0 m) [hostOps1] c main_v16
      = extf (F := Ideal) .f32 (extractStridedSlice S2x8192x2048 ![0, 0, 2048] (Pipeline.withArrays spec0 c (V0 m c) (fun w => (dats m 0 c).arrAt w cfg0.N) (Proc.devRef .tc (Pipeline.arrRef spec0 5))) slices_S2x8192x6144_S2x8192x2048_0_0_2048) bitsLt_bf16_f32 := by
    unfold Pipeline.afterTail₀
    simp only [hostOps1, List.flatten_cons, List.flatten_nil, List.append_nil, List.cons_append, List.nil_append]
    run_tidy
  rw [h, array_after m c 5, final_qkv]
  funext i
  obtain ⟨b, p, e, rfl⟩ : ∃ (b : Fin 2) (p : Fin 8192) (e : Fin 2048), i = ix3 b p e := ⟨i 0, i 1, i 2, eq_ix3 i⟩
  pointwise
  show scaledCol m c b p ⟨2048 + e.val, by omega⟩ = proj m c b p ⟨2048 + e.val, by omega⟩
  unfold scaledCol
  rw [if_neg (show ¬ 2048 + e.val < 2048 by omega)]

/-- The values. -/
theorem tail_v : Pipeline.afterTail₀ cfgs (dats m) 0 (V0 m) [hostOps1] c main_v18 = stretch (proj m c) (n := 2048) 4096 (by decide) := by
  have h : Pipeline.afterTail₀ cfgs (dats m) 0 (V0 m) [hostOps1] c main_v18
      = extf (F := Ideal) .f32 (extractStridedSlice S2x8192x2048 ![0, 0, 4096] (Pipeline.withArrays spec0 c (V0 m c) (fun w => (dats m 0 c).arrAt w cfg0.N) (Proc.devRef .tc (Pipeline.arrRef spec0 5))) slices_S2x8192x6144_S2x8192x2048_0_0_4096) bitsLt_bf16_f32 := by
    unfold Pipeline.afterTail₀
    simp only [hostOps1, List.flatten_cons, List.flatten_nil, List.append_nil, List.cons_append, List.nil_append]
    run_tidy
  rw [h, array_after m c 5, final_qkv]
  funext i
  obtain ⟨b, p, e, rfl⟩ : ∃ (b : Fin 2) (p : Fin 8192) (e : Fin 2048), i = ix3 b p e := ⟨i 0, i 1, i 2, eq_ix3 i⟩
  pointwise
  show scaledCol m c b p ⟨4096 + e.val, by omega⟩ = proj m c b p ⟨4096 + e.val, by omega⟩
  unfold scaledCol
  rw [if_neg (show ¬ 4096 + e.val < 2048 by omega)]

/-- The forget columns. -/
theorem tail_f : Pipeline.afterTail₀ cfgs (dats m) 0 (V0 m) [hostOps1] c main_v19 = stretch (proj m c) (n := 16) 6144 (by decide) := by
  have h : Pipeline.afterTail₀ cfgs (dats m) 0 (V0 m) [hostOps1] c main_v19
      = extractStridedSlice S2x8192x16 ![0, 0, 0] (Pipeline.withArrays spec0 c (V0 m c) (fun w => (dats m 0 c).arrAt w cfg0.N) (Proc.devRef .tc (Pipeline.arrRef spec0 7))) slices_S2x8192x128_S2x8192x16_0_0_0 := by
    unfold Pipeline.afterTail₀
    simp only [hostOps1, List.flatten_cons, List.flatten_nil, List.append_nil, List.cons_append, List.nil_append]
    run_tidy
  rw [h, array_after m c 7, final_f]
  funext i
  obtain ⟨b, p, e, rfl⟩ : ∃ (b : Fin 2) (p : Fin 8192) (e : Fin 16), i = ix3 b p e := ⟨i 0, i 1, i 2, eq_ix3 i⟩
  pointwise
  exact forgetCol_apply m c b p ⟨e.val, by omega⟩ (show e.val < 16 by omega)

/-- The run with its values: the projection's columns, and the arguments as they were. -/
theorem value_run (ρ : Dev nD → PrngReg) :
    θ_run defs (onTc (τ := τ) (main (F := Ideal))) ⟨m, fun _ => 0, ρ⟩ fun r => ∀ c : Dev nD,
      r.2.mem ((c.tc : Thread nD τ).loc main_v14) = stretch (proj m c) (n := 2048) 0 (by decide)
      ∧ r.2.mem ((c.tc : Thread nD τ).loc main_v16) = stretch (proj m c) (n := 2048) 2048 (by decide)
      ∧ r.2.mem ((c.tc : Thread nD τ).loc main_v18) = stretch (proj m c) (n := 2048) 4096 (by decide)
      ∧ r.2.mem ((c.tc : Thread nD τ).loc main_v19) = stretch (proj m c) (n := 16) 6144 (by decide)
      ∧ r.2.mem ((c.tc : Thread nD τ).loc main_v10_1) = stretch (proj m c) (n := 2048) 6160 (by decide)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (θ_run_and (run_main m ρ) (frame_run m ρ))
  refine ⟨?_, ?_, ?_, ?_, ((h.1.1 c).1 6).trans ((final_u m c).trans rfl), h.2.1 c⟩
  · exact ((h.1.1 c).2 main_v14 (Pipeline.mem_restRefs_of main_v14 (by decide) (by decide))).trans (tail_q m c)
  · exact ((h.1.1 c).2 main_v16 (Pipeline.mem_restRefs_of main_v16 (by decide) (by decide))).trans (tail_k m c)
  · exact ((h.1.1 c).2 main_v18 (Pipeline.mem_restRefs_of main_v18 (by decide) (by decide))).trans (tail_v m c)
  · exact ((h.1.1 c).2 main_v19 (Pipeline.mem_restRefs_of main_v19 (by decide) (by decide))).trans (tail_f m c)

end Cert.Kernel2Ideal.Hand
end
-- ==== Proof.Val2.Ref.lean ====
module

public import proofs.«01_k».proof.Reference2Ideal
public import proofs.«01_k».proof.Proof.Gen.Reference2Ideal.Run
public import proofs.«01_k».proof.Proof.Val2.Math

@[expose] public section

set_option maxRecDepth 16384

noncomputable section

namespace Cert.Reference2Ideal.Value

open Cert.Reference2Ideal Cert.Reference2Ideal.Gen Cert.Proj
open Idealize.ShloMosaic

/-- The whole projection as the reference computes it. -/
def whole (x : FVec Ideal S2x8192x4096 .f32) (scale shift : FVec Ideal S2x1x4096 .f32) (w : FVec Ideal S1x4096x8208 .f32) : FVec Ideal S2x8192x8208 .f32 :=
  Host.dotGeneral dot_S2x8192x4096_S4096x8208_S2x8192x8208_2_0_01_1_n_n none
    (addf (mulf x (broadcastInDim S2x8192x4096 ![0, 1, 2] bcast_S2x1x4096_S2x8192x4096_0_1_2 (addf (broadcastInDim S2x1x4096 ![] bcast_S_S2x1x4096 (constant S_ .f32 0x3F800000#32)) scale)))
      (broadcastInDim S2x8192x4096 ![0, 1, 2] bcast_S2x1x4096_S2x8192x4096_0_1_2 shift))
    (shapeCast S4096x8208 w shapeCasts_S1x4096x8208_S4096x8208)

theorem whole_apply (x : FVec Ideal S2x8192x4096 .f32) (scale shift : FVec Ideal S2x1x4096 .f32) (w : FVec Ideal S1x4096x8208 .f32) (b : Fin 2) (p : Fin 8192) (e : Fin 8208) :
    whole x scale shift w (ix3 b p e) = project x scale shift w b p e := by
  pointwise [whole, project, modulate]

/-- A slice of the whole projection is a stretch of its columns. -/
theorem slice_apply {n : ℕ} (o : ℕ) (ho : o + n ≤ 8208) (hs : S2x8192x8208.Slices ![0, 0, o] (Shape.mk 3 ![2, 8192, n]))
    (x : FVec Ideal S2x8192x4096 .f32) (scale shift : FVec Ideal S2x1x4096 .f32) (w : FVec Ideal S1x4096x8208 .f32) :
    (extractStridedSlice (Shape.mk 3 ![2, 8192, n]) ![0, 0, o] (whole x scale shift w) hs : FVec Ideal (Shape.mk 3 ![2, 8192, n]) .f32)
      = stretch (project x scale shift w) o ho := by
  funext i
  obtain ⟨b, p, e, rfl⟩ : ∃ (b : Fin 2) (p : Fin 8192) (e : Fin n), i = ix3 b p e := ⟨i 0, i 1, i 2, eq_ix3 i⟩
  pointwise
  rw [whole_apply]
  rfl

end Cert.Reference2Ideal.Value
end
-- ==== Proof.Val3.Math.lean ====
module

public import Idealize.ShloMosaic.Lib.Pointwise

@[expose] public section

noncomputable section

namespace Cert.Glu

open Idealize.ShloMosaic

/-- A row gated by the logistic of its projection. -/
def gate (y : Fin 2048 → EReal) (w : Fin 2048 → Fin 2048 → EReal) (b : Fin 2048 → EReal) (e : Fin 2048) : EReal :=
  y e * Ideal.logistic ((∑ k : Fin 2048, y k * w k e) + b e)

/-- The gated row over the root of its mean square, scaled. -/
def normalized (y : Fin 2048 → EReal) (w : Fin 2048 → Fin 2048 → EReal) (b g : Fin 2048 → EReal) (e : Fin 2048) : EReal :=
  gate y w b e * Ideal.rsqrt (Ideal.div (∑ k : Fin 2048, gate y w b k * gate y w b k) (Ideal.ofBits .f32 0x45000000#32)
    + Ideal.ofBits .f32 0x358637BD#32) * g e

/-- The gated and normalized rows of a batch of sequences. -/
def gluCol (y : (Shape.mk 3 ![2, 8192, 2048]).Idx → EReal) (w : (Shape.mk 3 ![1, 2048, 2048]).Idx → EReal) (b g : (Shape.mk 2 ![1, 2048]).Idx → EReal)
    (s : Fin 2) (p : Fin 8192) (e : Fin 2048) : EReal :=
  normalized (fun k => y (ix3 s p k)) (fun k l => w (ix3 0 k l)) (fun l => b (ix2 0 l)) (fun l => g (ix2 0 l)) e

/-- The array of those. -/
def glu (y : (Shape.mk 3 ![2, 8192, 2048]).Idx → EReal) (w : (Shape.mk 3 ![1, 2048, 2048]).Idx → EReal) (b g : (Shape.mk 2 ![1, 2048]).Idx → EReal)
    (i : (Shape.mk 3 ![2, 8192, 2048]).Idx) : EReal :=
  gluCol y w b g (i 0) (i 1) (i 2)

end Cert.Glu
end
-- ==== Proof.Val3.Pay.lean ====
module

public import proofs.«01_k».proof.Proof.Gen.Kernel3Ideal.Skeleton
public import proofs.«01_k».proof.Proof.Val3.Math

@[expose] public section

set_option maxRecDepth 16384

noncomputable section

namespace Cert.Kernel3Ideal.Hand

open Cert.Kernel3Ideal Cert.Kernel3Ideal.Gen Cert.Glu
open Idealize.ShloMosaic

/-- What the kernel stores, at an index: its row gated and normalized. -/
theorem stored_apply (x : Vec Ideal S512x2048 .f32) (w : Vec Ideal S2048x2048 .bf16) (b g : Vec Ideal S1x2048 .f32) (r : Fin 512) (e : Fin 2048) :
    k0_pay1 x w b g (ix2 r e) = normalized (fun k => x (ix2 r k)) (fun k l => w (ix2 k l)) (fun l => b (ix2 0 l)) (fun l => g (ix2 0 l)) e := by
  pointwise [k0_pay1, normalized, gate]

end Cert.Kernel3Ideal.Hand
end
-- ==== Proof.Val3.Prep.lean ====
module

public import proofs.«01_k».proof.Proof.Gen.Kernel3Ideal.Frame
public import Idealize.ShloMosaic.Lib.Claim
public import Idealize.ShloMosaic.Lib.Pointwise

@[expose] public section

set_option maxRecDepth 16384

noncomputable section

namespace Cert.Kernel3Ideal.Hand

open Cert.Kernel3Ideal Cert.Kernel3Ideal.Gen
open Idealize.ShloMosaic Idealize.ShloMosaic.TcCoe

/-! ## The arrays the kernel is called with -/

/-- The rows, the sequences one after another. -/
def rowsOf (y : FVec Ideal S2x8192x2048 .f32) : FVec Ideal S16384x2048 .f32 := shapeCast S16384x2048 y shapeCasts_S2x8192x2048_S16384x2048

/-- The weights. -/
def weightsOf (w : FVec Ideal S1x2048x2048 .f32) : FVec Ideal S2048x2048 .bf16 :=
  truncf .bf16 (shapeCast S2048x2048 w shapeCasts_S1x2048x2048_S2048x2048 : FVec Ideal S2048x2048 .f32) bitsLt_bf16_f32

/-- A row of offsets or scales. -/
def lineOf (b : FVec Ideal S1x2048 .f32) : FVec Ideal S1x2048 .f32 :=
  shapeCast S1x2048 (shapeCast S2048 b shapeCasts_S1x2048_S2048 : FVec Ideal S2048 .f32) shapeCasts_S2048_S1x2048

variable (m : (ℓ : Loc nD τ sig) → Buf (Elt Ideal) ℓ) (c : Dev nD)

theorem V_rows : V m c main_v0 = rowsOf (m ((c : Thread nD τ).loc main_arg0)) := by
  entry_read
  rfl

theorem V_weights : V m c main_v2 = weightsOf (m ((c : Thread nD τ).loc main_arg1)) := by
  entry_read
  rfl

theorem V_offsets : V m c main_v5 = lineOf (m ((c : Thread nD τ).loc main_arg2)) := by
  entry_read
  rfl

theorem V_scales : V m c main_v6 = lineOf (m ((c : Thread nD τ).loc main_arg3)) := by
  entry_read
  rfl

theorem rowsOf_apply (y : FVec Ideal S2x8192x2048 .f32) (s : Fin 2) (p : Fin 8192) (e : Fin 2048) :
    rowsOf y (ix2 ⟨s.val * 8192 + p.val, by omega⟩ e) = y (ix3 s p e) := by
  pointwise [rowsOf]

theorem weightsOf_apply (w : FVec Ideal S1x2048x2048 .f32) (k e : Fin 2048) : weightsOf w (ix2 k e) = w (ix3 0 k e) := by
  pointwise [weightsOf]

theorem lineOf_apply (b : FVec Ideal S1x2048 .f32) (e : Fin 2048) : lineOf b (ix2 0 e) = b (ix2 0 e) := by
  pointwise [lineOf]

end Cert.Kernel3Ideal.Hand
end
-- ==== Proof.Val3.Blocks.lean ====
module

public import proofs.«01_k».proof.Proof.Val3.Pay
public import proofs.«01_k».proof.Proof.Val3.Prep
public import Idealize.ShloMosaic.Lib.Pipeline.ValueKit

@[expose] public section

set_option maxRecDepth 16384

noncomputable section

namespace Cert.Kernel3Ideal.Hand

open Cert.Kernel3Ideal Cert.Kernel3Ideal.Gen Cert.Glu
open Idealize.ShloMosaic Idealize.ShloMosaic.TcCoe

variable (m : (ℓ : Loc nD τ sig) → Buf (Elt Ideal) ℓ) (c : Dev nD)

/-! ## The blocks a grid point reads, at coordinates -/

/-- The grid point's row block. -/
abbrev rowBlock (t : Fin cfg0.N) : Fin 32 := grid0.coords t 0

theorem index_rows : ∀ t : Fin cfg0.N, win0_0.index t = ![(rowBlock t).val, 0] := (by decide +kernel : ∀ t : Fin grid0.N, _)
theorem index_weights : ∀ t : Fin cfg0.N, win0_1.index t = ![0, 0] := (by decide +kernel : ∀ t : Fin grid0.N, _)
theorem index_offsets : ∀ t : Fin cfg0.N, win0_2.index t = ![0, 0] := (by decide +kernel : ∀ t : Fin grid0.N, _)
theorem index_scales : ∀ t : Fin cfg0.N, win0_3.index t = ![0, 0] := (by decide +kernel : ∀ t : Fin grid0.N, _)
theorem index_out : ∀ t : Fin cfg0.N, win0_4.index t = ![(rowBlock t).val, 0] := (by decide +kernel : ∀ t : Fin grid0.N, _)

/-- A row's position among all the rows. -/
abbrev rowPos (t : Fin cfg0.N) (r : Fin 512) : Fin 16384 := ⟨(rowBlock t).val * 512 + r.val, by omega⟩

theorem rows_block (t : Fin cfg0.N) (r : Fin 512) (k : Fin 2048) : iblk m c 0 t (ix2 r k) = V m c main_v0 (ix2 (rowPos t r) k) := by
  blk_simp [iblk]
  blk_ext [index_rows t]

theorem emb_weights (t : Fin cfg0.N) (k l : Fin 2048) : (win0_1.blk t).view.emb (ix2 k l) = ix2 k l := by
  blk_ext [index_weights t]

theorem weights_read (A : FVec Ideal S2048x2048 .bf16) (t : Fin cfg0.N) (k l : Fin 2048) :
    (win0_1.blk t).view.read (Elt Ideal) A (ix2 k l) = A (ix2 k l) := by
  blk_simp
  rw [emb_weights]

theorem weights_block (t : Fin cfg0.N) (k l : Fin 2048) : iblk m c 1 t (ix2 k l) = V m c main_v2 (ix2 k l) :=
  weights_read (V m c main_v2) t k l

theorem emb_offsets (t : Fin cfg0.N) (l : Fin 2048) : (win0_2.blk t).view.emb (ix2 0 l) = ix2 0 l := by
  blk_ext [index_offsets t]

theorem offsets_read (A : FVec Ideal S1x2048 .f32) (t : Fin cfg0.N) (l : Fin 2048) :
    (win0_2.blk t).view.read (Elt Ideal) A (ix2 0 l) = A (ix2 0 l) := by
  blk_simp
  rw [emb_offsets]

theorem offsets_block (t : Fin cfg0.N) (l : Fin 2048) : iblk m c 2 t (ix2 0 l) = V m c main_v5 (ix2 0 l) :=
  offsets_read (V m c main_v5) t l

theorem emb_scales (t : Fin cfg0.N) (l : Fin 2048) : (win0_3.blk t).view.emb (ix2 0 l) = ix2 0 l := by
  blk_ext [index_scales t]

theorem scales_read (A : FVec Ideal S1x2048 .f32) (t : Fin cfg0.N) (l : Fin 2048) :
    (win0_3.blk t).view.read (Elt Ideal) A (ix2 0 l) = A (ix2 0 l) := by
  blk_simp
  rw [emb_scales]

theorem scales_block (t : Fin cfg0.N) (l : Fin 2048) : iblk m c 3 t (ix2 0 l) = V m c main_v6 (ix2 0 l) :=
  scales_read (V m c main_v6) t l

/-! ## What the points leave in the output array -/

/-- The gated and normalized rows, the sequences one after another. -/
def finalCol (p : Fin 16384) (e : Fin 2048) : EReal :=
  normalized (fun k => rowsOf (m ((c : Thread nD τ).loc main_arg0)) (ix2 p k)) (fun k l => m ((c : Thread nD τ).loc main_arg1) (ix3 0 k l))
    (fun l => m ((c : Thread nD τ).loc main_arg2) (ix2 0 l)) (fun l => m ((c : Thread nD τ).loc main_arg3) (ix2 0 l)) e

/-- The array of those. -/
def final (i : S16384x2048.Idx) : EReal := finalCol m c (i 0) (i 1)

/-- What a point has in its block of the output. -/
theorem out_eq (t : Fin cfg0.N) (r : Fin 512) (e : Fin 2048) :
    out0_4 (iblk m c 0 t) (iblk m c 1 t) (iblk m c 2 t) (iblk m c 3 t) (ix2 r e) = finalCol m c (rowPos t r) e := by
  frame_out
  rw [stored_apply]
  simp only [rows_block, weights_block, offsets_block, scales_block]
  rw [V_rows, V_weights, V_offsets, V_scales]
  simp only [weightsOf_apply, lineOf_apply]
  rfl

/-- The output array at the end. -/
theorem final_out : (dats m 0 c).arrAt 4 cfg0.N = final m c := by
  refine (dats m 0 c).arrAt_eq_of_covers 4 _ (by decide +kernel) fun t hf y => ?_
  blk_simp
  rw [after0_4]
  obtain ⟨r, e, rfl⟩ : ∃ (r : Fin 512) (e : Fin 2048), y = ix2 r e := ⟨y 0, y 1, eq_ix2 y⟩
  rw [out_eq]
  have h : (win0_4.blk t).view.emb (ix2 r e) = ix2 (rowPos t r) e := by
    blk_ext [index_out t]
  exact (congrArg (final m c) h).symm

end Cert.Kernel3Ideal.Hand
end
-- ==== Proof.Val3.Tail.lean ====
module

public import proofs.«01_k».proof.Proof.Val3.Blocks
public import Idealize.ShloMosaic.Lib.Claim

@[expose] public section

set_option maxRecDepth 16384

noncomputable section

namespace Cert.Kernel3Ideal.Hand

open Cert.Kernel3Ideal Cert.Kernel3Ideal.Gen Cert.Glu
open Idealize.ShloMosaic Idealize.ShloMosaic.TcCoe Idealize.SL.Sem

variable (m : (ℓ : Loc nD τ sig) → Buf (Elt Ideal) ℓ) (c : Dev nD)

/-! ## The result after the pipeline -/

/-- The result: the rows back in their sequences. -/
theorem tail_out : Pipeline.afterTail₀ cfgs (dats m) 0 (V0 m) [hostOps1] c main_v9
    = glu (m ((c : Thread nD τ).loc main_arg0)) (m ((c : Thread nD τ).loc main_arg1)) (m ((c : Thread nD τ).loc main_arg2)) (m ((c : Thread nD τ).loc main_arg3)) := by
  have h : Pipeline.afterTail₀ cfgs (dats m) 0 (V0 m) [hostOps1] c main_v9
      = extf (F := Ideal) .f32 (shapeCast S2x8192x2048 (Pipeline.withArrays spec0 c (V0 m c) (fun w => (dats m 0 c).arrAt w cfg0.N) (Proc.devRef .tc (Pipeline.arrRef spec0 4))) shapeCasts_S16384x2048_S2x8192x2048) bitsLt_bf16_f32 := by
    unfold Pipeline.afterTail₀
    simp only [hostOps1, List.flatten_cons, List.flatten_nil, List.append_nil, List.cons_append, List.nil_append]
    run_tidy
    rfl
  have ha : Pipeline.withArrays spec0 c (V0 m c) (fun w => (dats m 0 c).arrAt w cfg0.N) (Proc.devRef .tc (Pipeline.arrRef spec0 4)) = (dats m 0 c).arrAt 4 cfg0.N :=
    Pipeline.withArrays_arr_shared spec0 c (V0 m c) (fun w => (dats m 0 c).arrAt w cfg0.N)
      (fun w w' hne h => ((dats m 0 c).arrAt_in w ((by decide : ∀ w w' : Fin cfg0.W, w ≠ w' → Pipeline.arrRef spec0 w = Pipeline.arrRef spec0 w' → (cfg0.win w).isOut = false) w w' hne h) _).trans (A_eq m c w)) 4
  rw [h, ha, final_out]
  funext i
  obtain ⟨s, p, e, rfl⟩ : ∃ (s : Fin 2) (p : Fin 8192) (e : Fin 2048), i = ix3 s p e := ⟨i 0, i 1, i 2, eq_ix3 i⟩
  pointwise
  show finalCol m c ⟨s.val * 8192 + p.val, by omega⟩ e = gluCol _ _ _ _ s p e
  unfold finalCol gluCol
  simp only [rowsOf_apply]

/-- The run with its value: the gated and normalized rows, and the arguments as they were. -/
theorem value_run (ρ : Dev nD → PrngReg) :
    θ_run defs (onTc (τ := τ) (main (F := Ideal))) ⟨m, fun _ => 0, ρ⟩ fun r => ∀ c : Dev nD,
      r.2.mem ((c.tc : Thread nD τ).loc main_v9)
        = glu (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (θ_run_and (run_main m ρ) (frame m ρ))
  exact ⟨((h.1 c).2 main_v9 (Pipeline.mem_restRefs_of main_v9 (by decide) (by decide))).trans (tail_out m c), h.2.1 c⟩

end Cert.Kernel3Ideal.Hand
end
-- ==== Proof.Val3.Ref.lean ====
module

public import proofs.«01_k».proof.Reference3Ideal
public import proofs.«01_k».proof.Proof.Gen.Reference3Ideal.Run
public import proofs.«01_k».proof.Proof.Val3.Math
public import Idealize.ShloMosaic.Lib.IdealHost

@[expose] public section

set_option maxRecDepth 16384

noncomputable section

namespace Cert.Reference3Ideal.Value

open Cert.Reference3Ideal Cert.Reference3Ideal.Gen Cert.Glu
open Idealize.ShloMosaic

/-- The gated rows as the reference computes them. -/
def gated (y : FVec Ideal S2x8192x2048 .f32) (w : FVec Ideal S1x2048x2048 .f32) (b : FVec Ideal S1x2048 .f32) : FVec Ideal S2x8192x2048 .f32 :=
  mulf y (Host.divf (broadcastInDim S2x8192x2048 ![] bcast_S_S2x8192x2048 (constant S_ .f32 0x3F800000#32)) (addf (broadcastInDim S2x8192x2048 ![] bcast_S_S2x8192x2048 (constant S_ .f32 0x3F800000#32)) (Host.exp (Host.negf (addf (Host.dotGeneral dot_S2x8192x2048_S2048x2048_S2x8192x2048_2_0_01_1_n_n none y (shapeCast _ w shapeCasts_S1x2048x2048_S2048x2048)) (broadcastInDim S2x8192x2048 ![0, 1, 2] bcast_S1x1x2048_S2x8192x2048_0_1_2 (broadcastInDim S1x1x2048 ![2] bcast_S2048_S1x1x2048_2 (shapeCast _ b shapeCasts_S1x2048_S2048))))))))

/-- The gated rows over the roots of their mean squares, scaled, as the reference computes them. -/
def whole (o : FVec Ideal S2x8192x2048 .f32) (g : FVec Ideal S1x2048 .f32) : FVec Ideal S2x8192x2048 .f32 :=
  mulf (mulf o (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf o o) (constant S_ .f32 0x00000000#32) reducesTo_S2x8192x2048_S2x8192_d2 h_S_))
    (broadcastInDim S2x8192x1 ![] bcast_S_S2x8192x1 (constant S_ .f32 0x45000000#32))) (broadcastInDim S2x8192x1 ![] bcast_S_S2x8192x1 (constant S_ .f32 0x358637BD#32))))))
    (broadcastInDim S2x8192x2048 ![0, 1, 2] bcast_S1x1x2048_S2x8192x2048_0_1_2 (broadcastInDim S1x1x2048 ![2] bcast_S2048_S1x1x2048_2 (shapeCast _ g shapeCasts_S1x2048_S2048)))

theorem gated_apply (y : FVec Ideal S2x8192x2048 .f32) (w : FVec Ideal S1x2048x2048 .f32) (b : FVec Ideal S1x2048 .f32) (s : Fin 2) (p : Fin 8192) (e : Fin 2048) :
    gated y w b (ix3 s p e) = gate (fun k => y (ix3 s p k)) (fun k l => w (ix3 0 k l)) (fun l => b (ix2 0 l)) e := by
  pointwise [gated, gate]
  rfl

theorem whole_apply (o : FVec Ideal S2x8192x2048 .f32) (g : FVec Ideal S1x2048 .f32) (s : Fin 2) (p : Fin 8192) (e : Fin 2048) :
    whole o g (ix3 s p e) = o (ix3 s p e) * Ideal.rsqrt (Ideal.div (∑ k : Fin 2048, o (ix3 s p k) * o (ix3 s p k)) (Ideal.ofBits .f32 0x45000000#32)
      + Ideal.ofBits .f32 0x358637BD#32) * g (ix2 0 e) := by
  pointwise [whole]

/-- The reference's result is the gated and normalized rows. -/
theorem whole_eq (y : FVec Ideal S2x8192x2048 .f32) (w : FVec Ideal S1x2048x2048 .f32) (b g : FVec Ideal S1x2048 .f32) :
    whole (gated y w b) g = glu y w b g := by
  funext i
  obtain ⟨s, p, e, rfl⟩ : ∃ (s : Fin 2) (p : Fin 8192) (e : Fin 2048), i = ix3 s p e := ⟨i 0, i 1, i 2, eq_ix3 i⟩
  rw [whole_apply]
  simp only [gated_apply]
  rfl

end Cert.Reference3Ideal.Value
end
-- ==== Proof.K4I.Body.lean ====
module

public import proofs.«01_k».proof.Proof.Gen.Kernel4Ideal.Skeleton
public import proofs.«01_k».proof.Proof.Gen.Kernel4Ideal.Frame
public import Idealize.ShloMosaic.Lib.VecWindow
public import Idealize.ShloMosaic.Lib.Exec
public import Idealize.ShloMosaic.Lib.Tactic
public import Idealize.ShloMosaic.Lib.Claim

@[expose] public section

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

set_option maxRecDepth 8192

/-! ## The rows by chunks of 128, the columns by blocks of 256 -/

theorem inb_a (q : Fin 4) : ∀ a, (![0, 128 * q.val, 0] : Fin 3 → ℕ) a + S1x128x2048.size a ≤ S1x512x2048.size a := by revert q; decide
theorem inb_s (q : Fin 4) : ∀ a, (![128 * q.val, 0] : Fin 2 → ℕ) a + S128x2048.size a ≤ S512x4096.size a := by revert q; decide
theorem inb_x (q : Fin 4) : ∀ a, (![0, 128 * q.val, 0] : Fin 3 → ℕ) a + S1x128x4096.size a ≤ S1x512x4096.size a := by revert q; decide
theorem inb_j (j : Fin 16) : ∀ a, (![0, 0, 256 * j.val] : Fin 3 → ℕ) a + S1x512x256.size a ≤ S1x512x4096.size a := by revert j; decide

theorem trips1 : k0_t1_loop.trips = 4 := by decide
theorem trips2 : k0_t2_loop.trips = 4 := by decide
theorem off1_eq : ∀ k : Fin k0_t1_loop.trips, k0_off1 k = ![0, 128 * (k.cast trips1).val, 0] := by decide
theorem off2_eq : ∀ k : Fin k0_t1_loop.trips, k0_off2 k = ![128 * (k.cast trips1).val, 0] := by decide
theorem off4_eq : ∀ k : Fin k0_t2_loop.trips, k0_off4 k = ![0, 128 * (k.cast trips2).val, 0] := by decide

/-- Chunk `q` of the attention rows, normalized. -/
def nrm (a : Vec F S1x512x2048 .f32) (g : Vec F S1x2048 .f32) (q : Fin 4) : Vec F S128x2048 .bf16 :=
  k0_pay1 (window a ![0, 128 * q.val, 0] S1x128x2048.size (inb_a q)) g

/-- The rows the scratch holds: the normalized attention rows beside the rows of the state-space branch. -/
def scrAt (a : Vec F S1x512x2048 .f32) (g : Vec F S1x2048 .f32) (s : Vec F S1x512x2048 .bf16) : Vec F S512x4096 .bf16 := fun y =>
  if h : (y 1).val < 2048 then
    nrm a g ⟨(y 0).val / 128, by have : (y 0).val < 512 := (y 0).isLt; omega⟩
      (fun i => match i with | ⟨0, _⟩ => ⟨(y 0).val % 128, Nat.mod_lt _ (by decide)⟩ | ⟨1, _⟩ => ⟨(y 1).val, h⟩)
  else k0_pay2 s (fun i => match i with | ⟨0, _⟩ => ⟨(y 0).val, (y 0).isLt⟩ | ⟨1, _⟩ => ⟨(y 1).val - 2048, by have : (y 1).val < 4096 := (y 1).isLt; show _ < 2048; omega⟩)

/-- Contents with those windows are `scrAt`. -/
theorem eq_scrAt (a : Vec F S1x512x2048 .f32) (g : Vec F S1x2048 .f32) (s : Vec F S1x512x2048 .bf16) (h : Vec F S512x4096 .bf16)
    (h1 : ∀ q : Fin 4, window h ![128 * q.val, 0] S128x2048.size (inb_s q) = nrm a g q)
    (h2 : window h ![0, 2048] S512x2048.size inb_S512x4096_S512x2048_0_2048 = k0_pay2 s) : h = scrAt a g s := by
  funext y
  unfold scrAt
  have e0 : (y 0).val < 512 := (y 0).isLt
  have e1 : (y 1).val < 4096 := (y 1).isLt
  split
  · next hy =>
    rw [← h1]
    refine congrArg h (funext fun i => Fin.ext ?_)
    fin_cases i
    · show (y 0).val = 128 * ((y 0).val / 128) + 1 * ((y 0).val % 128); omega
    · show (y 1).val = 0 + 1 * (y 1).val; omega
  · next hy =>
    rw [← h2]
    refine congrArg h (funext fun i => Fin.ext ?_)
    fin_cases i
    · show (y 0).val = 0 + 1 * (y 0).val; omega
    · show (y 1).val = 2048 + 1 * ((y 1).val - 2048); omega

/-! ## One trip of each loop -/

set_option maxHeartbeats 4000000 in
/-- One trip of the first loop normalizes its chunk of the attention rows into the scratch. -/
theorem trip1 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x512x2048 .bf16) (harg5 : arg5.IsWhole) (arg6 : Memref sig .tc .vmem S4096x256 .bf16) (harg6 : arg6.IsWhole) (arg7 : Memref sig .tc .vmem S1x512x256 .f32) (harg7 : arg7.IsWhole) (arg8 : Memref sig .tc .vmem S1x1x256 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x1x4096 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x512x4096 .f32) (harg15 : arg15.IsWhole) (arg16 : Memref sig .tc .vmem S1x512x2x2048 .bf16) (harg16 : arg16.IsWhole) (arg17 : Memref sig .tc .vmem S1x512x128 .f32) (harg17 : arg17.IsWhole) (arg18 : Memref sig .tc .vmem S512x4096 .bf16) (harg18 : arg18.IsWhole) (h1 : k0_cond1 i = 1#1) (X3 : BufTy.Contents (Elt F) arg3.view.ty) (X4 : BufTy.Contents (Elt F) arg4.view.ty)
   (k : Fin k0_t1_loop.trips) (E : Set ℕ) :
   (iprop((arg3.view.loc (c : Thread nD τ) ↦[arg3.view.set]{fullShare} X3) ∗ (arg4.view.loc (c : Thread nD τ) ↦[arg4.view.set]{fullShare} X4)
     ∗ (∃ f, (arg18.view.loc (c : Thread nD τ) ↦[arg18.view.set]{fullShare} f) ∗ ⌜∀ q : Fin 4, q.val < k.val → window (arg18.view.read (Elt F) f) ![128 * q.val, 0] S128x2048.size (inb_s q) = nrm (arg3.view.read (Elt F) X3) (arg4.view.read (Elt F) X4) q⌝)) : sProp (MT nD τ sig Unit (Elt F) ℕ (UR sig nD τ) ℕ))
   ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 k ())
      (fun _ => iprop((arg3.view.loc (c : Thread nD τ) ↦[arg3.view.set]{fullShare} X3) ∗ (arg4.view.loc (c : Thread nD τ) ↦[arg4.view.set]{fullShare} X4)
     ∗ (∃ f, (arg18.view.loc (c : Thread nD τ) ↦[arg18.view.set]{fullShare} f) ∗ ⌜∀ q : Fin 4, q.val < k.val + 1 → window (arg18.view.read (Elt F) f) ![128 * q.val, 0] S128x2048.size (inb_s q) = nrm (arg3.view.read (Elt F) X3) (arg4.view.read (Elt F) X4) q⌝))) := by
  unfold k0_t1_body
  iintro ⟨H3, H4, ⟨%f, H18, %hf⟩⟩
  sl_exec
  sl_step
  isplitl [H3]; · iexact H3
  isplitl [H4]; · iexact H4
  iexists _; isplitl [H18]; · iexact H18
  ipureintro
  sl_unfold_run_names
  intro q hq
  rw [View.read_writes_cons_put arg18.view _ _ _ _ (off2_eq k), View.writes_nil]
  rw [View.readAt_unit arg3.view _ _ (off1_eq k) (inb_a (k.cast trips1)), View.readAt_full arg4.view]
  by_cases hk : q.val = k.val
  · obtain rfl : q = k.cast trips1 := Fin.ext hk
    exact window_put_same _ _ _ _ _
  · rw [window_put_of_disjoint _ _ _ _ _ _ _ 0 (by
      have hc : (k.cast trips1).val = k.val := rfl
      rw [hc]
      show 128 * q.val + 128 ≤ 128 * k.val ∨ 128 * k.val + 128 ≤ 128 * q.val
      omega)]
    exact hf q (by omega)

set_option maxHeartbeats 8000000 in
/-- One trip of the second loop layer-normalizes its chunk of the finished rows in place. -/
theorem trip2 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x512x2048 .bf16) (harg5 : arg5.IsWhole) (arg6 : Memref sig .tc .vmem S4096x256 .bf16) (harg6 : arg6.IsWhole) (arg7 : Memref sig .tc .vmem S1x512x256 .f32) (harg7 : arg7.IsWhole) (arg8 : Memref sig .tc .vmem S1x1x256 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x1x4096 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x512x4096 .f32) (harg15 : arg15.IsWhole) (arg16 : Memref sig .tc .vmem S1x512x2x2048 .bf16) (harg16 : arg16.IsWhole) (arg17 : Memref sig .tc .vmem S1x512x128 .f32) (harg17 : arg17.IsWhole) (arg18 : Memref sig .tc .vmem S512x4096 .bf16) (harg18 : arg18.IsWhole) (h2 : k0_cond2 i = 1#1) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X : Vec F S1x512x4096 .f32)
   (k : Fin k0_t2_loop.trips) (E : Set ℕ) :
   (iprop((arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)
     ∗ (∃ f, (arg15.view.loc (c : Thread nD τ) ↦[arg15.view.set]{fullShare} f) ∗ ⌜(∀ q : Fin 4, q.val < k.val → window (arg15.view.read (Elt F) f) ![0, 128 * q.val, 0] S1x128x4096.size (inb_x q) = k0_pay10 (window X ![0, 128 * q.val, 0] S1x128x4096.size (inb_x q)) (arg9.view.read (Elt F) X9) (arg10.view.read (Elt F) X10))
        ∧ (∀ q : Fin 4, k.val ≤ q.val → window (arg15.view.read (Elt F) f) ![0, 128 * q.val, 0] S1x128x4096.size (inb_x q) = window X ![0, 128 * q.val, 0] S1x128x4096.size (inb_x q))⌝)
     ∗ (∃ f, (arg16.view.loc (c : Thread nD τ) ↦[arg16.view.set]{fullShare} f)) ∗ (∃ f, (arg17.view.loc (c : Thread nD τ) ↦[arg17.view.set]{fullShare} f))) : sProp (MT nD τ sig Unit (Elt F) ℕ (UR sig nD τ) ℕ))
   ⊢ wp frame (wpE (defs₀ (F := F)) Variants.none (c : Thread nD τ) none) E (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h2 k ())
      (fun _ => iprop((arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)
     ∗ (∃ f, (arg15.view.loc (c : Thread nD τ) ↦[arg15.view.set]{fullShare} f) ∗ ⌜(∀ q : Fin 4, q.val < k.val + 1 → window (arg15.view.read (Elt F) f) ![0, 128 * q.val, 0] S1x128x4096.size (inb_x q) = k0_pay10 (window X ![0, 128 * q.val, 0] S1x128x4096.size (inb_x q)) (arg9.view.read (Elt F) X9) (arg10.view.read (Elt F) X10))
        ∧ (∀ q : Fin 4, k.val + 1 ≤ q.val → window (arg15.view.read (Elt F) f) ![0, 128 * q.val, 0] S1x128x4096.size (inb_x q) = window X ![0, 128 * q.val, 0] S1x128x4096.size (inb_x q))⌝)
     ∗ (∃ f, (arg16.view.loc (c : Thread nD τ) ↦[arg16.view.set]{fullShare} f)) ∗ (∃ f, (arg17.view.loc (c : Thread nD τ) ↦[arg17.view.set]{fullShare} f)))) := by
  unfold k0_t2_body
  simp only [k0_part1_eq_skeleton]
  unfold k0_part1_skel
  simp only [bind_assoc, pure_bind]
  iintro ⟨H9, H10, H11, H12, H13, H14, ⟨%f, H15, %hf⟩, ⟨%f16, H16⟩, ⟨%f17, H17⟩⟩
  obtain ⟨hf, hg⟩ := hf
  sl_exec
  sl_step
  isplitl [H9]; · iexact H9
  isplitl [H10]; · iexact H10
  isplitl [H11]; · iexact H11
  isplitl [H12]; · iexact H12
  isplitl [H13]; · iexact H13
  isplitl [H14]; · iexact H14
  isplitl [H15]
  · iexists _; isplitl [H15]; · iexact H15
    ipureintro
    sl_unfold_run_names
    rw [View.read_writes_cons_put arg15.view _ _ _ _ (off4_eq k), View.writes_nil]
    rw [View.readAt_unit arg15.view _ _ (off4_eq k) (inb_x (k.cast trips2)), View.readAt_full arg9.view, View.readAt_full arg10.view]
    rw [hg (k.cast trips2) (le_of_eq rfl)]
    refine ⟨fun q hq => ?_, fun q hq => ?_⟩
    · by_cases hk : q.val = k.val
      · obtain rfl : q = k.cast trips2 := Fin.ext hk
        exact window_put_same _ _ _ _ _
      · rw [window_put_of_disjoint _ _ _ _ _ _ _ 1 (by
          have hc : (k.cast trips2).val = k.val := rfl
          rw [hc]
          show 128 * q.val + 128 ≤ 128 * k.val ∨ 128 * k.val + 128 ≤ 128 * q.val
          omega)]
        exact hf q (by omega)
    · rw [window_put_of_disjoint _ _ _ _ _ _ _ 1 (by
        have hc : (k.cast trips2).val = k.val := rfl
        rw [hc]
        show 128 * q.val + 128 ≤ 128 * k.val ∨ 128 * k.val + 128 ≤ 128 * q.val
        omega)]
      exact hg q (by omega)
  isplitl [H16]; · iexists _; iexact H16
  iexists _; iexact H17

/-- The first loop's invariant. -/
def loop1 (c : Dev nD) (arg3 : Memref sig .tc .vmem S1x512x2048 .f32) (arg4 : Memref sig .tc .vmem S1x2048 .f32) (arg18 : Memref sig .tc .vmem S512x4096 .bf16) (X3 : BufTy.Contents (Elt F) arg3.view.ty) (X4 : BufTy.Contents (Elt F) arg4.view.ty) (k : ℕ) (_ : Unit) : sProp (MT nD τ sig Unit (Elt F) ℕ (UR sig nD τ) ℕ) :=
  iprop((arg3.view.loc (c : Thread nD τ) ↦[arg3.view.set]{fullShare} X3) ∗ (arg4.view.loc (c : Thread nD τ) ↦[arg4.view.set]{fullShare} X4)
     ∗ (∃ f, (arg18.view.loc (c : Thread nD τ) ↦[arg18.view.set]{fullShare} f) ∗ ⌜∀ q : Fin 4, q.val < k → window (arg18.view.read (Elt F) f) ![128 * q.val, 0] S128x2048.size (inb_s q) = nrm (arg3.view.read (Elt F) X3) (arg4.view.read (Elt F) X4) q⌝))

/-- The second loop's invariant. -/
def loop2 (c : Dev nD) (arg9 : Memref sig .tc .vmem S1x4096 .f32) (arg10 : Memref sig .tc .vmem S1x4096 .f32) (arg11 : Memref sig .tc .vmem S1x1x4096 .f32) (arg12 : Memref sig .tc .vmem S1x1x4096 .f32) (arg13 : Memref sig .tc .vmem S4096x128 .bf16) (arg14 : Memref sig .tc .vmem S4096x128 .bf16) (arg15 : Memref sig .tc .vmem S1x512x4096 .f32) (arg16 : Memref sig .tc .vmem S1x512x2x2048 .bf16) (arg17 : Memref sig .tc .vmem S1x512x128 .f32) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X : Vec F S1x512x4096 .f32) (k : ℕ) (_ : Unit) : sProp (MT nD τ sig Unit (Elt F) ℕ (UR sig nD τ) ℕ) :=
  iprop((arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)
     ∗ (∃ f, (arg15.view.loc (c : Thread nD τ) ↦[arg15.view.set]{fullShare} f) ∗ ⌜(∀ q : Fin 4, q.val < k → window (arg15.view.read (Elt F) f) ![0, 128 * q.val, 0] S1x128x4096.size (inb_x q) = k0_pay10 (window X ![0, 128 * q.val, 0] S1x128x4096.size (inb_x q)) (arg9.view.read (Elt F) X9) (arg10.view.read (Elt F) X10))
        ∧ (∀ q : Fin 4, k ≤ q.val → window (arg15.view.read (Elt F) f) ![0, 128 * q.val, 0] S1x128x4096.size (inb_x q) = window X ![0, 128 * q.val, 0] S1x128x4096.size (inb_x q))⌝)
     ∗ (∃ f, (arg16.view.loc (c : Thread nD τ) ↦[arg16.view.set]{fullShare} f)) ∗ (∃ f, (arg17.view.loc (c : Thread nD τ) ↦[arg17.view.set]{fullShare} f)))

/-! ## One point of the grid -/

set_option maxHeartbeats 8000000 in
/-- The first column block: the scratch gets its rows, the block of the result its columns. -/
theorem body_first (c : Dev nD) (i : grid0.Coords) (h1 : k0_cond1 i = 1#1) (h2 : ¬ k0_cond2 i = 1#1) (E : Set ℕ) (arg3 : Memref sig .tc .vmem S1x512x2048 .f32) (harg3 : arg3.IsWhole) (arg4 : Memref sig .tc .vmem S1x2048 .f32) (harg4 : arg4.IsWhole) (arg5 : Memref sig .tc .vmem S1x512x2048 .bf16) (harg5 : arg5.IsWhole) (arg6 : Memref sig .tc .vmem S4096x256 .bf16) (harg6 : arg6.IsWhole) (arg7 : Memref sig .tc .vmem S1x512x256 .f32) (harg7 : arg7.IsWhole) (arg8 : Memref sig .tc .vmem S1x1x256 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x1x4096 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x512x4096 .f32) (harg15 : arg15.IsWhole) (arg16 : Memref sig .tc .vmem S1x512x2x2048 .bf16) (harg16 : arg16.IsWhole) (arg17 : Memref sig .tc .vmem S1x512x128 .f32) (harg17 : arg17.IsWhole) (arg18 : Memref sig .tc .vmem S512x4096 .bf16) (harg18 : arg18.IsWhole)
   (x3 : Vec F S1x512x2048 .f32) (x4 : Vec F S1x2048 .f32) (x5 : Vec F S1x512x2048 .bf16) (x6 : Vec F S4096x256 .bf16) (x7 : Vec F S1x512x256 .f32) (x8 : Vec F S1x1x256 .f32) (x9 : Vec F S1x4096 .f32) (x10 : Vec F S1x4096 .f32) (x11 : Vec F S1x1x4096 .f32) (x12 : Vec F S1x1x4096 .f32) (x13 : Vec F S4096x128 .bf16) (x14 : Vec F S4096x128 .bf16) (x15 : Vec F S1x512x4096 .f32) (x16 : Vec F S1x512x2x2048 .bf16) (x17 : Vec F S1x512x128 .f32) (x18 : Vec F S512x4096 .bf16)
   (K : PUnit → sProp (MT nD τ sig Unit (Elt F) ℕ (UR sig nD τ) ℕ)) :
   iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18
     ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (put x15 (k0_off3 i) S1x512x256.size (k0_pay3 (scrAt x3 x4 x5) x6 x7 x8)) ∗ owns (c : Thread nD τ) arg16 fullShare x16 ∗ owns (c : Thread nD τ) arg17 fullShare x17 ∗ owns (c : Thread nD τ) arg18 fullShare (scrAt x3 x4 x5)) -∗ K ⟨⟩))
   ⊢ wp frame (wpE (defs₀ (F := F)) Variants.none c none) E (cc0_out_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_out_proj_eq_skeleton]
  unfold cc0_out_proj_skel
  simp only [dif_pos h1, dif_neg h2, bind_assoc, pure_bind]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  subst hf3 hf4 hf5 hf6 hf7 hf8 hf9 hf10 hf11 hf12 hf13 hf14 hf15 hf16 hf17 hf18
  sl_for (loop1 c arg3 arg4 arg18 f3 f4) $$ [H3 H4 H18]
  case region =>
    intro k _
    unfold loop1
    exact trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 f3 f4 k E
  · unfold loop1
    isplitl [H3]; · iexact H3
    isplitl [H4]; · iexact H4
    iexists _; isplitl [H18]; · iexact H18
    ipureintro
    intro q hq
    exact absurd hq (Nat.not_lt_zero _)
  iintro %acc HI
  unfold loop1
  icases HI with ⟨H3, H4, ⟨%g18, H18, %h18⟩⟩
  have hscr : put (arg18.view.read (Elt F) g18) ![0, 2048] S512x2048.size (k0_pay2 (arg5.view.read (Elt F) f5)) = scrAt (arg3.view.read (Elt F) f3) (arg4.view.read (Elt F) f4) (arg5.view.read (Elt F) f5) := by
    refine eq_scrAt _ _ _ _ (fun q => ?_) (window_put_same _ _ _ _ _)
    rw [window_put_of_disjoint _ _ _ _ _ _ _ 1 (Or.inl (by show 0 + 2048 ≤ 2048; omega))]
    exact h18 q (lt_of_lt_of_eq q.isLt trips1.symm)
  sl_exec
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  isplitl [H12]
  · iexists _; isplitr; · ipureintro; rfl
    iexact H12
  isplitl [H13]
  · iexists _; isplitr; · ipureintro; rfl
    iexact H13
  isplitl [H14]
  · iexists _; isplitr; · ipureintro; rfl
    iexact H14
  isplitl [H15]
  · iexists _; isplitr; swap; · iexact H15
    ipureintro
    sl_unfold_run_names
    rw [View.read_writes_cons_put arg15.view _ _ _ _ rfl, View.writes_nil]
    rw [View.readAt_full arg6.view, View.readAt_full arg7.view, View.readAt_full arg8.view]
    rw [View.readAt_full arg18.view, View.read_writes_cons_put arg18.view _ _ _ _ rfl, View.writes_nil, View.readAt_full arg5.view]
    exact congrArg (fun h => put (arg15.view.read (Elt F) f15) (k0_off3 i) S1x512x256.size (k0_pay3 h (arg6.view.read (Elt F) f6) (arg7.view.read (Elt F) f7) (arg8.view.read (Elt F) f8))) hscr
  isplitl [H16]
  · iexists _; isplitr; · ipureintro; rfl
    iexact H16
  isplitl [H17]
  · iexists _; isplitr; · ipureintro; rfl
    iexact H17
  iexists _; isplitr; swap; · iexact H18
  ipureintro
  sl_unfold_run_names
  rw [View.read_writes_cons_put arg18.view _ _ _ _ rfl, View.writes_nil, View.readAt_full arg5.view]
  exact hscr

set_option maxHeartbeats 8000000 in
/-- A column block that is neither the first nor the last: the block of the result gets its columns. -/
theorem body_middle (c : Dev nD) (i : grid0.Coords) (h1 : ¬ k0_cond1 i = 1#1) (h2 : ¬ k0_cond2 i = 1#1) (E : Set ℕ) (arg3 : Memref sig .tc .vmem S1x512x2048 .f32) (harg3 : arg3.IsWhole) (arg4 : Memref sig .tc .vmem S1x2048 .f32) (harg4 : arg4.IsWhole) (arg5 : Memref sig .tc .vmem S1x512x2048 .bf16) (harg5 : arg5.IsWhole) (arg6 : Memref sig .tc .vmem S4096x256 .bf16) (harg6 : arg6.IsWhole) (arg7 : Memref sig .tc .vmem S1x512x256 .f32) (harg7 : arg7.IsWhole) (arg8 : Memref sig .tc .vmem S1x1x256 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x1x4096 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x512x4096 .f32) (harg15 : arg15.IsWhole) (arg16 : Memref sig .tc .vmem S1x512x2x2048 .bf16) (harg16 : arg16.IsWhole) (arg17 : Memref sig .tc .vmem S1x512x128 .f32) (harg17 : arg17.IsWhole) (arg18 : Memref sig .tc .vmem S512x4096 .bf16) (harg18 : arg18.IsWhole)
   (x3 : Vec F S1x512x2048 .f32) (x4 : Vec F S1x2048 .f32) (x5 : Vec F S1x512x2048 .bf16) (x6 : Vec F S4096x256 .bf16) (x7 : Vec F S1x512x256 .f32) (x8 : Vec F S1x1x256 .f32) (x9 : Vec F S1x4096 .f32) (x10 : Vec F S1x4096 .f32) (x11 : Vec F S1x1x4096 .f32) (x12 : Vec F S1x1x4096 .f32) (x13 : Vec F S4096x128 .bf16) (x14 : Vec F S4096x128 .bf16) (x15 : Vec F S1x512x4096 .f32) (x16 : Vec F S1x512x2x2048 .bf16) (x17 : Vec F S1x512x128 .f32) (x18 : Vec F S512x4096 .bf16)
   (K : PUnit → sProp (MT nD τ sig Unit (Elt F) ℕ (UR sig nD τ) ℕ)) :
   iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18
     ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (put x15 (k0_off3 i) S1x512x256.size (k0_pay3 x18 x6 x7 x8)) ∗ owns (c : Thread nD τ) arg16 fullShare x16 ∗ owns (c : Thread nD τ) arg17 fullShare x17 ∗ owns (c : Thread nD τ) arg18 fullShare x18) -∗ K ⟨⟩))
   ⊢ wp frame (wpE (defs₀ (F := F)) Variants.none c none) E (cc0_out_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_out_proj_eq_skeleton]
  unfold cc0_out_proj_skel
  simp only [dif_neg h1, dif_neg h2, bind_assoc, pure_bind]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  subst hf3 hf4 hf5 hf6 hf7 hf8 hf9 hf10 hf11 hf12 hf13 hf14 hf15 hf16 hf17 hf18
  sl_exec
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  isplitl [H12]
  · iexists _; isplitr; · ipureintro; rfl
    iexact H12
  isplitl [H13]
  · iexists _; isplitr; · ipureintro; rfl
    iexact H13
  isplitl [H14]
  · iexists _; isplitr; · ipureintro; rfl
    iexact H14
  isplitl [H15]
  · iexists _; isplitr; swap; · iexact H15
    ipureintro
    sl_unfold_run_names
    rw [View.read_writes_cons_put arg15.view _ _ _ _ rfl, View.writes_nil]
    rw [View.readAt_full arg18.view, View.readAt_full arg6.view, View.readAt_full arg7.view, View.readAt_full arg8.view]
  isplitl [H16]
  · iexists _; isplitr; · ipureintro; rfl
    iexact H16
  isplitl [H17]
  · iexists _; isplitr; · ipureintro; rfl
    iexact H17
  iexists _; isplitr; · ipureintro; rfl
  iexact H18

set_option maxHeartbeats 8000000 in
/-- The last column block: after its columns are stored the finished rows are layer-normalized in place. -/
theorem body_last (c : Dev nD) (i : grid0.Coords) (h1 : ¬ k0_cond1 i = 1#1) (h2 : k0_cond2 i = 1#1) (E : Set ℕ) (arg3 : Memref sig .tc .vmem S1x512x2048 .f32) (harg3 : arg3.IsWhole) (arg4 : Memref sig .tc .vmem S1x2048 .f32) (harg4 : arg4.IsWhole) (arg5 : Memref sig .tc .vmem S1x512x2048 .bf16) (harg5 : arg5.IsWhole) (arg6 : Memref sig .tc .vmem S4096x256 .bf16) (harg6 : arg6.IsWhole) (arg7 : Memref sig .tc .vmem S1x512x256 .f32) (harg7 : arg7.IsWhole) (arg8 : Memref sig .tc .vmem S1x1x256 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x1x4096 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S1x512x4096 .f32) (harg15 : arg15.IsWhole) (arg16 : Memref sig .tc .vmem S1x512x2x2048 .bf16) (harg16 : arg16.IsWhole) (arg17 : Memref sig .tc .vmem S1x512x128 .f32) (harg17 : arg17.IsWhole) (arg18 : Memref sig .tc .vmem S512x4096 .bf16) (harg18 : arg18.IsWhole)
   (x3 : Vec F S1x512x2048 .f32) (x4 : Vec F S1x2048 .f32) (x5 : Vec F S1x512x2048 .bf16) (x6 : Vec F S4096x256 .bf16) (x7 : Vec F S1x512x256 .f32) (x8 : Vec F S1x1x256 .f32) (x9 : Vec F S1x4096 .f32) (x10 : Vec F S1x4096 .f32) (x11 : Vec F S1x1x4096 .f32) (x12 : Vec F S1x1x4096 .f32) (x13 : Vec F S4096x128 .bf16) (x14 : Vec F S4096x128 .bf16) (x15 : Vec F S1x512x4096 .f32) (x16 : Vec F S1x512x2x2048 .bf16) (x17 : Vec F S1x512x128 .f32) (x18 : Vec F S512x4096 .bf16)
   (K : PUnit → sProp (MT nD τ sig Unit (Elt F) ℕ (UR sig nD τ) ℕ)) :
   iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18
     ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ X : Vec F S1x512x4096 .f32, ⌜∀ q : Fin 4, window X ![0, 128 * q.val, 0] S1x128x4096.size (inb_x q) = k0_pay10 (window (put x15 (k0_off3 i) S1x512x256.size (k0_pay3 x18 x6 x7 x8)) ![0, 128 * q.val, 0] S1x128x4096.size (inb_x q)) x9 x10⌝ ∗ owns (c : Thread nD τ) arg15 fullShare X) ∗ (∃ X, owns (c : Thread nD τ) arg16 fullShare X) ∗ (∃ X, owns (c : Thread nD τ) arg17 fullShare X) ∗ owns (c : Thread nD τ) arg18 fullShare x18) -∗ K ⟨⟩))
   ⊢ wp frame (wpE (defs₀ (F := F)) Variants.none c none) E (cc0_out_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_out_proj_eq_skeleton]
  unfold cc0_out_proj_skel
  simp only [dif_neg h1, dif_pos h2, bind_assoc, pure_bind]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  subst hf3 hf4 hf5 hf6 hf7 hf8 hf9 hf10 hf11 hf12 hf13 hf14 hf15 hf16 hf17 hf18
  sl_exec
  sl_for (loop2 c arg9 arg10 arg11 arg12 arg13 arg14 arg15 arg16 arg17 f9 f10 f11 f12 f13 f14 (put (arg15.view.read (Elt F) f15) (k0_off3 i) S1x512x256.size (k0_pay3 (arg18.view.read (Elt F) f18) (arg6.view.read (Elt F) f6) (arg7.view.read (Elt F) f7) (arg8.view.read (Elt F) f8)))) $$ [H9 H10 H11 H12 H13 H14 H15 H16 H17]
  case region =>
    intro k _
    unfold loop2
    exact trip2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h2 f9 f10 f11 f12 f13 f14 _ k E
  · unfold loop2
    isplitl [H9]; · iexact H9
    isplitl [H10]; · iexact H10
    isplitl [H11]; · iexact H11
    isplitl [H12]; · iexact H12
    isplitl [H13]; · iexact H13
    isplitl [H14]; · iexact H14
    isplitl [H15]
    · iexists _; isplitl [H15]; · iexact H15
      ipureintro
      sl_unfold_run_names
      rw [View.read_writes_cons_put arg15.view _ _ _ _ rfl, View.writes_nil]
      rw [View.readAt_full arg18.view, View.readAt_full arg6.view, View.readAt_full arg7.view, View.readAt_full arg8.view]
      exact ⟨fun q hq => absurd hq (Nat.not_lt_zero _), fun q _ => rfl⟩
    isplitl [H16]; · iexists _; iexact H16
    iexists _; iexact H17
  iintro %acc HI
  unfold loop2
  icases HI with ⟨H9, H10, H11, H12, H13, H14, ⟨%g15, H15, %h15⟩, ⟨%g16, H16⟩, ⟨%g17, H17⟩⟩
  sl_exec
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  isplitl [H12]
  · iexists _; isplitr; · ipureintro; rfl
    iexact H12
  isplitl [H13]
  · iexists _; isplitr; · ipureintro; rfl
    iexact H13
  isplitl [H14]
  · iexists _; isplitr; · ipureintro; rfl
    iexact H14
  isplitl [H15]
  · iexists _; isplitr; swap
    · iexists _; isplitr; swap; · iexact H15
      ipureintro; rfl
    ipureintro
    intro q
    exact h15.1 q (lt_of_lt_of_eq q.isLt trips2.symm)
  isplitl [H16]
  · iexists _; iexists _; isplitr; swap; · iexact H16
    ipureintro; rfl
  isplitl [H17]
  · iexists _; iexists _; isplitr; swap; · iexact H17
    ipureintro; rfl
  iexists _; isplitr; · ipureintro; rfl
  iexact H18

end Cert.Kernel4Ideal.Hand
end
-- ==== Proof.K4I.Run.lean ====
module

public import proofs.«01_k».proof.Proof.K4I.Body
public import Idealize.ShloMosaic.Lib.Pipeline.DatRel
public import Idealize.ShloMosaic.Lib.Claim

@[expose] public section

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel)
open Idealize.ShloMosaic.VecWindow

variable {F : FTy → Type} [FloatOps F]

variable (m : (ℓ : Loc nD τ sig) → Buf (Elt F) ℓ) (ρ : Dev nD → PrngReg)

set_option maxRecDepth 8192

/-! ## What the buffers hold, point by point -/

/-- The grid point numbered `k`. -/
def pt (k : ℕ) : Fin cfg0.N := ⟨k % 512, Nat.mod_lt _ (by decide)⟩
/-- The first point of the sixteen that share point `k`'s rows. -/
def rowPt (k : ℕ) : Fin cfg0.N := pt (k / 16 * 16)

/-- The rows the scratch holds over the sixteen points that share them. -/
def scrRow (c : Dev nD) (k : ℕ) : Vec F S512x4096 .bf16 := scrAt (iblk m c 0 (rowPt k)) (iblk m c 1 (rowPt k)) (iblk m c 2 (rowPt k))
/-- The columns point `k` stores. -/
def mixAt (c : Dev nD) (k : ℕ) : Vec F S1x512x256 .f32 := k0_pay3 (scrRow m c k) (iblk m c 3 (pt k)) (iblk m c 4 (pt k)) (iblk m c 5 (pt k))

theorem pt_val (t : Fin cfg0.N) : pt t.val = t := Fin.ext (Nat.mod_eq_of_lt t.isLt)

theorem scrRow_pred (c : Dev nD) (k : ℕ) (hk : k % 16 ≠ 0) : scrRow m c (k - 1) = scrRow m c k := by
  unfold scrRow rowPt; rw [show (k - 1) / 16 = k / 16 by omega]

/-- Contents of the result's buffer whose first `n` column blocks are those stored for point `k`'s rows. -/
def Cols (c : Dev nD) (k n : ℕ) (X : Vec F S1x512x4096 .f32) : Prop :=
  ∀ j : Fin 16, j.val < n → window X ![0, 0, 256 * j.val] S1x512x256.size (inb_j j) = mixAt m c (k / 16 * 16 + j.val)

/-- What point `t` leaves in the result's buffer: the column blocks so far, at the last point layer-normalized by chunks. -/
def Left (c : Dev nD) (t : Fin cfg0.N) (X : Vec F S1x512x4096 .f32) : Prop :=
  (t.val % 16 < 15 → Cols m c t.val (t.val % 16 + 1) X)
  ∧ (t.val % 16 = 15 → ∃ X0, Cols m c t.val 16 X0 ∧ ∀ q : Fin 4, window X ![0, 128 * q.val, 0] S1x128x4096.size (inb_x q)
      = k0_pay10 (window X0 ![0, 128 * q.val, 0] S1x128x4096.size (inb_x q)) (iblk m c 6 t) (iblk m c 7 t))

/-- What the region holds besides the staging buffers before point `n`: the scratch, which holds the rows from the second of the
    sixteen points on, and the generator's register. -/
def Inv (c : Dev nD) (n : ℕ) : sProp (MT nD τ sig Unit (Elt F) ℕ (UR sig nD τ) ℕ) :=
  iprop((∃ h, ⌜n % 16 ≠ 0 → h = scrRow m c n⌝ ∗ owns (c : Thread nD τ) (Memref.whole cc0_scratch0) fullShare h) ∗ ∃ r, prngReg c r)

/-- The pipeline's proof data: the arrays as the region finds them; after the body each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨_ + 15, h⟩ => absurd h (Nat.not_lt.2 (Nat.le_add_left _ _))
  Φ n := Inv m c n.val
  q _ := fullShare
  owed _ := 0

/-- The results are held to a relation. -/
def fgt (w : Fin cfg0.W) : Bool := decide (12 ≤ w.val)
/-- The relation: of the first result `Left`, of the other two nothing. -/
def Rl (c : Dev nD) (w : Fin cfg0.W) : Fin cfg0.N → ((cfg0.win w).block.Idx → Elt F (cfg0.win w).elt) → Prop :=
  match w with
  | ⟨12, _⟩ => fun t X => Left m c t X
  | _ => fun _ _ => True
/-- The data with the results held to the relation. -/
def rdats (c : Dev nD) : RDat τ (Elt F) Unit ℕ (UR sig nD τ) ℕ cfg0 c := (dats m 0 c).toRRel fgt (Rl m c)

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  before0_10_of m (dats m 0 c) (A_eq m c 10) (after0_10 m c) t d
theorem after0_11 (c : Dev nD) (t : Fin cfg0.N) : (dats m 0 c).after 11 t = iblk m c 11 t := by dsimp only [dats]
theorem before0_11 (c : Dev nD) (t : Fin cfg0.N) (d) : (dats m 0 c).before 11 t d = iblk m c 11 t :=
  before0_11_of m (dats m 0 c) (A_eq m c 11) (after0_11 m c) t d

/-! ## The conditions, offsets and write-backs over the grid -/

theorem cond1_iff : ∀ t : Fin cfg0.N, k0_cond1 (grid0.coords t) = 1#1 ↔ t.val % 16 = 0 :=
  (by decide +kernel : ∀ t : Fin grid0.N, k0_cond1 (grid0.coords t) = 1#1 ↔ t.val % 16 = 0)
theorem cond2_iff : ∀ t : Fin cfg0.N, k0_cond2 (grid0.coords t) = 1#1 ↔ t.val % 16 = 15 :=
  (by decide +kernel : ∀ t : Fin grid0.N, k0_cond2 (grid0.coords t) = 1#1 ↔ t.val % 16 = 15)
theorem off3_eq : ∀ t : Fin cfg0.N, k0_off3 (grid0.coords t) = ![0, 0, 256 * (t.val % 16)] :=
  (by decide +kernel : ∀ t : Fin grid0.N, k0_off3 (grid0.coords t) = ![0, 0, 256 * (t.val % 16)])
theorem flush12 : ∀ t : Fin cfg0.N, (cfg0.win 12).flush t = decide (t.val % 16 = 15) :=
  (by decide +kernel : ∀ t : Fin grid0.N, win0_12.flush t = decide (t.val % 16 = 15))

/-- The block stored at a point joins those stored before it. -/
theorem cols_put (c : Dev nD) (t : Fin cfg0.N) (X : Vec F S1x512x4096 .f32) (hX : Cols m c t.val (t.val % 16) X) :
    Cols m c t.val (t.val % 16 + 1) (put X (k0_off3 (grid0.coords t)) S1x512x256.size (mixAt m c t.val)) := by
  intro j hj
  rw [off3_eq t]
  by_cases h : j.val = t.val % 16
  · have e : mixAt m c (t.val / 16 * 16 + j.val) = mixAt m c t.val := congrArg (mixAt m c) (by omega)
    rw [e]
    have e2 : (![0, 0, 256 * (t.val % 16)] : Fin 3 → ℕ) = ![0, 0, 256 * j.val] := by rw [h]
    rw [e2]
    exact window_put_same _ _ _ _ _
  · rw [window_put_of_disjoint _ _ _ _ _ _ _ 2 (by
      show 256 * j.val + 256 ≤ 256 * (t.val % 16) ∨ 256 * (t.val % 16) + 256 ≤ 256 * j.val
      omega)]
    exact hX j (by omega)

/-- What the body finds in the first result's buffer: the column blocks stored before this point. -/
theorem found_cols (c : Dev nD) (t : Fin cfg0.N) (X : (cfg0.win 12).block.Idx → Elt F (cfg0.win 12).elt) (hX : (rdats m c).Finds 12 t X) :
    Cols m c t.val (t.val % 16) X := by
  by_cases h0 : t.val % 16 = 0
  · intro j hj; omega
  have hz : t.val ≠ 0 := fun h => h0 (by rw [h])
  rcases ((rdats m c).finds_of_pos ((cfg0.win 12).fetch_out rfl _) hz X).mp hX with h | h
  · rw [flush12, decide_eq_true_eq] at h
    exact absurd h (by show ¬ (t.val - 1) % 16 = 15; omega)
  · have hl : Left m c ⟨t.val - 1, by omega⟩ X := (dats m 0 c).toRRel_leaves (fgt := fgt) (Rl := Rl m c) (w := 12) rfl h
    have h2 := hl.1 (by show (t.val - 1) % 16 < 15; omega)
    intro j hj
    have h3 := h2 j (by show j.val < (t.val - 1) % 16 + 1; omega)
    rw [h3]
    exact congrArg (mixAt m c) (by show (t.val - 1) / 16 * 16 + j.val = _; omega)

/-! ## The body obligation -/

/-- What the body starts from at point `t`. -/
def bodyPre (c : Dev nD) (t : Fin cfg0.N) : sProp (MT nD τ sig Unit (Elt F) ℕ (UR sig nD τ) ℕ) :=
  iprop(Inv m c t.val ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ Y, ⌜(rdats m c).Finds 12 t Y⌝ ∗ owns (c : Thread nD τ) (st0_12 t) fullShare Y) ∗ (∃ Y, ⌜(rdats m c).Finds 13 t Y⌝ ∗ owns (c : Thread nD τ) (st0_13 t) fullShare Y) ∗ (∃ Y, ⌜(rdats m c).Finds 14 t Y⌝ ∗ owns (c : Thread nD τ) (st0_14 t) fullShare Y))
/-- What it ends in. -/
def bodyPost (c : Dev nD) (t : Fin cfg0.N) : sProp (MT nD τ sig Unit (Elt F) ℕ (UR sig nD τ) ℕ) :=
  iprop(Inv m c (t.val + 1) ∗ (dats m 0 c).owesAt () t.castSucc ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ (∃ X, ⌜Rl m c 12 t X⌝ ∗ owns (c : Thread nD τ) (st0_12 t) fullShare X) ∗ (∃ X, ⌜Rl m c 13 t X⌝ ∗ owns (c : Thread nD τ) (st0_13 t) fullShare X) ∗ (∃ X, ⌜Rl m c 14 t X⌝ ∗ owns (c : Thread nD τ) (st0_14 t) fullShare X))

set_option maxHeartbeats 8000000 in
/-- The first of the sixteen points. -/
theorem sound_first (c : Dev nD) (t : Fin cfg0.N) (ht : t.val % 16 = 0) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, before0_5, before0_6, before0_7, before0_8, before0_9, before0_10, before0_11, after0_0, after0_1, after0_2, after0_3, after0_4, after0_5, after0_6, after0_7, after0_8, after0_9, after0_10, after0_11]
  unfold Inv
  have hrow : rowPt t.val = t := by unfold rowPt; rw [show t.val / 16 * 16 = t.val by omega]; exact pt_val t
  have hscr : scrRow m c t.val = scrAt (iblk m c 0 t) (iblk m c 1 t) (iblk m c 2 t) := by unfold scrRow; rw [hrow]
  iintro ⟨⟨⟨%h, %hh, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%Y12, %hY12, H12⟩, ⟨%Y13, %hY13, H13⟩, ⟨%Y14, %hY14, H14⟩⟩
  have hc := cols_put m c t Y12 (found_cols m c t Y12 hY12)
  unfold mixAt at hc
  rw [pt_val] at hc
  rw [hscr] at hc
  iapply (body_first c (grid0.coords t) (by rw [cond1_iff]; omega) (by rw [cond2_iff]; omega) Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [Hs]; · iexact Hs
  iintro ⟨H0, H1, H2, H3, H4, H5, H6, H7, H8, H9, H10, H11, H12, H13, H14, Hs⟩
  isplitl [Hs Hg]
  · isplitl [Hs]
    · iexists _; isplitr; swap; · iexact Hs
      ipureintro
      intro _
      rw [← hscr]; exact scrRow_pred m c (t.val + 1) (by omega)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists _; isplitr; swap; · iexact H12
    ipureintro
    exact ⟨fun _ => hc, fun h => absurd h (by omega)⟩
  isplitl [H13]
  · iexists _; isplitr; swap; · iexact H13
    ipureintro; trivial
  iexists _; isplitr; swap; · iexact H14
  ipureintro; trivial

set_option maxHeartbeats 8000000 in
/-- A point that is neither the first nor the last of the sixteen. -/
theorem sound_middle (c : Dev nD) (t : Fin cfg0.N) (ht : t.val % 16 ≠ 0) (ht2 : t.val % 16 ≠ 15) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, before0_5, before0_6, before0_7, before0_8, before0_9, before0_10, before0_11, after0_0, after0_1, after0_2, after0_3, after0_4, after0_5, after0_6, after0_7, after0_8, after0_9, after0_10, after0_11]
  unfold Inv
  iintro ⟨⟨⟨%h, %hh, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%Y12, %hY12, H12⟩, ⟨%Y13, %hY13, H13⟩, ⟨%Y14, %hY14, H14⟩⟩
  obtain rfl : h = scrRow m c t.val := hh (by omega)
  have hc := cols_put m c t Y12 (found_cols m c t Y12 hY12)
  unfold mixAt at hc
  rw [pt_val] at hc
  iapply (body_middle c (grid0.coords t) (by rw [cond1_iff]; omega) (by rw [cond2_iff]; omega) Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [Hs]; · iexact Hs
  iintro ⟨H0, H1, H2, H3, H4, H5, H6, H7, H8, H9, H10, H11, H12, H13, H14, Hs⟩
  isplitl [Hs Hg]
  · isplitl [Hs]
    · iexists _; isplitr; swap; · iexact Hs
      ipureintro
      intro _
      exact scrRow_pred m c (t.val + 1) (by omega)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists _; isplitr; swap; · iexact H12
    ipureintro
    exact ⟨fun _ => hc, fun h => absurd h (by omega)⟩
  isplitl [H13]
  · iexists _; isplitr; swap; · iexact H13
    ipureintro; trivial
  iexists _; isplitr; swap; · iexact H14
  ipureintro; trivial

set_option maxHeartbeats 8000000 in
/-- The last of the sixteen points. -/
theorem sound_last (c : Dev nD) (t : Fin cfg0.N) (ht : t.val % 16 = 15) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, before0_5, before0_6, before0_7, before0_8, before0_9, before0_10, before0_11, after0_0, after0_1, after0_2, after0_3, after0_4, after0_5, after0_6, after0_7, after0_8, after0_9, after0_10, after0_11]
  unfold Inv
  iintro ⟨⟨⟨%h, %hh, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%Y12, %hY12, H12⟩, ⟨%Y13, %hY13, H13⟩, ⟨%Y14, %hY14, H14⟩⟩
  obtain rfl : h = scrRow m c t.val := hh (by omega)
  have hc := cols_put m c t Y12 (found_cols m c t Y12 hY12)
  unfold mixAt at hc
  rw [pt_val] at hc
  iapply (body_last c (grid0.coords t) (by rw [cond1_iff]; omega) (by rw [cond2_iff]; omega) Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [Hs]; · iexact Hs
  iintro ⟨H0, H1, H2, H3, H4, H5, H6, H7, H8, H9, H10, H11, ⟨%X, %hX, H12⟩, ⟨%X13, H13⟩, ⟨%X14, H14⟩, Hs⟩
  isplitl [Hs Hg]
  · isplitl [Hs]
    · iexists _; isplitr; swap; · iexact Hs
      ipureintro
      intro _
      exact absurd (show (t.val + 1) % 16 = 0 by omega) (by assumption)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists _; isplitr; swap; · iexact H12
    ipureintro
    refine ⟨fun h => absurd h (by omega), fun _ => ⟨_, ?_, hX⟩⟩
    rw [show t.val % 16 + 1 = 16 by omega] at hc
    exact hc
  isplitl [H13]
  · iexists _; isplitr; swap; · iexact H13
    ipureintro; trivial
  iexists _; isplitr; swap; · iexact H14
  ipureintro; trivial

theorem defs₀_row (t : Fin cfg0.N) : defs₀ (F := F) .tc cfg0.body (cfg0.bodyArgs t (cfg0.slots t)) = bodyAt0 t := by
  unfold defs₀; rw [Defs.onTc_tc]

/-- The body at any point. -/
theorem sound_body (c : Dev nD) (t : Fin cfg0.N) :
    bodyPre m c t ⊢ wp frame (wpE (defs₀ (F := F)) Variants.none (c : Thread nD τ) none) Set.univ (bodyAt0 t) (fun _ => bodyPost m c t) := by
  by_cases h0 : t.val % 16 = 0
  · exact sound_first m c t h0
  by_cases h1 : t.val % 16 = 15
  · exact sound_last m c t h1
  exact sound_middle m c t h0 h1

/-- The body obligation at every point. -/
theorem body_obligation (c : Dev nD) : BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-- The region's scratch and register at entry are the invariant before the first point. -/
theorem inv_in (c : Dev nD) : Pipeline.ΦA spec0 c ⊢ Inv m c 0 := by
  unfold Pipeline.ΦA Inv
  rw [scopedRest0_eq]
  iintro ⟨⟨%f, Hs⟩, Hg⟩
  isplitl [Hs]
  · iexists _; isplitr; swap
    · rw [owns_whole_eq]; iexists f; isplitr; · ipureintro; rfl
      iexact Hs
    ipureintro; intro h; exact absurd rfl h
  iexact Hg

/-- And the invariant after the last point gives them back. -/
theorem inv_out (c : Dev nD) (n : ℕ) : Inv m c n ⊢ Pipeline.ΦA spec0 c := by
  unfold Pipeline.ΦA Inv
  rw [scopedRest0_eq]
  iintro ⟨⟨%h, -, Hs⟩, Hg⟩
  isplitl [Hs]
  · ihave Hs := (Entails.of_eq (owns_whole_eq (c : Thread nD τ) cc0_scratch0 fullShare h)) $$ Hs
    icases Hs with ⟨%g0, -, Hs⟩
    iexists _; iexact Hs
  iexact Hg

set_option backward.isDefEq.respectTransparency.types false in
/-- The run of the whole program: every execution ends, each result at something the relation allows, every semaphore counter at
    zero. -/
theorem run_main : θ_run defs (onTc (τ := τ) (main (F := F))) (s₀ m ρ)
    (fun r => Pipeline.RDat.FramePost cfg0 (rdats m) (V m) r ∧ r.2.sem = fun _ => 0) :=
  Pipeline.RDat.θ_run_frame_track (Q' := _) cfgs (0 : Fin 1) launch0 defs₀ Variants.none (rdats m) m ρ main
    (hbody := fun c => (body_obligation m c).toRRel) (hshare := fun c w => (dats m 0 c).share_full (fun _ => rfl) w) (howed := fun _ _ => rfl)
    (V := V m) (hmain := hmain m Variants.none) (hA := A_eq m) (hin := fun c => inv_in m c) (hout := fun c => inv_out m c _)

/-- The frame: every execution ends with the arguments as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨((h.1.arr_in c 0 rfl).trans (A_eq m c 0)).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1.arr_in c 4 rfl).trans (A_eq m c 4)).trans (V_main_arg4 m c),
      ((h.1.arr_in c 5 rfl).trans (A_eq m c 5)).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1.arr_in c 8 rfl).trans (A_eq m c 8)).trans (V_main_arg8 m c),
      ((h.1.arr_in c 9 rfl).trans (A_eq m c 9)).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c)⟩, h.2⟩) (run_main m ρ)

end Cert.Kernel4Ideal.Hand
end
-- ==== Proof.Val4.Math.lean ====
module

public import Idealize.ShloMosaic.Lib.Pointwise

@[expose] public section

noncomputable section

namespace Cert.OutProj

open Idealize.ShloMosaic

/-- A row of attention over the root of its mean square, scaled. -/
def normRow (a g : Fin 2048 → EReal) (k : Fin 2048) : EReal :=
  a k * Ideal.rsqrt (Ideal.div (∑ l : Fin 2048, a l * a l) (Ideal.ofBits .f32 0x45000000#32) + Ideal.ofBits .f32 0x358637BD#32) * g k

/-- That row beside the row of the state-space branch. -/
def joined (a g s : Fin 2048 → EReal) (k : Fin 4096) : EReal :=
  if h : k.val < 2048 then normRow a g ⟨k.val, h⟩ else s ⟨k.val - 2048, by omega⟩

/-- The scaled residual plus the gated projection of the joined row. -/
def mixedRow (a g s : Fin 2048 → EReal) (w : Fin 4096 → Fin 4096 → EReal) (x t : Fin 4096 → EReal) (e : Fin 4096) : EReal :=
  Ideal.ofBits .f32 0x3F9837F0#32 * x e + (1 + t e) * ∑ k : Fin 4096, joined a g s k * w k e

/-- The mean of a row. -/
def mean (v : Fin 4096 → EReal) : EReal := Ideal.div (∑ k : Fin 4096, v k) (Ideal.ofBits .f32 0x45800000#32)

/-- A row layer-normalized. -/
def lnRow (v g b : Fin 4096 → EReal) (e : Fin 4096) : EReal :=
  (v e - mean v) * Ideal.rsqrt (mean (fun k => (v k - mean v) * (v k - mean v)) + Ideal.ofBits .f32 0x3727C5AC#32) * g e + b e

/-- The finished rows of a batch of sequences. -/
def outCol (a : (Shape.mk 3 ![2, 8192, 2048]).Idx → EReal) (g : (Shape.mk 2 ![1, 2048]).Idx → EReal) (s : (Shape.mk 3 ![2, 8192, 2048]).Idx → EReal)
    (w : (Shape.mk 3 ![1, 4096, 4096]).Idx → EReal) (x : (Shape.mk 3 ![2, 8192, 4096]).Idx → EReal) (t : (Shape.mk 3 ![2, 1, 4096]).Idx → EReal)
    (lg lb : (Shape.mk 2 ![1, 4096]).Idx → EReal) (q : Fin 2) (p : Fin 8192) (e : Fin 4096) : EReal :=
  lnRow (mixedRow (fun k => a (ix3 q p k)) (fun k => g (ix2 0 k)) (fun k => s (ix3 q p k)) (fun k l => w (ix3 0 k l)) (fun l => x (ix3 q p l)) (fun l => t (ix3 q 0 l)))
    (fun l => lg (ix2 0 l)) (fun l => lb (ix2 0 l)) e

/-- The array of those. -/
def out (a : (Shape.mk 3 ![2, 8192, 2048]).Idx → EReal) (g : (Shape.mk 2 ![1, 2048]).Idx → EReal) (s : (Shape.mk 3 ![2, 8192, 2048]).Idx → EReal)
    (w : (Shape.mk 3 ![1, 4096, 4096]).Idx → EReal) (x : (Shape.mk 3 ![2, 8192, 4096]).Idx → EReal) (t : (Shape.mk 3 ![2, 1, 4096]).Idx → EReal)
    (lg lb : (Shape.mk 2 ![1, 4096]).Idx → EReal) (i : (Shape.mk 3 ![2, 8192, 4096]).Idx) : EReal :=
  outCol a g s w x t lg lb (i 0) (i 1) (i 2)

end Cert.OutProj
end
-- ==== Proof.Val4.Pay.lean ====
module

public import proofs.«01_k».proof.Proof.K4I.Body
public import proofs.«01_k».proof.Proof.Val4.Math

@[expose] public section

set_option maxRecDepth 16384

noncomputable section

namespace Cert.Kernel4Ideal.Hand

open Cert.Kernel4Ideal Cert.Kernel4Ideal.Gen Cert.OutProj
open Idealize.ShloMosaic Idealize.ShloMosaic.VecWindow

/-- What the first loop stores, at an index: the row of attention normalized. -/
theorem pay1_apply (a : Vec Ideal S1x128x2048 .f32) (g : Vec Ideal S1x2048 .f32) (r : Fin 128) (k : Fin 2048) :
    k0_pay1 a g (ix2 r k) = normRow (fun k => a (ix3 0 r k)) (fun k => g (ix2 0 k)) k := by
  pointwise [k0_pay1, normRow]

theorem pay2_apply (s : Vec Ideal S1x512x2048 .bf16) (r : Fin 512) (k : Fin 2048) : k0_pay2 s (ix2 r k) = s (ix3 0 r k) := by
  pointwise [k0_pay2]

/-- What a point stores, at an index: the scaled residual plus the gated projection. -/
theorem pay3_apply (h : Vec Ideal S512x4096 .bf16) (w : Vec Ideal S4096x256 .bf16) (x : Vec Ideal S1x512x256 .f32) (t : Vec Ideal S1x1x256 .f32)
    (r : Fin 512) (e : Fin 256) :
    k0_pay3 h w x t (ix3 0 r e) = Ideal.ofBits .f32 0x3F9837F0#32 * x (ix3 0 r e) + (1 + t (ix3 0 0 e)) * ∑ k : Fin 4096, h (ix2 r k) * w (ix2 k e) := by
  pointwise [k0_pay3]

/-- What the second loop stores, at an index: the row layer-normalized. -/
theorem pay10_apply (v : Vec Ideal S1x128x4096 .f32) (g b : Vec Ideal S1x4096 .f32) (r : Fin 128) (e : Fin 4096) :
    k0_pay10 v g b (ix3 0 r e) = lnRow (fun k => v (ix3 0 r k)) (fun k => g (ix2 0 k)) (fun k => b (ix2 0 k)) e := by
  pointwise [k0_pay10, k0_pay9, lnRow, mean]

/-- The scratch's rows, at an index. -/
theorem scrAt_apply (a : Vec Ideal S1x512x2048 .f32) (g : Vec Ideal S1x2048 .f32) (s : Vec Ideal S1x512x2048 .bf16) (r : Fin 512) (k : Fin 4096) :
    scrAt a g s (ix2 r k) = joined (fun k => a (ix3 0 r k)) (fun k => g (ix2 0 k)) (fun k => s (ix3 0 r k)) k := by
  unfold scrAt joined
  by_cases h : k.val < 2048
  · rw [dif_pos h, dif_pos (show ((ix2 r k) 1).val < 2048 from h)]
    unfold nrm
    have e : ∀ l : Fin 2048, window a ![0, 128 * (r.val / 128), 0] S1x128x2048.size (inb_a ⟨r.val / 128, by omega⟩) (ix3 0 ⟨r.val % 128, Nat.mod_lt _ (by decide)⟩ l) = a (ix3 0 r l) := fun l => by
      refine congrArg a (funext fun i => Fin.ext ?_)
      fin_cases i
      · rfl
      · show 128 * (r.val / 128) + 1 * (r.val % 128) = r.val; omega
      · show 0 + 1 * l.val = l.val; omega
    refine Eq.trans (congrArg _ (funext fun i => ?_)) ((pay1_apply _ g ⟨r.val % 128, Nat.mod_lt _ (by decide)⟩ ⟨k.val, h⟩).trans ?_)
    · fin_cases i <;> rfl
    · exact congrArg (fun f => normRow f _ _) (funext e)
  · rw [dif_neg h, dif_neg (show ¬ ((ix2 r k) 1).val < 2048 from h)]
    refine Eq.trans (congrArg _ (funext fun i => ?_)) (pay2_apply s r ⟨k.val - 2048, by omega⟩)
    fin_cases i <;> rfl

end Cert.Kernel4Ideal.Hand
end
-- ==== Proof.Val4.Prep.lean ====
module

public import proofs.«01_k».proof.Proof.Gen.Kernel4Ideal.Frame
public import Idealize.ShloMosaic.Lib.Claim
public import Idealize.ShloMosaic.Lib.Pointwise

@[expose] public section

set_option maxRecDepth 16384

noncomputable section

namespace Cert.Kernel4Ideal.Hand

open Cert.Kernel4Ideal Cert.Kernel4Ideal.Gen
open Idealize.ShloMosaic Idealize.ShloMosaic.TcCoe

/-! ## The arrays the kernel is called with -/

/-- The rows of the state-space branch. -/
def ssmOf (s : FVec Ideal S2x8192x2048 .f32) : FVec Ideal S2x8192x2048 .bf16 := truncf .bf16 s bitsLt_bf16_f32

/-- The weights. -/
def weightsOf (w : FVec Ideal S1x4096x4096 .f32) : FVec Ideal S4096x4096 .bf16 :=
  truncf .bf16 (shapeCast S4096x4096 w shapeCasts_S1x4096x4096_S4096x4096 : FVec Ideal S4096x4096 .f32) bitsLt_bf16_f32

/-- The attention's scales. -/
def scalesOf (g : FVec Ideal S1x2048 .f32) : FVec Ideal S1x2048 .f32 :=
  shapeCast S1x2048 (shapeCast S2048 g shapeCasts_S1x2048_S2048 : FVec Ideal S2048 .f32) shapeCasts_S2048_S1x2048

/-- The scales or offsets of the layer normalization. -/
def lineOf (b : FVec Ideal S1x4096 .f32) : FVec Ideal S1x4096 .f32 :=
  shapeCast S1x4096 (shapeCast S4096 b shapeCasts_S1x4096_S4096 : FVec Ideal S4096 .f32) shapeCasts_S4096_S1x4096

variable (m : (ℓ : Loc nD τ sig) → Buf (Elt Ideal) ℓ) (c : Dev nD)

theorem V_scales : V m c main_v17 = scalesOf (m ((c : Thread nD τ).loc main_arg1)) := by
  entry_read
  rfl

theorem V_ssm : V m c main_v12 = ssmOf (m ((c : Thread nD τ).loc main_arg2)) := by
  entry_read
  rfl

theorem V_weights : V m c main_v14 = weightsOf (m ((c : Thread nD τ).loc main_arg3)) := by
  entry_read
  rfl

theorem V_lng : V m c main_v18 = lineOf (m ((c : Thread nD τ).loc main_arg6)) := by
  entry_read
  rfl

theorem V_lnb : V m c main_v19 = lineOf (m ((c : Thread nD τ).loc main_arg7)) := by
  entry_read
  rfl

theorem ssmOf_apply (s : FVec Ideal S2x8192x2048 .f32) (q : Fin 2) (p : Fin 8192) (k : Fin 2048) : ssmOf s (ix3 q p k) = s (ix3 q p k) := by
  pointwise [ssmOf]

theorem weightsOf_apply (w : FVec Ideal S1x4096x4096 .f32) (k e : Fin 4096) : weightsOf w (ix2 k e) = w (ix3 0 k e) := by
  pointwise [weightsOf]

theorem scalesOf_apply (g : FVec Ideal S1x2048 .f32) (k : Fin 2048) : scalesOf g (ix2 0 k) = g (ix2 0 k) := by
  pointwise [scalesOf]

theorem lineOf_apply (b : FVec Ideal S1x4096 .f32) (k : Fin 4096) : lineOf b (ix2 0 k) = b (ix2 0 k) := by
  pointwise [lineOf]

end Cert.Kernel4Ideal.Hand
end
-- ==== Proof.Val4.Blocks.lean ====
module

public import proofs.«01_k».proof.Proof.K4I.Run
public import proofs.«01_k».proof.Proof.Val4.Pay
public import proofs.«01_k».proof.Proof.Val4.Prep
public import Idealize.ShloMosaic.Lib.Pipeline.ValueKit

@[expose] public section

set_option maxRecDepth 16384

noncomputable section

namespace Cert.Kernel4Ideal.Hand

open Cert.Kernel4Ideal Cert.Kernel4Ideal.Gen Cert.OutProj
open Idealize.ShloMosaic Idealize.ShloMosaic.TcCoe Idealize.ShloMosaic.VecWindow

variable (m : (ℓ : Loc nD τ sig) → Buf (Elt Ideal) ℓ) (c : Dev nD)

/-! ## The blocks a grid point reads, at coordinates -/

/-- A grid point's sequence. -/
abbrev seqOf (t : Fin cfg0.N) : Fin 2 := ⟨t.val / 256, Nat.div_lt_of_lt_mul t.isLt⟩
/-- The position in its sequence of row `r` of a grid point's block. -/
abbrev posOf (t : Fin cfg0.N) (r : Fin 512) : Fin 8192 := ⟨t.val / 16 % 16 * 512 + r.val, by omega⟩
/-- Column `e` of a grid point's block of columns. -/
abbrev colOf (t : Fin cfg0.N) (e : Fin 256) : Fin 4096 := ⟨t.val % 16 * 256 + e.val, by omega⟩

theorem index_attn : ∀ t : Fin cfg0.N, win0_0.index t = ![t.val / 256, t.val / 16 % 16, 0] := (by decide +kernel : ∀ t : Fin grid0.N, _)
theorem index_scales : ∀ t : Fin cfg0.N, win0_1.index t = ![0, 0] := (by decide +kernel : ∀ t : Fin grid0.N, _)
theorem index_ssm : ∀ t : Fin cfg0.N, win0_2.index t = ![t.val / 256, t.val / 16 % 16, 0] := (by decide +kernel : ∀ t : Fin grid0.N, _)
theorem index_weights : ∀ t : Fin cfg0.N, win0_3.index t = ![0, t.val % 16] := (by decide +kernel : ∀ t : Fin grid0.N, _)
theorem index_x : ∀ t : Fin cfg0.N, win0_4.index t = ![t.val / 256, t.val / 16 % 16, t.val % 16] := (by decide +kernel : ∀ t : Fin grid0.N, _)
theorem index_gate : ∀ t : Fin cfg0.N, win0_5.index t = ![t.val / 256, 0, t.val % 16] := (by decide +kernel : ∀ t : Fin grid0.N, _)
theorem index_lng : ∀ t : Fin cfg0.N, win0_6.index t = ![0, 0] := (by decide +kernel : ∀ t : Fin grid0.N, _)
theorem index_lnb : ∀ t : Fin cfg0.N, win0_7.index t = ![0, 0] := (by decide +kernel : ∀ t : Fin grid0.N, _)
theorem index_out : ∀ t : Fin cfg0.N, win0_12.index t = ![t.val / 256, t.val / 16 % 16, 0] := (by decide +kernel : ∀ t : Fin grid0.N, _)

theorem attn_block (t : Fin cfg0.N) (r : Fin 512) (k : Fin 2048) : iblk m c 0 t (ix3 0 r k) = V m c main_arg0 (ix3 (seqOf t) (posOf t r) k) := by
  blk_simp [iblk]
  blk_ext [index_attn t]

theorem ssm_block (t : Fin cfg0.N) (r : Fin 512) (k : Fin 2048) : iblk m c 2 t (ix3 0 r k) = V m c main_v12 (ix3 (seqOf t) (posOf t r) k) := by
  blk_simp [iblk]
  blk_ext [index_ssm t]

theorem weights_block (t : Fin cfg0.N) (k : Fin 4096) (e : Fin 256) : iblk m c 3 t (ix2 k e) = V m c main_v14 (ix2 k (colOf t e)) := by
  blk_simp [iblk]
  blk_ext [index_weights t]

theorem x_block (t : Fin cfg0.N) (r : Fin 512) (e : Fin 256) : iblk m c 4 t (ix3 0 r e) = V m c main_arg4 (ix3 (seqOf t) (posOf t r) (colOf t e)) := by
  blk_simp [iblk]
  blk_ext [index_x t]

theorem gate_block (t : Fin cfg0.N) (e : Fin 256) : iblk m c 5 t (ix3 0 0 e) = V m c main_arg5 (ix3 (seqOf t) 0 (colOf t e)) := by
  blk_simp [iblk]
  blk_ext [index_gate t]

theorem emb_scales (t : Fin cfg0.N) (l : Fin 2048) : (win0_1.blk t).view.emb (ix2 0 l) = ix2 0 l := by
  blk_ext [index_scales t]

theorem scales_read (A : FVec Ideal S1x2048 .f32) (t : Fin cfg0.N) (l : Fin 2048) :
    (win0_1.blk t).view.read (Elt Ideal) A (ix2 0 l) = A (ix2 0 l) := by
  blk_simp
  rw [emb_scales]

theorem scales_block (t : Fin cfg0.N) (l : Fin 2048) : iblk m c 1 t (ix2 0 l) = V m c main_v17 (ix2 0 l) :=
  scales_read (V m c main_v17) t l

theorem emb_lng (t : Fin cfg0.N) (l : Fin 4096) : (win0_6.blk t).view.emb (ix2 0 l) = ix2 0 l := by
  blk_ext [index_lng t]

theorem lng_read (A : FVec Ideal S1x4096 .f32) (t : Fin cfg0.N) (l : Fin 4096) :
    (win0_6.blk t).view.read (Elt Ideal) A (ix2 0 l) = A (ix2 0 l) := by
  blk_simp
  rw [emb_lng]

theorem lng_block (t : Fin cfg0.N) (l : Fin 4096) : iblk m c 6 t (ix2 0 l) = V m c main_v18 (ix2 0 l) :=
  lng_read (V m c main_v18) t l

theorem emb_lnb (t : Fin cfg0.N) (l : Fin 4096) : (win0_7.blk t).view.emb (ix2 0 l) = ix2 0 l := by
  blk_ext [index_lnb t]

theorem lnb_read (A : FVec Ideal S1x4096 .f32) (t : Fin cfg0.N) (l : Fin 4096) :
    (win0_7.blk t).view.read (Elt Ideal) A (ix2 0 l) = A (ix2 0 l) := by
  blk_simp
  rw [emb_lnb]

theorem lnb_block (t : Fin cfg0.N) (l : Fin 4096) : iblk m c 7 t (ix2 0 l) = V m c main_v19 (ix2 0 l) :=
  lnb_read (V m c main_v19) t l

/-! ## What the points leave in the result's array -/

/-- The projected and gated rows, at an index. -/
def midCol (q : Fin 2) (p : Fin 8192) (e : Fin 4096) : EReal :=
  mixedRow (fun k => m ((c : Thread nD τ).loc main_arg0) (ix3 q p k)) (fun k => m ((c : Thread nD τ).loc main_arg1) (ix2 0 k))
    (fun k => m ((c : Thread nD τ).loc main_arg2) (ix3 q p k)) (fun k l => m ((c : Thread nD τ).loc main_arg3) (ix3 0 k l))
    (fun l => m ((c : Thread nD τ).loc main_arg4) (ix3 q p l)) (fun l => m ((c : Thread nD τ).loc main_arg5) (ix3 q 0 l)) e

/-- The finished rows of the arguments, at an index. -/
def finalCol (q : Fin 2) (p : Fin 8192) (e : Fin 4096) : EReal :=
  outCol (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) q p e

/-- The array of those. -/
def final (i : S2x8192x4096.Idx) : EReal := finalCol m c (i 0) (i 1) (i 2)

/-- The scratch's rows are the joined rows of the arguments. -/
theorem scrRow_apply (t : Fin cfg0.N) (r : Fin 512) (k : Fin 4096) : scrRow m c t.val (ix2 r k)
    = joined (fun k => m ((c : Thread nD τ).loc main_arg0) (ix3 (seqOf t) (posOf t r) k)) (fun k => m ((c : Thread nD τ).loc main_arg1) (ix2 0 k))
        (fun k => m ((c : Thread nD τ).loc main_arg2) (ix3 (seqOf t) (posOf t r) k)) k := by
  have ht : t.val < 512 := t.isLt
  have hv : (rowPt t.val).val = t.val / 16 * 16 := by show t.val / 16 * 16 % 512 = _; omega
  have hs : seqOf (rowPt t.val) = seqOf t := Fin.ext (by show (rowPt t.val).val / 256 = t.val / 256; omega)
  have hp : posOf (rowPt t.val) r = posOf t r := Fin.ext (by show (rowPt t.val).val / 16 % 16 * 512 + r.val = t.val / 16 % 16 * 512 + r.val; omega)
  unfold scrRow
  rw [scrAt_apply]
  simp only [attn_block, scales_block, ssm_block]
  rw [hs, hp, V_main_arg0, V_scales, V_ssm]
  simp only [scalesOf_apply, ssmOf_apply]

/-- What a point stores is its block of the projected and gated rows. -/
theorem mixAt_apply (t : Fin cfg0.N) (r : Fin 512) (e : Fin 256) : mixAt m c t.val (ix3 0 r e) = midCol m c (seqOf t) (posOf t r) (colOf t e) := by
  unfold mixAt
  rw [pt_val, pay3_apply]
  simp only [scrRow_apply, weights_block, x_block, gate_block]
  rw [V_main_arg4, V_main_arg5, V_weights]
  simp only [weightsOf_apply]
  rfl

/-- Sixteen blocks of columns make the projected and gated rows. -/
theorem cols_apply (t : Fin cfg0.N) (X : Vec Ideal S1x512x4096 .f32) (hX : Cols m c t.val 16 X) (r : Fin 512) (k : Fin 4096) :
    X (ix3 0 r k) = midCol m c (seqOf t) (posOf t r) k := by
  have ht : t.val < 512 := t.isLt
  have h := congrFun (hX ⟨k.val / 256, by omega⟩ (show k.val / 256 < 16 by omega)) (ix3 0 r ⟨k.val % 256, Nat.mod_lt _ (by decide)⟩)
  have hl : window X ![0, 0, 256 * (k.val / 256)] S1x512x256.size (inb_j ⟨k.val / 256, by omega⟩) (ix3 0 r ⟨k.val % 256, Nat.mod_lt _ (by decide)⟩) = X (ix3 0 r k) := by
    refine congrArg X (funext fun i => Fin.ext ?_)
    fin_cases i
    · rfl
    · show 0 + 1 * r.val = r.val; omega
    · show 256 * (k.val / 256) + 1 * (k.val % 256) = k.val; omega
  have hu : t.val / 16 * 16 + k.val / 256 < cfg0.N := show _ < 512 by omega
  have hr := mixAt_apply m c ⟨t.val / 16 * 16 + k.val / 256, hu⟩ r ⟨k.val % 256, Nat.mod_lt _ (by decide)⟩
  have hs : seqOf ⟨t.val / 16 * 16 + k.val / 256, hu⟩ = seqOf t := Fin.ext (by show (t.val / 16 * 16 + k.val / 256) / 256 = t.val / 256; omega)
  have hp : posOf ⟨t.val / 16 * 16 + k.val / 256, hu⟩ r = posOf t r :=
    Fin.ext (by show (t.val / 16 * 16 + k.val / 256) / 16 % 16 * 512 + r.val = t.val / 16 % 16 * 512 + r.val; omega)
  have hc : colOf ⟨t.val / 16 * 16 + k.val / 256, hu⟩ ⟨k.val % 256, Nat.mod_lt _ (by decide)⟩ = k :=
    Fin.ext (by show (t.val / 16 * 16 + k.val / 256) % 16 * 256 + k.val % 256 = k.val; omega)
  rw [hs, hp, hc] at hr
  exact (hl.symm.trans h).trans hr

/-- What the last of sixteen points leaves is the finished rows. -/
theorem left_apply (t : Fin cfg0.N) (ht : t.val % 16 = 15) (X : Vec Ideal S1x512x4096 .f32) (hX : Left m c t X) (r : Fin 512) (e : Fin 4096) :
    X (ix3 0 r e) = finalCol m c (seqOf t) (posOf t r) e := by
  obtain ⟨X0, hc, hq⟩ := hX.2 ht
  have e' : ∀ (Y : Vec Ideal S1x512x4096 .f32) (k : Fin 4096),
      window Y ![0, 128 * (r.val / 128), 0] S1x128x4096.size (inb_x ⟨r.val / 128, by omega⟩) (ix3 0 ⟨r.val % 128, Nat.mod_lt _ (by decide)⟩ k) = Y (ix3 0 r k) := fun Y k => by
    refine congrArg Y (funext fun i => Fin.ext ?_)
    fin_cases i
    · rfl
    · show 128 * (r.val / 128) + 1 * (r.val % 128) = r.val; omega
    · show 0 + 1 * k.val = k.val; omega
  have h := congrFun (hq ⟨r.val / 128, by omega⟩) (ix3 0 ⟨r.val % 128, Nat.mod_lt _ (by decide)⟩ e)
  rw [pay10_apply] at h
  refine ((e' X e).symm.trans h).trans ?_
  have hrow : (fun k => window X0 ![0, 128 * (r.val / 128), 0] S1x128x4096.size (inb_x ⟨r.val / 128, by omega⟩) (ix3 0 ⟨r.val % 128, Nat.mod_lt _ (by decide)⟩ k))
      = midCol m c (seqOf t) (posOf t r) := funext fun k => (e' X0 k).trans (cols_apply m c t X0 hc r k)
  refine (congrArg (fun f => lnRow f _ _ e) hrow).trans ?_
  simp only [lng_block, lnb_block]
  rw [V_lng, V_lnb]
  simp only [lineOf_apply]
  rfl

end Cert.Kernel4Ideal.Hand
end
-- ==== Proof.Val4.Final.lean ====
module

public import proofs.«01_k».proof.Proof.Val4.Blocks
public import Idealize.ShloMosaic.Lib.Pipeline.ArrRel
public import Idealize.ShloMosaic.Lib.Claim

@[expose] public section

set_option maxRecDepth 16384

noncomputable section

namespace Cert.Kernel4Ideal.Hand

open Cert.Kernel4Ideal Cert.Kernel4Ideal.Gen Cert.OutProj
open Idealize.ShloMosaic Idealize.ShloMosaic.TcCoe Idealize.SL.Sem

variable (m : (ℓ : Loc nD τ sig) → Buf (Elt Ideal) ℓ) (c : Dev nD)

/-- The result's array at the end, of any contents the points may leave. -/
theorem final_out (after : (w : Fin cfg0.W) → Fin cfg0.N → (cfg0.win w).block.Idx → Elt Ideal (cfg0.win w).elt)
    (hl : ∀ (w : Fin cfg0.W) (u : Fin cfg0.N), (cfg0.win w).flush u = true → (rdats m c).Leaves w u (after w u)) :
    ((rdats m c).withAfter after).arrAt 12 cfg0.N = final m c := by
  refine ((rdats m c).withAfter after).arrAt_eq_of_covers 12 _ (by decide +kernel) fun t hf y => ?_
  have ht : t.val % 16 = 15 := by
    rw [flush12] at hf
    exact of_decide_eq_true hf
  have hL : Left m c t (after 12 t) := (dats m 0 c).toRRel_leaves (fgt := fgt) (Rl := Rl m c) (w := 12) rfl (hl 12 t hf)
  blk_simp
  obtain ⟨z, r, e, rfl⟩ : ∃ (z : Fin 1) (r : Fin 512) (e : Fin 4096), y = ix3 z r e := ⟨y 0, y 1, y 2, eq_ix3 y⟩
  obtain rfl : z = 0 := Subsingleton.elim _ _
  have h : (win0_12.blk t).view.emb (ix3 0 r e) = ix3 (seqOf t) (posOf t r) e := by
    blk_ext [index_out t]
  exact (left_apply m c t ht (after 12 t) hL r e).trans (congrArg (final m c) h).symm

/-- The run with its value: the finished rows, and the arguments as they were. -/
theorem value_run (ρ : Dev nD → PrngReg) :
    θ_run defs (onTc (τ := τ) (main (F := Ideal))) ⟨m, fun _ => 0, ρ⟩ fun r => ∀ c : Dev nD,
      r.2.mem ((c.tc : Thread nD τ).loc main_v20_0)
        = out (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun r h c => ?_) (θ_run_and (run_main m ρ) (frame_run m ρ))
  obtain ⟨after, hl, ha⟩ := h.1.1.exists_exact c
  exact ⟨((ha 12).trans (final_out m c after hl)).trans rfl, h.2.1 c⟩

end Cert.Kernel4Ideal.Hand
end
-- ==== Proof.Val4.Ref.lean ====
module

public import proofs.«01_k».proof.Reference4Ideal
public import proofs.«01_k».proof.Proof.Gen.Reference4Ideal.Run
public import proofs.«01_k».proof.Proof.Val4.Math
public import Idealize.ShloMosaic.Lib.IdealHost

@[expose] public section

set_option maxRecDepth 16384

noncomputable section

namespace Cert.Reference4Ideal.Value

open Cert.Reference4Ideal Cert.Reference4Ideal.Gen Cert.OutProj
open Idealize.ShloMosaic Idealize.ShloMosaic.TcCoe

/-- The normalized attention rows as the reference computes them. -/
def attnN (a : FVec Ideal S2x8192x2048 .f32) (g : FVec Ideal S1x2048 .f32) : FVec Ideal S2x8192x2048 .f32 :=
  mulf (mulf a (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf a a) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32))))))
    (broadcastInDim S2x8192x2048 ![0, 1, 2] bcast_S1x1x2048_S2x8192x2048_0_1_2 (broadcastInDim S1x1x2048 ![2] bcast_S2048_S1x1x2048_2 (shapeCast _ g shapeCasts_S1x2048_S2048)))

/-- Them beside the rows of the state-space branch. -/
def both (n s : FVec Ideal S2x8192x2048 .f32) : FVec Ideal S2x8192x4096 .f32 :=
  concatenate S2x8192x4096 2 [⟨S2x8192x2048, n⟩, ⟨S2x8192x2048, s⟩] concatenates_S2x8192x2048_S2x8192x2048_S2x8192x4096_d2

/-- The scaled residual plus the gated projection. -/
def mixed (h : FVec Ideal S2x8192x4096 .f32) (w : FVec Ideal S1x4096x4096 .f32) (x : FVec Ideal S2x8192x4096 .f32) (t : FVec Ideal S2x1x4096 .f32) : FVec Ideal S2x8192x4096 .f32 :=
  addf (mulf (broadcastInDim S2x8192x4096 ![] bcast_S_S2x8192x4096 (constant S_ .f32 0x3F9837F0#32)) x) (mulf (broadcastInDim S2x8192x4096 ![0, 1, 2] bcast_S2x1x4096_S2x8192x4096_0_1_2 (addf (broadcastInDim S2x1x4096 ![] bcast_S_S2x1x4096 (constant S_ .f32 0x3F800000#32)) t)) (Host.dotGeneral dot_S2x8192x4096_S4096x4096_S2x8192x4096_2_0_01_1_n_n none h (shapeCast _ w shapeCasts_S1x4096x4096_S4096x4096)))

/-- The mean of each row. -/
def means (v : FVec Ideal S2x8192x4096 .f32) : FVec Ideal S2x8192x1 .f32 :=
  Host.divf (broadcastInDim S2x8192x1 ![0, 1] bcast_S2x8192_S2x8192x1_0_1 (Host.reduceAdd v (constant S_ .f32 0x00000000#32) reducesTo_S2x8192x4096_S2x8192_d2 h_S_)) (broadcastInDim S2x8192x1 ![] bcast_S_S2x8192x1 (constant S_ .f32 0x45800000#32))

/-- Each row less its mean. -/
def centred (v : FVec Ideal S2x8192x4096 .f32) : FVec Ideal S2x8192x4096 .f32 :=
  subf v (broadcastInDim S2x8192x4096 ![0, 1, 2] bcast_S2x8192x1_S2x8192x4096_0_1_2 (means v))

/-- The rows layer-normalized. -/
def layered (v : FVec Ideal S2x8192x4096 .f32) (g b : FVec Ideal S1x4096 .f32) : FVec Ideal S2x8192x4096 .f32 :=
  addf (mulf (mulf (centred v) (broadcastInDim S2x8192x4096 ![0, 1, 2] bcast_S2x8192x1_S2x8192x4096_0_1_2 (Host.rsqrt (addf (means (mulf (centred v) (centred v))) (broadcastInDim S2x8192x1 ![] bcast_S_S2x8192x1 (constant S_ .f32 0x3727C5AC#32))))))
      (broadcastInDim S2x8192x4096 ![0, 1, 2] bcast_S1x1x4096_S2x8192x4096_0_1_2 (broadcastInDim S1x1x4096 ![2] bcast_S4096_S1x1x4096_2 (shapeCast _ g shapeCasts_S1x4096_S4096))))
    (broadcastInDim S2x8192x4096 ![0, 1, 2] bcast_S1x1x4096_S2x8192x4096_0_1_2 (broadcastInDim S1x1x4096 ![2] bcast_S4096_S1x1x4096_2 (shapeCast _ b shapeCasts_S1x4096_S4096)))

theorem attnN_apply (a : FVec Ideal S2x8192x2048 .f32) (g : FVec Ideal S1x2048 .f32) (q : Fin 2) (p : Fin 8192) (k : Fin 2048) :
    attnN a g (ix3 q p k) = normRow (fun k => a (ix3 q p k)) (fun k => g (ix2 0 k)) k := by
  pointwise [attnN, normRow]

theorem both_apply (n s : FVec Ideal S2x8192x2048 .f32) (q : Fin 2) (p : Fin 8192) (k : Fin 4096) :
    both n s (ix3 q p k) = if h : k.val < 2048 then n (ix3 q p ⟨k.val, h⟩) else s (ix3 q p ⟨k.val - 2048, by omega⟩) := by
  pointwise [both]

theorem mixed_apply (h : FVec Ideal S2x8192x4096 .f32) (w : FVec Ideal S1x4096x4096 .f32) (x : FVec Ideal S2x8192x4096 .f32) (t : FVec Ideal S2x1x4096 .f32)
    (q : Fin 2) (p : Fin 8192) (e : Fin 4096) :
    mixed h w x t (ix3 q p e) = Ideal.ofBits .f32 0x3F9837F0#32 * x (ix3 q p e) + (1 + t (ix3 q 0 e)) * ∑ k : Fin 4096, h (ix3 q p k) * w (ix3 0 k e) := by
  pointwise [mixed]

theorem layered_apply (v : FVec Ideal S2x8192x4096 .f32) (g b : FVec Ideal S1x4096 .f32) (q : Fin 2) (p : Fin 8192) (e : Fin 4096) :
    layered v g b (ix3 q p e) = lnRow (fun k => v (ix3 q p k)) (fun k => g (ix2 0 k)) (fun k => b (ix2 0 k)) e := by
  pointwise [layered, centred, means, lnRow, mean]

/-- The reference's result is the finished rows. -/
theorem whole_eq (a : FVec Ideal S2x8192x2048 .f32) (g : FVec Ideal S1x2048 .f32) (s : FVec Ideal S2x8192x2048 .f32) (w : FVec Ideal S1x4096x4096 .f32)
    (x : FVec Ideal S2x8192x4096 .f32) (t : FVec Ideal S2x1x4096 .f32) (lg lb : FVec Ideal S1x4096 .f32) :
    layered (mixed (both (attnN a g) s) w x t) lg lb = out a g s w x t lg lb := by
  funext i
  obtain ⟨q, p, e, rfl⟩ : ∃ (q : Fin 2) (p : Fin 8192) (e : Fin 4096), i = ix3 q p e := ⟨i 0, i 1, i 2, eq_ix3 i⟩
  rw [layered_apply]
  simp only [mixed_apply, both_apply, attnN_apply]
  rfl

theorem res_eq (m : (ℓ : Loc nD τ sig) → Buf (Elt Ideal) ℓ) (c : Dev nD) :
    res_main_v49 (F := Ideal) m c = out (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) :=
  Eq.trans (by unfold res_main_v49; rfl) (whole_eq _ _ _ _ _ _ _ _)

end Cert.Reference4Ideal.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Loops
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Loops
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.K.Run
public import proofs.«01_k».proof.Proof.KI.Run
public import proofs.«01_k».proof.Proof.K2I.Run
public import proofs.«01_k».proof.Proof.Val.Tail
public import proofs.«01_k».proof.Proof.Val.Ref
public import proofs.«01_k».proof.Proof.Val.Pre
public import proofs.«01_k».proof.Proof.Val2.Tail
public import proofs.«01_k».proof.Proof.Val2.Ref
public import proofs.«01_k».proof.Proof.Val3.Tail
public import proofs.«01_k».proof.Proof.Val3.Ref
public import proofs.«01_k».proof.Proof.K4.Run
public import proofs.«01_k».proof.Proof.K4I.Run
public import proofs.«01_k».proof.Proof.Val4.Final
public import proofs.«01_k».proof.Proof.Val4.Ref
public import Idealize.ShloMosaic.Lib.Bf16Pair
public import Idealize.ShloMosaic.Lib.Bf16PairInverse
public import Idealize.ShloMosaic.Lib.Quiescent
public import Idealize.ShloMosaic.Adequacy
public import Idealize.ShloMosaic.Init

@[expose] public section

set_option maxRecDepth 8192

noncomputable section

namespace Cert.Proof

open Idealize.ShloMosaic Idealize.SL.Sem Cert.Attn
open Idealize.ShloMosaic.TcCoe

/-- The reference's first result is the attention, of real queries, keys and running sums. -/
theorem reference_attention (m : (ℓ : Loc Cert.ReferenceIdeal.nD Cert.ReferenceIdeal.τ Cert.ReferenceIdeal.sig) → Buf (Elt Ideal) ℓ) (c : Dev Cert.ReferenceIdeal.nD)
    (Q K : Flat.Idx → ℝ) (V : Flat.Idx → EReal) (C : Sums.Idx → ℝ)
    (hQ : m ((c : Thread Cert.ReferenceIdeal.nD Cert.ReferenceIdeal.τ).loc Cert.ReferenceIdeal.main_arg0) = fun i => (Q i : EReal))
    (hK : m ((c : Thread Cert.ReferenceIdeal.nD Cert.ReferenceIdeal.τ).loc Cert.ReferenceIdeal.main_arg1) = fun i => (K i : EReal))
    (hV : m ((c : Thread Cert.ReferenceIdeal.nD Cert.ReferenceIdeal.τ).loc Cert.ReferenceIdeal.main_arg2) = V)
    (hC : m ((c : Thread Cert.ReferenceIdeal.nD Cert.ReferenceIdeal.τ).loc Cert.ReferenceIdeal.main_arg3) = fun i => (C i : EReal)) :
    Cert.ReferenceIdeal.Value.res_main_v36 (F := Ideal) m c = (fun i : Flat.Idx => attend Q K V C (i 0) (i 1) (i 2)) := by
  rw [Cert.ReferenceIdeal.Value.res_steps, hQ, hK, hV, hC]
  funext i
  obtain ⟨b, p, e, rfl⟩ : ∃ (b : Fin 2) (p : Fin 8192) (e : Fin 2048), i = ix3 b p e := ⟨i 0, i 1, i 2, eq_ix3 i⟩
  exact Cert.ReferenceIdeal.Value.attention_eq Q K C V b p e

/-- The kernel's six results are the reference's, of queries, keys and running sums that are finite. -/
theorem algebra : Cert.algebraic_KernelIdeal_ReferenceIdeal_pre_finite := by
  intro m g m' g' hpre hagree
  have hr := fun c => Cert.Pre_finite.reals _ _ _ _ _ _ _ _ _ (hpre c)
  choose hQ hK hC using hr
  choose Q hQ using hQ
  choose K hK using hK
  choose C hC using hC
  refine ⟨_, _, _, _, _, _, Cert.KernelIdeal.Hand.value_run m g Q K C hQ hK hC,
    (θ_run Cert.ReferenceIdeal.defs _ _).mono (fun r h c => ?_) (Cert.ReferenceIdeal.Value.run (F := Ideal) m' g')⟩
  obtain ⟨a0, a1, a2, a3, a4, a5, a6, a7, a8⟩ := hagree c
  obtain ⟨h0, h1, h2, h3, h4, h5, h6⟩ := h c
  refine ⟨h0.trans (reference_attention m' c (Q c) (K c) _ (C c) (a0.trans (hQ c)) (a1.trans (hK c)) a2 (a3.trans (hC c))),
    h1.trans ?_, h2.trans ?_, h3.trans ?_, h4.trans ?_, h5.trans ?_, h6⟩
  · rw [a4]; rfl
  · rw [a5]; rfl
  · rw [a6]; rfl
  · rw [a7]; rfl
  · rw [a8]; rfl

/-- The projections' five results are the reference's, of any arguments. -/
theorem algebra2 : Cert.algebraic_Kernel2Ideal_Reference2Ideal := by
  intro m g m' g' _ hagree
  refine ⟨_, _, _, _, _, Cert.Kernel2Ideal.Hand.value_run m g,
    (θ_run Cert.Reference2Ideal.defs _ _).mono (fun r h c => ?_) (Cert.Reference2Ideal.Value.run (F := Ideal) m' g')⟩
  obtain ⟨a0, a1, a2, a3⟩ := hagree c
  obtain ⟨h0, h1, h2, h3, h4, h5⟩ := h c
  rw [a0, a1, a2, a3] at h0 h1 h2 h3 h4
  exact ⟨h0.trans (Cert.Reference2Ideal.Value.slice_apply 0 _ _ _ _ _ _), h1.trans (Cert.Reference2Ideal.Value.slice_apply 2048 _ _ _ _ _ _),
    h2.trans (Cert.Reference2Ideal.Value.slice_apply 4096 _ _ _ _ _ _), h3.trans (Cert.Reference2Ideal.Value.slice_apply 6144 _ _ _ _ _ _),
    h4.trans (Cert.Reference2Ideal.Value.slice_apply 6160 _ _ _ _ _ _), h5⟩

/-- The gated unit's result is the reference's, of any arguments. -/
theorem algebra3 : Cert.algebraic_Kernel3Ideal_Reference3Ideal := by
  intro m g m' g' _ hagree
  refine ⟨_, Cert.Kernel3Ideal.Hand.value_run m g,
    (θ_run Cert.Reference3Ideal.defs _ _).mono (fun r h c => ?_) (Cert.Reference3Ideal.Value.run (F := Ideal) m' g')⟩
  obtain ⟨a0, a1, a2, a3⟩ := hagree c
  obtain ⟨h0, h1⟩ := h c
  rw [a0, a1, a2, a3] at h0
  exact ⟨h0.trans (Cert.Reference3Ideal.Value.whole_eq _ _ _ _), h1⟩

/-- The output projection's result is the reference's, of any arguments. -/
theorem algebra4 : Cert.algebraic_Kernel4Ideal_Reference4Ideal := by
  intro m g m' g' _ hagree
  refine ⟨_, Cert.Kernel4Ideal.Hand.value_run m g,
    (θ_run Cert.Reference4Ideal.defs _ _).mono (fun r h c => ?_) (Cert.Reference4Ideal.Value.run (F := Ideal) m' g')⟩
  obtain ⟨a0, a1, a2, a3, a4, a5, a6, a7, -⟩ := hagree c
  obtain ⟨h0, h1⟩ := h c
  rw [Cert.Reference4Ideal.Value.res_eq, a0, a1, a2, a3, a4, a5, a6, a7] at h0
  exact ⟨h0, h1⟩

/-- The output projection's ideal program keeps each half of a word of two bf16 numbers by itself: the words of its buffer and of the
    rows packed into it are those halves. -/
theorem preserves4 : Cert.preserves_Kernel4_Kernel4Ideal :=
  ⟨IdealRules.bf16_pair.bufferStatement _ _, IdealRules.bf16_pair.bufferStatement _ _, IdealRules.bf16_pair.packStatement _,
    IdealRules.bf16_pair.statement _ _⟩

/-- The projections' kernel and its ideal program call the same body at every point. -/
theorem bodies2 : Cert.Kernel2.defs₀ (F := Bits) = Cert.Kernel2Ideal.defs₀ (F := Bits) := by
  refine congrArg (fun f => Defs.onTc f) (funext fun l => funext fun x => ?_)
  match l, x with
  | 0, (t, s) => rfl

theorem defs2 : Cert.Kernel2.defs (F := Bits) = Cert.Kernel2Ideal.defs (F := Bits) :=
  congrArg (fun d => Pipeline.defs Cert.Kernel2.pcfgs d) bodies2

/-- The frame of the projections' kernel, from the run of its ideal program at the machine's floats. -/
theorem frame2 : Cert.quiescent_Kernel2 := by
  intro m g _
  rw [defs2]
  exact Cert.Kernel2Ideal.Hand.frame_run (F := Bits) m g

/-- The gated unit's kernel and its ideal program call the same body at every point. -/
theorem bodies3 : Cert.Kernel3.defs₀ (F := Bits) = Cert.Kernel3Ideal.defs₀ (F := Bits) := by
  refine congrArg (fun f => Defs.onTc f) (funext fun l => funext fun x => ?_)
  match l, x with
  | 0, (t, s) => rfl

theorem defs3 : Cert.Kernel3.defs (F := Bits) = Cert.Kernel3Ideal.defs (F := Bits) :=
  congrArg (fun d => Pipeline.defs Cert.Kernel3.pcfgs d) bodies3

/-- The frame of the gated unit's kernel, from the run of its ideal program at the machine's floats. -/
theorem frame3 : Cert.quiescent_Kernel3 := by
  intro m g _
  rw [defs3]
  exact Cert.Kernel3Ideal.Gen.frame (F := Bits) m g

/-- The claims of the four calls. -/
theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts,
  fun m g _ => Cert.Kernel.Hand.frame_run (F := Bits) m g,
  fun m g _ => Cert.KernelIdeal.Hand.frame_run (F := Ideal) m g,
  fun m g _ => Cert.KernelIdeal.Hand.frame_run (F := Ideal) m g,
  fun m g _ => (θ_run Cert.ReferenceIdeal.defs _ _).mono
    (fun r h => ⟨fun c => (h c).2.2.2.2.2.2, Idealize.ShloMosaic.sem_eq_zero_of_no_sems (by decide) r.2⟩)
    (Cert.ReferenceIdeal.Value.run (F := Ideal) m g),
  fun m g _ => (θ_run Cert.ReferenceIdeal.defs _ _).mono
    (fun r h => ⟨fun c => (h c).2.2.2.2.2.2, Idealize.ShloMosaic.sem_eq_zero_of_no_sems (by decide) r.2⟩)
    (Cert.ReferenceIdeal.Value.run (F := Ideal) m g),
  frame2,
  fun m g _ => Cert.Kernel2Ideal.Hand.frame_run (F := Ideal) m g,
  fun m g _ => (θ_run Cert.Reference2Ideal.defs _ _).mono
    (fun r h => ⟨fun c => (h c).2.2.2.2.2, Idealize.ShloMosaic.sem_eq_zero_of_no_sems (by decide) r.2⟩)
    (Cert.Reference2Ideal.Value.run (F := Ideal) m g),
  frame3,
  fun m g _ => Cert.Kernel3Ideal.Gen.frame (F := Ideal) m g,
  fun m g _ => (θ_run Cert.Reference3Ideal.defs _ _).mono
    (fun r h => ⟨fun c => (h c).2, Idealize.ShloMosaic.sem_eq_zero_of_no_sems (by decide) r.2⟩)
    (Cert.Reference3Ideal.Value.run (F := Ideal) m g),
  fun m g _ => Cert.Kernel4.Hand.frame_run (F := Bits) m g,
  fun m g _ => Cert.Kernel4Ideal.Hand.frame_run (F := Ideal) m g,
  fun m g _ => (θ_run Cert.Reference4Ideal.defs _ _).mono
    (fun r h => ⟨fun c => (h c).2, Idealize.ShloMosaic.sem_eq_zero_of_no_sems (by decide) r.2⟩)
    (Cert.Reference4Ideal.Value.run (F := Ideal) m g),
  IdealRules.named_const.statement Cert.KernelIdeal.κ "mask" .f32 0xF149F2CA#32 ⊥ rfl,
  algebra,
  trivial,
  algebra2,
  trivial,
  algebra3,
  preserves4,
  algebra4⟩

end Cert.Proof

end
